-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_distinct [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "far" .f32 0x7F61B1E6#32 ⊤
  ∧ IdealRules.named_const.Statement Cert.KernelIdeal.κ "near" .f32 0xFF61B1E6#32 ⊥
  ∧ IdealRules.named_const.Statement Cert.KernelIdeal.κ "rsqrt2" .f32 0x3F3504F3#32 (((Real.sqrt 2)⁻¹ : ℝ) : EReal)

def algebraic_KernelIdeal_ReferenceIdeal_pre_distinct [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v354) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_KernelIdeal (hKernelIdeal := hKernelIdeal)
    ∧ quiescent_KernelIdeal_pre_distinct (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal_pre_distinct (hKernelIdeal := hKernelIdeal) (hReferenceIdeal := hReferenceIdeal) (hPre_distinct := hPre_distinct)
-- ==== Pre_distinct.lean ====
abbrev S4x2048x3 : Shape := ⟨3, ![4, 2048, 3]⟩
abbrev S4x2048x64 : Shape := ⟨3, ![4, 2048, 64]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048x17 : Shape := ⟨3, ![4, 2048, 17]⟩
abbrev S4x2048x16 : Shape := ⟨3, ![4, 2048, 16]⟩

class Facts : Prop where
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  sliceFits_S4x2048x2048_S4x2048x17 : S4x2048x2048.Slices (fun _ => 0) S4x2048x17
  slices_S4x2048x17_S4x2048x16_0_0_1 : S4x2048x17.Slices ![0, 0, 1] S4x2048x16
  slices_S4x2048x17_S4x2048x16_0_0_0 : S4x2048x17.Slices ![0, 0, 0] S4x2048x16
  dot_S4x2048x3_S4x2048x3_S4x2048x2048_2_2_1_1_0_0_wf : DotDims.WF S4x2048x3 S4x2048x3 S4x2048x2048 [2] [2] [1] [1] [0] [0]

variable [Facts]

def dot_S4x2048x3_S4x2048x3_S4x2048x2048_2_2_1_1_0_0 : DotDims S4x2048x3 S4x2048x3 S4x2048x2048 where
  lhsContracting := [2]
  rhsContracting := [2]
  lhsNonContracting := [1]
  rhsNonContracting := [1]
  lhsBatch := [0]
  rhsBatch := [0]
  wf := dot_S4x2048x3_S4x2048x3_S4x2048x2048_2_2_1_1_0_0_wf
def fn_part1 {F : FTy → Type} [FloatOps F] (main_v13 : FVec F S4x2048x2048 .f32) (main_v19 : IVec S1x2048x2048 1) : IVec S4x2048x16 1 :=
  let main_v20 : IVec S4x2048x2048 1 := broadcastInDim S4x2048x2048 ![0, 1, 2] bcast_S1x2048x2048_S4x2048x2048_0_1_2 main_v19
  let main_cst_2 : FVec F S_ .f32 := constant S_ .f32 0x7F800000#32
  let main_v21 : FVec F S4x2048x2048 .f32 := broadcastInDim S4x2048x2048 ![] bcast_S_S4x2048x2048 main_cst_2
  let main_v22 : FVec F S4x2048x2048 .f32 := select main_v20 main_v21 main_v13
  let main_v23 : FVec F S4x2048x2048 .f32 := Host.negf main_v22
  let main_values : FVec F S4x2048x17 .f32 := (fun x => (Host.topK S4x2048x17 2 (FloatOps.cmpfTotal .gt) x sliceFits_S4x2048x2048_S4x2048x17).1) main_v23
  let main_indices : IVec S4x2048x17 32 := (fun x => (Host.topK S4x2048x17 2 (FloatOps.cmpfTotal .gt) x sliceFits_S4x2048x2048_S4x2048x17).2) main_v23
  let main_v24 : FVec F S4x2048x16 .f32 := (extractStridedSlice S4x2048x16 ![0, 0, 1] · slices_S4x2048x17_S4x2048x16_0_0_1) main_values
  let main_v25 : FVec F S4x2048x16 .f32 := (extractStridedSlice S4x2048x16 ![0, 0, 0] · slices_S4x2048x17_S4x2048x16_0_0_0) main_values
  let main_v26 : IVec S4x2048x16 1 := cmpf .olt main_v24 main_v25
  main_v26

def fn {F : FTy → Type} [FloatOps F] (main_arg0 : FVec F S4x2048x3 .f32) (main_arg1 : FVec F S4x2048x64 .f32) (main_arg2 : FVec F S6x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S64x1 .f32) (main_arg15 : FVec F S1 .f32) : IVec S4x2048x16 1 :=
  let main_v0 : FVec F S4x2048x3 .f32 := mulf main_arg0 main_arg0
  let main_cst : FVec F S_ .f32 := constant S_ .f32 0x00000000#32
  let main_v1 : FVec F S4x2048 .f32 := (fun x v => Host.reduceAdd x v reducesTo_S4x2048x3_S4x2048_d2 h_S_) main_v0 main_cst
  let main_v2 : FVec F S4x2048x1 .f32 := broadcastInDim S4x2048x1 ![0, 1] bcast_S4x2048_S4x2048x1_0_1 main_v1
  let main_v3 : FVec F S4x1x2048 .f32 := broadcastInDim S4x1x2048 ![0, 2] bcast_S4x2048_S4x1x2048_0_2 main_v1
  let main_v4 : FVec F S4x2048x2048 .f32 := broadcastInDim S4x2048x2048 ![0, 1, 2] bcast_S4x2048x1_S4x2048x2048_0_1_2 main_v2
  let main_v5 : FVec F S4x2048x2048 .f32 := broadcastInDim S4x2048x2048 ![0, 1, 2] bcast_S4x1x2048_S4x2048x2048_0_1_2 main_v3
  let main_v6 : FVec F S4x2048x2048 .f32 := addf main_v4 main_v5
  let main_v7 : FVec F S4x2048x2048 .f32 := (fun l r => Host.dotGeneral dot_S4x2048x3_S4x2048x3_S4x2048x2048_2_2_1_1_0_0 none l r) main_arg0 main_arg0
  let main_cst_0 : FVec F S_ .f32 := constant S_ .f32 0x40000000#32
  let main_v8 : FVec F S4x2048x2048 .f32 := broadcastInDim S4x2048x2048 ![] bcast_S_S4x2048x2048 main_cst_0
  let main_v9 : FVec F S4x2048x2048 .f32 := mulf main_v8 main_v7
  let main_v10 : FVec F S4x2048x2048 .f32 := subf main_v6 main_v9
  let main_cst_1 : FVec F S_ .f32 := constant S_ .f32 0x00000000#32
  let main_v11 : FVec F S4x2048x2048 .f32 := broadcastInDim S4x2048x2048 ![] bcast_S_S4x2048x2048 main_cst_1
  let main_v12 : FVec F S4x2048x2048 .f32 := maximumf main_v10 main_v11
  let main_v13 : FVec F S4x2048x2048 .f32 := Host.sqrt main_v12
  let main_v14 : IVec S2048x2048 32 := iotaInDim S2048x2048 32 0
  let main_v15 : IVec S2048x2048 32 := iotaInDim S2048x2048 32 1
  let main_c : IVec S_ 32 := constantI S_ 32 0#32
  let main_v16 : IVec S2048x2048 32 := broadcastInDim S2048x2048 ![] bcast_S_S2048x2048 main_c
  let main_v17 : IVec S2048x2048 32 := addi main_v14 main_v16
  let main_v18 : IVec S2048x2048 1 := cmpi .eq main_v17 main_v15
  let main_v19 : IVec S1x2048x2048 1 := broadcastInDim S1x2048x2048 ![1, 2] bcast_S2048x2048_S1x2048x2048_1_2 main_v18
  fn_part1 (F := F) main_v13 main_v19
-- ==== Kernel.lean ====
abbrev S4x2048x3 : Shape := ⟨3, ![4, 2048, 3]⟩
abbrev S4x2048x64 : Shape := ⟨3, ![4, 2048, 64]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S4x3x2048 : Shape := ⟨3, ![4, 3, 2048]⟩
abbrev S4x64x2048 : Shape := ⟨3, ![4, 64, 2048]⟩
abbrev S1024x1024 : Shape := ⟨2, ![1024, 1024]⟩
abbrev S_ : Shape := ⟨0, ![]⟩
abbrev S1x1 : Shape := ⟨2, ![1, 1]⟩
abbrev S4x16x2048 : Shape := ⟨3, ![4, 16, 2048]⟩
abbrev S1x1024x3 : Shape := ⟨3, ![1, 1024, 3]⟩
abbrev S1x3x2048 : Shape := ⟨3, ![1, 3, 2048]⟩
abbrev S1x64x1024 : Shape := ⟨3, ![1, 64, 1024]⟩
abbrev S1x16x1024 : Shape := ⟨3, ![1, 16, 1024]⟩
abbrev S3x2048 : Shape := ⟨2, ![3, 2048]⟩
abbrev S1024x3 : Shape := ⟨2, ![1024, 3]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩
abbrev S1024x8 : Shape := ⟨2, ![1024, 8]⟩
abbrev S8x1024 : Shape := ⟨2, ![8, 1024]⟩
abbrev S1x1024 : Shape := ⟨2, ![1, 1024]⟩
abbrev S1x3x1024 : Shape := ⟨3, ![1, 3, 1024]⟩
abbrev S3x1024 : Shape := ⟨2, ![3, 1024]⟩
abbrev S6x1024 : Shape := ⟨2, ![6, 1024]⟩
abbrev S64x1024 : Shape := ⟨2, ![64, 1024]⟩
abbrev S128x1024 : Shape := ⟨2, ![128, 1024]⟩
abbrev S16x1024 : Shape := ⟨2, ![16, 1024]⟩
abbrev S4x2048x16 : Shape := ⟨3, ![4, 2048, 16]⟩

abbrev nBuf : Space → Nat
  | .hbm => 34
  | .vmem => 23
  | .smem => 0
  | _ => 0

abbrev bufTy : (tb : Table) → Fin (tcTables nBuf tb) → BufTy
  | .hbm, ⟨0, _⟩ => ⟨S4x2048x3, .f32⟩
  | .hbm, ⟨1, _⟩ => ⟨S4x2048x64, .f32⟩
  | .hbm, ⟨2, _⟩ => ⟨S6x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S4x3x2048, .f32⟩
  | .hbm, ⟨17, _⟩ => ⟨S4x64x2048, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1024x1024, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S64x1, .f32⟩
  | .hbm, ⟨29, _⟩ => ⟨S64x1, .f32⟩
  | .hbm, ⟨30, _⟩ => ⟨S64x1, .f32⟩
  | .hbm, ⟨31, _⟩ => ⟨S1x1, .f32⟩
  | .hbm, ⟨32, _⟩ => ⟨S4x16x2048, .f32⟩
  | .hbm, ⟨33, _⟩ => ⟨S4x2048x16, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x64x1024, .f32⟩
  | .local _ .vmem, ⟨5, _⟩ => ⟨S1x64x1024, .f32⟩
  | .local _ .vmem, ⟨6, _⟩ => ⟨S1024x1024, .f32⟩
  | .local _ .vmem, ⟨7, _⟩ => ⟨S6x64, .f32⟩
  | .local _ .vmem, ⟨8, _⟩ => ⟨S64x1, .f32⟩
  | .local _ .vmem, ⟨9, _⟩ => ⟨S64x64, .f32⟩
  | .local _ .vmem, ⟨10, _⟩ => ⟨S64x1, .f32⟩
  | .local _ .vmem, ⟨11, _⟩ => ⟨S64x64, .f32⟩
  | .local _ .vmem, ⟨12, _⟩ => ⟨S64x1, .f32⟩
  | .local _ .vmem, ⟨13, _⟩ => ⟨S64x64, .f32⟩
  | .local _ .vmem, ⟨14, _⟩ => ⟨S64x1, .f32⟩
  | .local _ .vmem, ⟨15, _⟩ => ⟨S128x64, .f32⟩
  | .local _ .vmem, ⟨16, _⟩ => ⟨S64x1, .f32⟩
  | .local _ .vmem, ⟨17, _⟩ => ⟨S64x64, .f32⟩
  | .local _ .vmem, ⟨18, _⟩ => ⟨S64x1, .f32⟩
  | .local _ .vmem, ⟨19, _⟩ => ⟨S64x1, .f32⟩
  | .local _ .vmem, ⟨20, _⟩ => ⟨S1x1, .f32⟩
  | .local _ .vmem, ⟨21, _⟩ => ⟨S1x16x1024, .f32⟩
  | .local _ .vmem, ⟨22, _⟩ => ⟨S1x16x1024, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c16_i32 : BitVec 32 := 16#32
  let v36 : BitVec 32 := Scalar.addi c0_i32 c16_i32
  let c1_i32 : BitVec 32 := 1#32
  ⟨c0_i32, v36, c1_i32⟩
def k0_off1 (i : grid0.Coords) : Fin 3 → Nat :=
  let c0_29 : Index := 0#32
  let c0_30 : Index := 0#32
  let arg1 : BitVec 32 := BitVec.ofNat 32 (i 1).val
  let c1024_i32_28 : BitVec 32 := 1024#32
  let v108 : BitVec 32 := Scalar.muli arg1 c1024_i32_28
  let v109 : Index := Scalar.indexCast v108
  ![0, 0, v109.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S64x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x16x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "far" => some ⊤
  | "near" => some ⊥
  | "rsqrt2" => some (((Real.sqrt 2)⁻¹ : ℝ) : EReal)
  | _ => none
-- ==== ReferenceIdeal.lean ====
abbrev S4x2048x3 : Shape := ⟨3, ![4, 2048, 3]⟩
abbrev S4x2048x64 : Shape := ⟨3, ![4, 2048, 64]⟩
abbrev S6x64 : Shape := ⟨2, ![6, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1 : Shape := ⟨1, ![1]⟩
abbrev S3x3 : Shape := ⟨2, ![3, 3]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048x16 : Shape := ⟨3, ![4, 2048, 16]⟩
abbrev S4x2048x16x1 : Shape := ⟨4, ![4, 2048, 16, 1]⟩
abbrev S4x2048x16x3 : Shape := ⟨4, ![4, 2048, 16, 3]⟩
abbrev S4x2048x1x3 : Shape := ⟨4, ![4, 2048, 1, 3]⟩
abbrev S4x2048x3x3 : Shape := ⟨4, ![4, 2048, 3, 3]⟩
abbrev S4x2048x1x1 : Shape := ⟨4, ![4, 2048, 1, 1]⟩
abbrev S4x2048x3x1 : Shape := ⟨4, ![4, 2048, 3, 1]⟩
abbrev S4x3 : Shape := ⟨2, ![4, 3]⟩
abbrev S4x1x3 : Shape := ⟨3, ![4, 1, 3]⟩
abbrev S4x2048x6 : Shape := ⟨3, ![4, 2048, 6]⟩
abbrev S1x1x64 : Shape := ⟨3, ![1, 1, 64]⟩
abbrev S4x2048x128 : Shape := ⟨3, ![4, 2048, 128]⟩
abbrev S1x1x1 : Shape := ⟨3, ![1, 1, 1]⟩
abbrev S4x2048x4 : Shape := ⟨3, ![4, 2048, 4]⟩

abbrev nBuf : Space → Nat
  | .hbm => 1292
  | .vmem => 0
  | .smem => 0
  | _ => 0

abbrev hbmTy0_0 (i : Nat) : BufTy := match i % 128 with
  | 0 => ⟨S4x2048x3, .f32⟩
  | 1 => ⟨S4x2048x64, .f32⟩
  | 2 => ⟨S6x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S64x1, .f32⟩
  | 15 => ⟨S1, .f32⟩
  | 16 => ⟨S3x3, .i1⟩
  | 17 => ⟨S3x3, .f32⟩
  | 18 => ⟨S3x3, .i1⟩
  | 19 => ⟨S3x3, .i1⟩
  | 20 => ⟨S3x3, .i1⟩
  | 21 => ⟨S3x3, .i1⟩
  | 22 => ⟨S3x3, .f32⟩
  | 23 => ⟨S3x3, .i1⟩
  | 24 => ⟨S3x3, .i1⟩
  | 25 => ⟨S3x3, .i1⟩
  | 26 => ⟨S3x3, .i1⟩
  | 27 => ⟨S3x3, .f32⟩
  | 28 => ⟨S3x3, .i1⟩
  | 29 => ⟨S3x3, .i1⟩
  | 30 => ⟨S3x3, .i1⟩
  | 31 => ⟨S3x3, .i1⟩
  | 32 => ⟨S3x3, .f32⟩
  | 33 => ⟨S3x3, .i1⟩
  | 34 => ⟨S3x3, .i1⟩
  | 35 => ⟨S3x3, .i1⟩
  | 36 => ⟨S3x3, .i1⟩
  | 37 => ⟨S3x3, .f32⟩
  | 38 => ⟨S3x3, .i1⟩
  | 39 => ⟨S3x3, .i1⟩
  | 40 => ⟨S3x3, .i1⟩
  | 41 => ⟨S3x3, .i1⟩
  | 42 => ⟨S3x3, .f32⟩
  | 43 => ⟨S3x3, .i1⟩
  | 44 => ⟨S3x3, .i1⟩
  | 45 => ⟨S3x3, .i1⟩
  | 46 => ⟨S3x3, .i1⟩
  | 47 => ⟨S3x3, .f32⟩
  | 48 => ⟨S3x3, .i1⟩
  | 49 => ⟨S3x3, .i1⟩
  | 50 => ⟨S3x3, .i1⟩
  | 51 => ⟨S3x3, .i1⟩
  | 52 => ⟨S3x3, .f32⟩
  | 53 => ⟨S3x3, .i1⟩
  | 54 => ⟨S3x3, .i1⟩
  | 55 => ⟨S3x3, .i1⟩
  | 56 => ⟨S3x3, .i1⟩
  | 57 => ⟨S3x3, .f32⟩
  | 58 => ⟨S3x3, .i1⟩
  | 59 => ⟨S3x3, .i1⟩
  | 60 => ⟨S3x3, .i1⟩
  | 61 => ⟨S3x3, .i1⟩
  | 62 => ⟨S3x3, .f32⟩
  | 63 => ⟨S3x3, .i1⟩
  | 64 => ⟨S3x3, .i1⟩
  | 65 => ⟨S3x3, .i1⟩
  | 66 => ⟨S3x3, .i1⟩
  | 67 => ⟨S3x3, .f32⟩
  | 68 => ⟨S3x3, .i1⟩
  | 69 => ⟨S3x3, .i1⟩
  | 70 => ⟨S3x3, .i1⟩
  | 71 => ⟨S3x3, .i1⟩
  | 72 => ⟨S3x3, .f32⟩
  | 73 => ⟨S3x3, .i1⟩
  | 74 => ⟨S3x3, .i1⟩
  | 75 => ⟨S3x3, .i1⟩
  | 76 => ⟨S3x3, .i1⟩
  | 77 => ⟨S3x3, .f32⟩
  | 78 => ⟨S3x3, .i1⟩
  | 79 => ⟨S3x3, .i1⟩
  | 80 => ⟨S3x3, .i1⟩
  | 81 => ⟨S3x3, .i1⟩
  | 82 => ⟨S3x3, .f32⟩
  | 83 => ⟨S3x3, .i1⟩
  | 84 => ⟨S3x3, .i1⟩
  | 85 => ⟨S3x3, .i1⟩
  | 86 => ⟨S3x3, .i1⟩
  | 87 => ⟨S3x3, .f32⟩
  | 88 => ⟨S3x3, .i1⟩
  | 89 => ⟨S3x3, .i1⟩
  | 90 => ⟨S3x3, .i1⟩
  | 91 => ⟨S4x2048x3, .f32⟩
  | 92 => ⟨S_, .f32⟩
  | 93 => ⟨S4x2048, .f32⟩
  | 94 => ⟨S4x2048x1, .f32⟩
  | 95 => ⟨S4x1x2048, .f32⟩
  | 96 => ⟨S4x2048x2048, .f32⟩
  | 97 => ⟨S4x2048x2048, .f32⟩
  | 98 => ⟨S4x2048x2048, .f32⟩
  | 99 => ⟨S4x2048x2048, .f32⟩
  | 100 => ⟨S_, .f32⟩
  | 101 => ⟨S4x2048x2048, .f32⟩
  | 102 => ⟨S4x2048x2048, .f32⟩
  | 103 => ⟨S4x2048x2048, .f32⟩
  | 104 => ⟨S_, .f32⟩
  | 105 => ⟨S4x2048x2048, .f32⟩
  | 106 => ⟨S4x2048x2048, .f32⟩
  | 107 => ⟨S4x2048x2048, .f32⟩
  | 108 => ⟨S2048x2048, .i32⟩
  | 109 => ⟨S2048x2048, .i32⟩
  | 110 => ⟨S_, .i32⟩
  | 111 => ⟨S2048x2048, .i32⟩
  | 112 => ⟨S2048x2048, .i32⟩
  | 113 => ⟨S2048x2048, .i1⟩
  | 114 => ⟨S1x2048x2048, .i1⟩
  | 115 => ⟨S4x2048x2048, .i1⟩
  | 116 => ⟨S_, .f32⟩
  | 117 => ⟨S4x2048x2048, .f32⟩
  | 118 => ⟨S4x2048x2048, .f32⟩
  | 119 => ⟨S4x2048x2048, .f32⟩
  | 120 => ⟨S4x2048x16, .f32⟩
  | 121 => ⟨S4x2048x16, .i32⟩
  | 122 => ⟨S_, .i32⟩
  | 123 => ⟨S4x2048x16, .i32⟩
  | 124 => ⟨S4x2048x16, .i1⟩
  | 125 => ⟨S_, .i32⟩
  | 126 => ⟨S4x2048x16, .i32⟩
  | 127 => ⟨S4x2048x16, .i32⟩
  | _ => ⟨S4x2048x3, .f32⟩

abbrev hbmTy0_1 (i : Nat) : BufTy := match i % 128 with
  | 0 => ⟨S4x2048x16, .i32⟩
  | 1 => ⟨S4x2048x16x1, .i32⟩
  | 2 => ⟨S4x2048x16x3, .f32⟩
  | 3 => ⟨S4x2048x1x3, .f32⟩
  | 4 => ⟨S4x2048x16x3, .f32⟩
  | 5 => ⟨S4x2048x16x3, .f32⟩
  | 6 => ⟨S4x2048x3x3, .f32⟩
  | 7 => ⟨S_, .f32⟩
  | 8 => ⟨S4x2048x3x3, .f32⟩
  | 9 => ⟨S4x2048x3x3, .f32⟩
  | 10 => ⟨S4x2048x16x3, .f32⟩
  | 11 => ⟨S_, .f32⟩
  | 12 => ⟨S4x2048x16, .f32⟩
  | 13 => ⟨S4x2048x16, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S3x3, .i32⟩
  | 21 => ⟨S3x3, .i32⟩
  | 22 => ⟨S_, .i32⟩
  | 23 => ⟨S3x3, .i32⟩
  | 24 => ⟨S3x3, .i32⟩
  | 25 => ⟨S3x3, .i1⟩
  | 26 => ⟨S3x3, .f32⟩
  | 27 => ⟨S4x2048x3x3, .f32⟩
  | 28 => ⟨S4x2048x1x1, .f32⟩
  | 29 => ⟨S4x2048x1x1, .f32⟩
  | 30 => ⟨S4x2048x1x1, .f32⟩
  | 31 => ⟨S4x2048x1x1, .f32⟩
  | 32 => ⟨S_, .f32⟩
  | 33 => ⟨S4x2048x1x1, .f32⟩
  | 34 => ⟨S4x2048x1x1, .i1⟩
  | 35 => ⟨S4x2048x1x1, .f32⟩
  | 36 => ⟨S_, .f32⟩
  | 37 => ⟨S_, .f32⟩
  | 38 => ⟨S4x2048x1x1, .f32⟩
  | 39 => ⟨S4x2048x1x1, .f32⟩
  | 40 => ⟨S_, .f32⟩
  | 41 => ⟨S4x2048x1x1, .f32⟩
  | 42 => ⟨S4x2048x1x1, .f32⟩
  | 43 => ⟨S4x2048x1x1, .f32⟩
  | 44 => ⟨S_, .f32⟩
  | 45 => ⟨S4x2048x1x1, .f32⟩
  | 46 => ⟨S4x2048x1x1, .i1⟩
  | 47 => ⟨S_, .f32⟩
  | 48 => ⟨S_, .f32⟩
  | 49 => ⟨S4x2048x1x1, .f32⟩
  | 50 => ⟨S4x2048x1x1, .f32⟩
  | 51 => ⟨S4x2048x1x1, .f32⟩
  | 52 => ⟨S4x2048x1x1, .f32⟩
  | 53 => ⟨S4x2048x1x1, .f32⟩
  | 54 => ⟨S_, .f32⟩
  | 55 => ⟨S4x2048x1x1, .f32⟩
  | 56 => ⟨S4x2048x1x1, .f32⟩
  | 57 => ⟨S4x2048x1x1, .f32⟩
  | 58 => ⟨S4x2048x1x1, .f32⟩
  | 59 => ⟨S4x2048x1x1, .f32⟩
  | 60 => ⟨S4x2048x1x1, .f32⟩
  | 61 => ⟨S_, .f32⟩
  | 62 => ⟨S_, .f32⟩
  | 63 => ⟨S4x2048x1x1, .f32⟩
  | 64 => ⟨S4x2048x1x1, .f32⟩
  | 65 => ⟨S4x2048x1x1, .f32⟩
  | 66 => ⟨S_, .f32⟩
  | 67 => ⟨S4x2048x1x1, .f32⟩
  | 68 => ⟨S4x2048x1x1, .f32⟩
  | 69 => ⟨S4x2048x1x1, .f32⟩
  | 70 => ⟨S_, .f32⟩
  | 71 => ⟨S4x2048x1x1, .f32⟩
  | 72 => ⟨S4x2048x1x1, .f32⟩
  | 73 => ⟨S4x2048x1x1, .f32⟩
  | 74 => ⟨S4x2048x1x1, .f32⟩
  | 75 => ⟨S4x2048x3x3, .i1⟩
  | 76 => ⟨S4x2048x3x3, .f32⟩
  | 77 => ⟨S4x2048x3x3, .f32⟩
  | 78 => ⟨S4x2048x3x3, .f32⟩
  | 79 => ⟨S4x2048x3x3, .i1⟩
  | 80 => ⟨S4x2048x3x3, .f32⟩
  | 81 => ⟨S4x2048x3x3, .f32⟩
  | 82 => ⟨S4x2048x3x3, .i1⟩
  | 83 => ⟨S4x2048x3x3, .f32⟩
  | 84 => ⟨S4x2048x3x3, .f32⟩
  | 85 => ⟨S4x2048x3x3, .f32⟩
  | 86 => ⟨S4x2048x3x3, .f32⟩
  | 87 => ⟨S_, .f32⟩
  | 88 => ⟨S_, .f32⟩
  | 89 => ⟨S4x2048x3x3, .i1⟩
  | 90 => ⟨S4x2048x3x3, .f32⟩
  | 91 => ⟨S4x2048x3x3, .f32⟩
  | 92 => ⟨S4x2048x3x3, .f32⟩
  | 93 => ⟨S4x2048x1x1, .f32⟩
  | 94 => ⟨S4x2048x1x1, .f32⟩
  | 95 => ⟨S4x2048x1x1, .f32⟩
  | 96 => ⟨S4x2048x1x1, .f32⟩
  | 97 => ⟨S_, .f32⟩
  | 98 => ⟨S4x2048x1x1, .f32⟩
  | 99 => ⟨S4x2048x1x1, .i1⟩
  | 100 => ⟨S4x2048x1x1, .f32⟩
  | 101 => ⟨S_, .f32⟩
  | 102 => ⟨S_, .f32⟩
  | 103 => ⟨S4x2048x1x1, .f32⟩
  | 104 => ⟨S4x2048x1x1, .f32⟩
  | 105 => ⟨S_, .f32⟩
  | 106 => ⟨S4x2048x1x1, .f32⟩
  | 107 => ⟨S4x2048x1x1, .f32⟩
  | 108 => ⟨S4x2048x1x1, .f32⟩
  | 109 => ⟨S_, .f32⟩
  | 110 => ⟨S4x2048x1x1, .f32⟩
  | 111 => ⟨S4x2048x1x1, .i1⟩
  | 112 => ⟨S_, .f32⟩
  | 113 => ⟨S_, .f32⟩
  | 114 => ⟨S4x2048x1x1, .f32⟩
  | 115 => ⟨S4x2048x1x1, .f32⟩
  | 116 => ⟨S4x2048x1x1, .f32⟩
  | 117 => ⟨S4x2048x1x1, .f32⟩
  | 118 => ⟨S4x2048x1x1, .f32⟩
  | 119 => ⟨S_, .f32⟩
  | 120 => ⟨S4x2048x1x1, .f32⟩
  | 121 => ⟨S4x2048x1x1, .f32⟩
  | 122 => ⟨S4x2048x1x1, .f32⟩
  | 123 => ⟨S4x2048x1x1, .f32⟩
  | 124 => ⟨S4x2048x1x1, .f32⟩
  | 125 => ⟨S4x2048x1x1, .f32⟩
  | 126 => ⟨S_, .f32⟩
  | 127 => ⟨S_, .f32⟩
  | _ => ⟨S4x2048x3, .f32⟩

abbrev hbmTy0_2 (i : Nat) : BufTy := match i % 128 with
  | 0 => ⟨S4x2048x1x1, .f32⟩
  | 1 => ⟨S4x2048x1x1, .f32⟩
  | 2 => ⟨S4x2048x1x1, .f32⟩
  | 3 => ⟨S_, .f32⟩
  | 4 => ⟨S4x2048x1x1, .f32⟩
  | 5 => ⟨S4x2048x1x1, .f32⟩
  | 6 => ⟨S4x2048x1x1, .f32⟩
  | 7 => ⟨S_, .f32⟩
  | 8 => ⟨S4x2048x1x1, .f32⟩
  | 9 => ⟨S4x2048x1x1, .f32⟩
  | 10 => ⟨S4x2048x1x1, .f32⟩
  | 11 => ⟨S4x2048x1x1, .f32⟩
  | 12 => ⟨S4x2048x3x3, .i1⟩
  | 13 => ⟨S4x2048x3x3, .f32⟩
  | 14 => ⟨S4x2048x3x3, .f32⟩
  | 15 => ⟨S4x2048x3x3, .f32⟩
  | 16 => ⟨S4x2048x3x3, .i1⟩
  | 17 => ⟨S4x2048x3x3, .f32⟩
  | 18 => ⟨S4x2048x3x3, .f32⟩
  | 19 => ⟨S4x2048x3x3, .i1⟩
  | 20 => ⟨S4x2048x3x3, .f32⟩
  | 21 => ⟨S4x2048x3x3, .f32⟩
  | 22 => ⟨S4x2048x3x3, .f32⟩
  | 23 => ⟨S4x2048x3x3, .f32⟩
  | 24 => ⟨S_, .f32⟩
  | 25 => ⟨S_, .f32⟩
  | 26 => ⟨S4x2048x3x3, .i1⟩
  | 27 => ⟨S4x2048x3x3, .f32⟩
  | 28 => ⟨S4x2048x3x3, .f32⟩
  | 29 => ⟨S4x2048x3x3, .f32⟩
  | 30 => ⟨S4x2048x1x1, .f32⟩
  | 31 => ⟨S4x2048x1x1, .f32⟩
  | 32 => ⟨S4x2048x1x1, .f32⟩
  | 33 => ⟨S4x2048x1x1, .f32⟩
  | 34 => ⟨S_, .f32⟩
  | 35 => ⟨S4x2048x1x1, .f32⟩
  | 36 => ⟨S4x2048x1x1, .i1⟩
  | 37 => ⟨S4x2048x1x1, .f32⟩
  | 38 => ⟨S_, .f32⟩
  | 39 => ⟨S_, .f32⟩
  | 40 => ⟨S4x2048x1x1, .f32⟩
  | 41 => ⟨S4x2048x1x1, .f32⟩
  | 42 => ⟨S_, .f32⟩
  | 43 => ⟨S4x2048x1x1, .f32⟩
  | 44 => ⟨S4x2048x1x1, .f32⟩
  | 45 => ⟨S4x2048x1x1, .f32⟩
  | 46 => ⟨S_, .f32⟩
  | 47 => ⟨S4x2048x1x1, .f32⟩
  | 48 => ⟨S4x2048x1x1, .i1⟩
  | 49 => ⟨S_, .f32⟩
  | 50 => ⟨S_, .f32⟩
  | 51 => ⟨S4x2048x1x1, .f32⟩
  | 52 => ⟨S4x2048x1x1, .f32⟩
  | 53 => ⟨S4x2048x1x1, .f32⟩
  | 54 => ⟨S4x2048x1x1, .f32⟩
  | 55 => ⟨S4x2048x1x1, .f32⟩
  | 56 => ⟨S_, .f32⟩
  | 57 => ⟨S4x2048x1x1, .f32⟩
  | 58 => ⟨S4x2048x1x1, .f32⟩
  | 59 => ⟨S4x2048x1x1, .f32⟩
  | 60 => ⟨S4x2048x1x1, .f32⟩
  | 61 => ⟨S4x2048x1x1, .f32⟩
  | 62 => ⟨S4x2048x1x1, .f32⟩
  | 63 => ⟨S_, .f32⟩
  | 64 => ⟨S_, .f32⟩
  | 65 => ⟨S4x2048x1x1, .f32⟩
  | 66 => ⟨S4x2048x1x1, .f32⟩
  | 67 => ⟨S4x2048x1x1, .f32⟩
  | 68 => ⟨S_, .f32⟩
  | 69 => ⟨S4x2048x1x1, .f32⟩
  | 70 => ⟨S4x2048x1x1, .f32⟩
  | 71 => ⟨S4x2048x1x1, .f32⟩
  | 72 => ⟨S_, .f32⟩
  | 73 => ⟨S4x2048x1x1, .f32⟩
  | 74 => ⟨S4x2048x1x1, .f32⟩
  | 75 => ⟨S4x2048x1x1, .f32⟩
  | 76 => ⟨S4x2048x1x1, .f32⟩
  | 77 => ⟨S4x2048x3x3, .i1⟩
  | 78 => ⟨S4x2048x3x3, .f32⟩
  | 79 => ⟨S4x2048x3x3, .f32⟩
  | 80 => ⟨S4x2048x3x3, .f32⟩
  | 81 => ⟨S4x2048x3x3, .i1⟩
  | 82 => ⟨S4x2048x3x3, .f32⟩
  | 83 => ⟨S4x2048x3x3, .f32⟩
  | 84 => ⟨S4x2048x3x3, .i1⟩
  | 85 => ⟨S4x2048x3x3, .f32⟩
  | 86 => ⟨S4x2048x3x3, .f32⟩
  | 87 => ⟨S4x2048x3x3, .f32⟩
  | 88 => ⟨S4x2048x3x3, .f32⟩
  | 89 => ⟨S_, .f32⟩
  | 90 => ⟨S_, .f32⟩
  | 91 => ⟨S4x2048x3x3, .i1⟩
  | 92 => ⟨S4x2048x3x3, .f32⟩
  | 93 => ⟨S4x2048x3x3, .f32⟩
  | 94 => ⟨S4x2048x3x3, .f32⟩
  | 95 => ⟨S4x2048x1x1, .f32⟩
  | 96 => ⟨S4x2048x1x1, .f32⟩
  | 97 => ⟨S4x2048x1x1, .f32⟩
  | 98 => ⟨S4x2048x1x1, .f32⟩
  | 99 => ⟨S_, .f32⟩
  | 100 => ⟨S4x2048x1x1, .f32⟩
  | 101 => ⟨S4x2048x1x1, .i1⟩
  | 102 => ⟨S4x2048x1x1, .f32⟩
  | 103 => ⟨S_, .f32⟩
  | 104 => ⟨S_, .f32⟩
  | 105 => ⟨S4x2048x1x1, .f32⟩
  | 106 => ⟨S4x2048x1x1, .f32⟩
  | 107 => ⟨S_, .f32⟩
  | 108 => ⟨S4x2048x1x1, .f32⟩
  | 109 => ⟨S4x2048x1x1, .f32⟩
  | 110 => ⟨S4x2048x1x1, .f32⟩
  | 111 => ⟨S_, .f32⟩
  | 112 => ⟨S4x2048x1x1, .f32⟩
  | 113 => ⟨S4x2048x1x1, .i1⟩
  | 114 => ⟨S_, .f32⟩
  | 115 => ⟨S_, .f32⟩
  | 116 => ⟨S4x2048x1x1, .f32⟩
  | 117 => ⟨S4x2048x1x1, .f32⟩
  | 118 => ⟨S4x2048x1x1, .f32⟩
  | 119 => ⟨S4x2048x1x1, .f32⟩
  | 120 => ⟨S4x2048x1x1, .f32⟩
  | 121 => ⟨S_, .f32⟩
  | 122 => ⟨S4x2048x1x1, .f32⟩
  | 123 => ⟨S4x2048x1x1, .f32⟩
  | 124 => ⟨S4x2048x1x1, .f32⟩
  | 125 => ⟨S4x2048x1x1, .f32⟩
  | 126 => ⟨S4x2048x1x1, .f32⟩
  | 127 => ⟨S4x2048x1x1, .f32⟩
  | _ => ⟨S4x2048x3, .f32⟩

abbrev hbmTy0_3 (i : Nat) : BufTy := match i % 128 with
  | 0 => ⟨S_, .f32⟩
  | 1 => ⟨S_, .f32⟩
  | 2 => ⟨S4x2048x1x1, .f32⟩
  | 3 => ⟨S4x2048x1x1, .f32⟩
  | 4 => ⟨S4x2048x1x1, .f32⟩
  | 5 => ⟨S_, .f32⟩
  | 6 => ⟨S4x2048x1x1, .f32⟩
  | 7 => ⟨S4x2048x1x1, .f32⟩
  | 8 => ⟨S4x2048x1x1, .f32⟩
  | 9 => ⟨S_, .f32⟩
  | 10 => ⟨S4x2048x1x1, .f32⟩
  | 11 => ⟨S4x2048x1x1, .f32⟩
  | 12 => ⟨S4x2048x1x1, .f32⟩
  | 13 => ⟨S4x2048x1x1, .f32⟩
  | 14 => ⟨S4x2048x3x3, .i1⟩
  | 15 => ⟨S4x2048x3x3, .f32⟩
  | 16 => ⟨S4x2048x3x3, .f32⟩
  | 17 => ⟨S4x2048x3x3, .f32⟩
  | 18 => ⟨S4x2048x3x3, .i1⟩
  | 19 => ⟨S4x2048x3x3, .f32⟩
  | 20 => ⟨S4x2048x3x3, .f32⟩
  | 21 => ⟨S4x2048x3x3, .i1⟩
  | 22 => ⟨S4x2048x3x3, .f32⟩
  | 23 => ⟨S4x2048x3x3, .f32⟩
  | 24 => ⟨S4x2048x3x3, .f32⟩
  | 25 => ⟨S4x2048x3x3, .f32⟩
  | 26 => ⟨S_, .f32⟩
  | 27 => ⟨S_, .f32⟩
  | 28 => ⟨S4x2048x3x3, .i1⟩
  | 29 => ⟨S4x2048x3x3, .f32⟩
  | 30 => ⟨S4x2048x3x3, .f32⟩
  | 31 => ⟨S4x2048x3x3, .f32⟩
  | 32 => ⟨S4x2048x1x1, .f32⟩
  | 33 => ⟨S4x2048x1x1, .f32⟩
  | 34 => ⟨S4x2048x1x1, .f32⟩
  | 35 => ⟨S4x2048x1x1, .f32⟩
  | 36 => ⟨S_, .f32⟩
  | 37 => ⟨S4x2048x1x1, .f32⟩
  | 38 => ⟨S4x2048x1x1, .i1⟩
  | 39 => ⟨S4x2048x1x1, .f32⟩
  | 40 => ⟨S_, .f32⟩
  | 41 => ⟨S_, .f32⟩
  | 42 => ⟨S4x2048x1x1, .f32⟩
  | 43 => ⟨S4x2048x1x1, .f32⟩
  | 44 => ⟨S_, .f32⟩
  | 45 => ⟨S4x2048x1x1, .f32⟩
  | 46 => ⟨S4x2048x1x1, .f32⟩
  | 47 => ⟨S4x2048x1x1, .f32⟩
  | 48 => ⟨S_, .f32⟩
  | 49 => ⟨S4x2048x1x1, .f32⟩
  | 50 => ⟨S4x2048x1x1, .i1⟩
  | 51 => ⟨S_, .f32⟩
  | 52 => ⟨S_, .f32⟩
  | 53 => ⟨S4x2048x1x1, .f32⟩
  | 54 => ⟨S4x2048x1x1, .f32⟩
  | 55 => ⟨S4x2048x1x1, .f32⟩
  | 56 => ⟨S4x2048x1x1, .f32⟩
  | 57 => ⟨S4x2048x1x1, .f32⟩
  | 58 => ⟨S_, .f32⟩
  | 59 => ⟨S4x2048x1x1, .f32⟩
  | 60 => ⟨S4x2048x1x1, .f32⟩
  | 61 => ⟨S4x2048x1x1, .f32⟩
  | 62 => ⟨S4x2048x1x1, .f32⟩
  | 63 => ⟨S4x2048x1x1, .f32⟩
  | 64 => ⟨S4x2048x1x1, .f32⟩
  | 65 => ⟨S_, .f32⟩
  | 66 => ⟨S_, .f32⟩
  | 67 => ⟨S4x2048x1x1, .f32⟩
  | 68 => ⟨S4x2048x1x1, .f32⟩
  | 69 => ⟨S4x2048x1x1, .f32⟩
  | 70 => ⟨S_, .f32⟩
  | 71 => ⟨S4x2048x1x1, .f32⟩
  | 72 => ⟨S4x2048x1x1, .f32⟩
  | 73 => ⟨S4x2048x1x1, .f32⟩
  | 74 => ⟨S_, .f32⟩
  | 75 => ⟨S4x2048x1x1, .f32⟩
  | 76 => ⟨S4x2048x1x1, .f32⟩
  | 77 => ⟨S4x2048x1x1, .f32⟩
  | 78 => ⟨S4x2048x1x1, .f32⟩
  | 79 => ⟨S4x2048x3x3, .i1⟩
  | 80 => ⟨S4x2048x3x3, .f32⟩
  | 81 => ⟨S4x2048x3x3, .f32⟩
  | 82 => ⟨S4x2048x3x3, .f32⟩
  | 83 => ⟨S4x2048x3x3, .i1⟩
  | 84 => ⟨S4x2048x3x3, .f32⟩
  | 85 => ⟨S4x2048x3x3, .f32⟩
  | 86 => ⟨S4x2048x3x3, .i1⟩
  | 87 => ⟨S4x2048x3x3, .f32⟩
  | 88 => ⟨S4x2048x3x3, .f32⟩
  | 89 => ⟨S4x2048x3x3, .f32⟩
  | 90 => ⟨S4x2048x3x3, .f32⟩
  | 91 => ⟨S_, .f32⟩
  | 92 => ⟨S_, .f32⟩
  | 93 => ⟨S4x2048x3x3, .i1⟩
  | 94 => ⟨S4x2048x3x3, .f32⟩
  | 95 => ⟨S4x2048x3x3, .f32⟩
  | 96 => ⟨S4x2048x3x3, .f32⟩
  | 97 => ⟨S4x2048x1x1, .f32⟩
  | 98 => ⟨S4x2048x1x1, .f32⟩
  | 99 => ⟨S4x2048x1x1, .f32⟩
  | 100 => ⟨S4x2048x1x1, .f32⟩
  | 101 => ⟨S_, .f32⟩
  | 102 => ⟨S4x2048x1x1, .f32⟩
  | 103 => ⟨S4x2048x1x1, .i1⟩
  | 104 => ⟨S4x2048x1x1, .f32⟩
  | 105 => ⟨S_, .f32⟩
  | 106 => ⟨S_, .f32⟩
  | 107 => ⟨S4x2048x1x1, .f32⟩
  | 108 => ⟨S4x2048x1x1, .f32⟩
  | 109 => ⟨S_, .f32⟩
  | 110 => ⟨S4x2048x1x1, .f32⟩
  | 111 => ⟨S4x2048x1x1, .f32⟩
  | 112 => ⟨S4x2048x1x1, .f32⟩
  | 113 => ⟨S_, .f32⟩
  | 114 => ⟨S4x2048x1x1, .f32⟩
  | 115 => ⟨S4x2048x1x1, .i1⟩
  | 116 => ⟨S_, .f32⟩
  | 117 => ⟨S_, .f32⟩
  | 118 => ⟨S4x2048x1x1, .f32⟩
  | 119 => ⟨S4x2048x1x1, .f32⟩
  | 120 => ⟨S4x2048x1x1, .f32⟩
  | 121 => ⟨S4x2048x1x1, .f32⟩
  | 122 => ⟨S4x2048x1x1, .f32⟩
  | 123 => ⟨S_, .f32⟩
  | 124 => ⟨S4x2048x1x1, .f32⟩
  | 125 => ⟨S4x2048x1x1, .f32⟩
  | 126 => ⟨S4x2048x1x1, .f32⟩
  | 127 => ⟨S4x2048x1x1, .f32⟩
  | _ => ⟨S4x2048x3, .f32⟩

abbrev hbmTy0_4 (i : Nat) : BufTy := match i % 128 with
  | 0 => ⟨S4x2048x1x1, .f32⟩
  | 1 => ⟨S4x2048x1x1, .f32⟩
  | 2 => ⟨S_, .f32⟩
  | 3 => ⟨S_, .f32⟩
  | 4 => ⟨S4x2048x1x1, .f32⟩
  | 5 => ⟨S4x2048x1x1, .f32⟩
  | 6 => ⟨S4x2048x1x1, .f32⟩
  | 7 => ⟨S_, .f32⟩
  | 8 => ⟨S4x2048x1x1, .f32⟩
  | 9 => ⟨S4x2048x1x1, .f32⟩
  | 10 => ⟨S4x2048x1x1, .f32⟩
  | 11 => ⟨S_, .f32⟩
  | 12 => ⟨S4x2048x1x1, .f32⟩
  | 13 => ⟨S4x2048x1x1, .f32⟩
  | 14 => ⟨S4x2048x1x1, .f32⟩
  | 15 => ⟨S4x2048x1x1, .f32⟩
  | 16 => ⟨S4x2048x3x3, .i1⟩
  | 17 => ⟨S4x2048x3x3, .f32⟩
  | 18 => ⟨S4x2048x3x3, .f32⟩
  | 19 => ⟨S4x2048x3x3, .f32⟩
  | 20 => ⟨S4x2048x3x3, .i1⟩
  | 21 => ⟨S4x2048x3x3, .f32⟩
  | 22 => ⟨S4x2048x3x3, .f32⟩
  | 23 => ⟨S4x2048x3x3, .i1⟩
  | 24 => ⟨S4x2048x3x3, .f32⟩
  | 25 => ⟨S4x2048x3x3, .f32⟩
  | 26 => ⟨S4x2048x3x3, .f32⟩
  | 27 => ⟨S4x2048x3x3, .f32⟩
  | 28 => ⟨S_, .f32⟩
  | 29 => ⟨S_, .f32⟩
  | 30 => ⟨S4x2048x3x3, .i1⟩
  | 31 => ⟨S4x2048x3x3, .f32⟩
  | 32 => ⟨S4x2048x3x3, .f32⟩
  | 33 => ⟨S4x2048x3x3, .f32⟩
  | 34 => ⟨S4x2048x1x1, .f32⟩
  | 35 => ⟨S4x2048x1x1, .f32⟩
  | 36 => ⟨S4x2048x1x1, .f32⟩
  | 37 => ⟨S4x2048x1x1, .f32⟩
  | 38 => ⟨S_, .f32⟩
  | 39 => ⟨S4x2048x1x1, .f32⟩
  | 40 => ⟨S4x2048x1x1, .i1⟩
  | 41 => ⟨S4x2048x1x1, .f32⟩
  | 42 => ⟨S_, .f32⟩
  | 43 => ⟨S_, .f32⟩
  | 44 => ⟨S4x2048x1x1, .f32⟩
  | 45 => ⟨S4x2048x1x1, .f32⟩
  | 46 => ⟨S_, .f32⟩
  | 47 => ⟨S4x2048x1x1, .f32⟩
  | 48 => ⟨S4x2048x1x1, .f32⟩
  | 49 => ⟨S4x2048x1x1, .f32⟩
  | 50 => ⟨S_, .f32⟩
  | 51 => ⟨S4x2048x1x1, .f32⟩
  | 52 => ⟨S4x2048x1x1, .i1⟩
  | 53 => ⟨S_, .f32⟩
  | 54 => ⟨S_, .f32⟩
  | 55 => ⟨S4x2048x1x1, .f32⟩
  | 56 => ⟨S4x2048x1x1, .f32⟩
  | 57 => ⟨S4x2048x1x1, .f32⟩
  | 58 => ⟨S4x2048x1x1, .f32⟩
  | 59 => ⟨S4x2048x1x1, .f32⟩
  | 60 => ⟨S_, .f32⟩
  | 61 => ⟨S4x2048x1x1, .f32⟩
  | 62 => ⟨S4x2048x1x1, .f32⟩
  | 63 => ⟨S4x2048x1x1, .f32⟩
  | 64 => ⟨S4x2048x1x1, .f32⟩
  | 65 => ⟨S4x2048x1x1, .f32⟩
  | 66 => ⟨S4x2048x1x1, .f32⟩
  | 67 => ⟨S_, .f32⟩
  | 68 => ⟨S_, .f32⟩
  | 69 => ⟨S4x2048x1x1, .f32⟩
  | 70 => ⟨S4x2048x1x1, .f32⟩
  | 71 => ⟨S4x2048x1x1, .f32⟩
  | 72 => ⟨S_, .f32⟩
  | 73 => ⟨S4x2048x1x1, .f32⟩
  | 74 => ⟨S4x2048x1x1, .f32⟩
  | 75 => ⟨S4x2048x1x1, .f32⟩
  | 76 => ⟨S_, .f32⟩
  | 77 => ⟨S4x2048x1x1, .f32⟩
  | 78 => ⟨S4x2048x1x1, .f32⟩
  | 79 => ⟨S4x2048x1x1, .f32⟩
  | 80 => ⟨S4x2048x1x1, .f32⟩
  | 81 => ⟨S4x2048x3x3, .i1⟩
  | 82 => ⟨S4x2048x3x3, .f32⟩
  | 83 => ⟨S4x2048x3x3, .f32⟩
  | 84 => ⟨S4x2048x3x3, .f32⟩
  | 85 => ⟨S4x2048x3x3, .i1⟩
  | 86 => ⟨S4x2048x3x3, .f32⟩
  | 87 => ⟨S4x2048x3x3, .f32⟩
  | 88 => ⟨S4x2048x3x3, .i1⟩
  | 89 => ⟨S4x2048x3x3, .f32⟩
  | 90 => ⟨S4x2048x3x3, .f32⟩
  | 91 => ⟨S4x2048x3x3, .f32⟩
  | 92 => ⟨S4x2048x3x3, .f32⟩
  | 93 => ⟨S_, .f32⟩
  | 94 => ⟨S_, .f32⟩
  | 95 => ⟨S4x2048x3x3, .i1⟩
  | 96 => ⟨S4x2048x3x3, .f32⟩
  | 97 => ⟨S4x2048x3x3, .f32⟩
  | 98 => ⟨S4x2048x3x3, .f32⟩
  | 99 => ⟨S4x2048x1x1, .f32⟩
  | 100 => ⟨S4x2048x1x1, .f32⟩
  | 101 => ⟨S4x2048x1x1, .f32⟩
  | 102 => ⟨S4x2048x1x1, .f32⟩
  | 103 => ⟨S_, .f32⟩
  | 104 => ⟨S4x2048x1x1, .f32⟩
  | 105 => ⟨S4x2048x1x1, .i1⟩
  | 106 => ⟨S4x2048x1x1, .f32⟩
  | 107 => ⟨S_, .f32⟩
  | 108 => ⟨S_, .f32⟩
  | 109 => ⟨S4x2048x1x1, .f32⟩
  | 110 => ⟨S4x2048x1x1, .f32⟩
  | 111 => ⟨S_, .f32⟩
  | 112 => ⟨S4x2048x1x1, .f32⟩
  | 113 => ⟨S4x2048x1x1, .f32⟩
  | 114 => ⟨S4x2048x1x1, .f32⟩
  | 115 => ⟨S_, .f32⟩
  | 116 => ⟨S4x2048x1x1, .f32⟩
  | 117 => ⟨S4x2048x1x1, .i1⟩
  | 118 => ⟨S_, .f32⟩
  | 119 => ⟨S_, .f32⟩
  | 120 => ⟨S4x2048x1x1, .f32⟩
  | 121 => ⟨S4x2048x1x1, .f32⟩
  | 122 => ⟨S4x2048x1x1, .f32⟩
  | 123 => ⟨S4x2048x1x1, .f32⟩
  | 124 => ⟨S4x2048x1x1, .f32⟩
  | 125 => ⟨S_, .f32⟩
  | 126 => ⟨S4x2048x1x1, .f32⟩
  | 127 => ⟨S4x2048x1x1, .f32⟩
  | _ => ⟨S4x2048x3, .f32⟩

abbrev hbmTy0_5 (i : Nat) : BufTy := match i % 128 with
  | 0 => ⟨S4x2048x1x1, .f32⟩
  | 1 => ⟨S4x2048x1x1, .f32⟩
  | 2 => ⟨S4x2048x1x1, .f32⟩
  | 3 => ⟨S4x2048x1x1, .f32⟩
  | 4 => ⟨S_, .f32⟩
  | 5 => ⟨S_, .f32⟩
  | 6 => ⟨S4x2048x1x1, .f32⟩
  | 7 => ⟨S4x2048x1x1, .f32⟩
  | 8 => ⟨S4x2048x1x1, .f32⟩
  | 9 => ⟨S_, .f32⟩
  | 10 => ⟨S4x2048x1x1, .f32⟩
  | 11 => ⟨S4x2048x1x1, .f32⟩
  | 12 => ⟨S4x2048x1x1, .f32⟩
  | 13 => ⟨S_, .f32⟩
  | 14 => ⟨S4x2048x1x1, .f32⟩
  | 15 => ⟨S4x2048x1x1, .f32⟩
  | 16 => ⟨S4x2048x1x1, .f32⟩
  | 17 => ⟨S4x2048x1x1, .f32⟩
  | 18 => ⟨S4x2048x3x3, .i1⟩
  | 19 => ⟨S4x2048x3x3, .f32⟩
  | 20 => ⟨S4x2048x3x3, .f32⟩
  | 21 => ⟨S4x2048x3x3, .f32⟩
  | 22 => ⟨S4x2048x3x3, .i1⟩
  | 23 => ⟨S4x2048x3x3, .f32⟩
  | 24 => ⟨S4x2048x3x3, .f32⟩
  | 25 => ⟨S4x2048x3x3, .i1⟩
  | 26 => ⟨S4x2048x3x3, .f32⟩
  | 27 => ⟨S4x2048x3x3, .f32⟩
  | 28 => ⟨S4x2048x3x3, .f32⟩
  | 29 => ⟨S4x2048x3x3, .f32⟩
  | 30 => ⟨S_, .f32⟩
  | 31 => ⟨S_, .f32⟩
  | 32 => ⟨S4x2048x3x3, .i1⟩
  | 33 => ⟨S4x2048x3x3, .f32⟩
  | 34 => ⟨S4x2048x3x3, .f32⟩
  | 35 => ⟨S4x2048x3x3, .f32⟩
  | 36 => ⟨S4x2048x1x1, .f32⟩
  | 37 => ⟨S4x2048x1x1, .f32⟩
  | 38 => ⟨S4x2048x1x1, .f32⟩
  | 39 => ⟨S4x2048x1x1, .f32⟩
  | 40 => ⟨S_, .f32⟩
  | 41 => ⟨S4x2048x1x1, .f32⟩
  | 42 => ⟨S4x2048x1x1, .i1⟩
  | 43 => ⟨S4x2048x1x1, .f32⟩
  | 44 => ⟨S_, .f32⟩
  | 45 => ⟨S_, .f32⟩
  | 46 => ⟨S4x2048x1x1, .f32⟩
  | 47 => ⟨S4x2048x1x1, .f32⟩
  | 48 => ⟨S_, .f32⟩
  | 49 => ⟨S4x2048x1x1, .f32⟩
  | 50 => ⟨S4x2048x1x1, .f32⟩
  | 51 => ⟨S4x2048x1x1, .f32⟩
  | 52 => ⟨S_, .f32⟩
  | 53 => ⟨S4x2048x1x1, .f32⟩
  | 54 => ⟨S4x2048x1x1, .i1⟩
  | 55 => ⟨S_, .f32⟩
  | 56 => ⟨S_, .f32⟩
  | 57 => ⟨S4x2048x1x1, .f32⟩
  | 58 => ⟨S4x2048x1x1, .f32⟩
  | 59 => ⟨S4x2048x1x1, .f32⟩
  | 60 => ⟨S4x2048x1x1, .f32⟩
  | 61 => ⟨S4x2048x1x1, .f32⟩
  | 62 => ⟨S_, .f32⟩
  | 63 => ⟨S4x2048x1x1, .f32⟩
  | 64 => ⟨S4x2048x1x1, .f32⟩
  | 65 => ⟨S4x2048x1x1, .f32⟩
  | 66 => ⟨S4x2048x1x1, .f32⟩
  | 67 => ⟨S4x2048x1x1, .f32⟩
  | 68 => ⟨S4x2048x1x1, .f32⟩
  | 69 => ⟨S_, .f32⟩
  | 70 => ⟨S_, .f32⟩
  | 71 => ⟨S4x2048x1x1, .f32⟩
  | 72 => ⟨S4x2048x1x1, .f32⟩
  | 73 => ⟨S4x2048x1x1, .f32⟩
  | 74 => ⟨S_, .f32⟩
  | 75 => ⟨S4x2048x1x1, .f32⟩
  | 76 => ⟨S4x2048x1x1, .f32⟩
  | 77 => ⟨S4x2048x1x1, .f32⟩
  | 78 => ⟨S_, .f32⟩
  | 79 => ⟨S4x2048x1x1, .f32⟩
  | 80 => ⟨S4x2048x1x1, .f32⟩
  | 81 => ⟨S4x2048x1x1, .f32⟩
  | 82 => ⟨S4x2048x1x1, .f32⟩
  | 83 => ⟨S4x2048x3x3, .i1⟩
  | 84 => ⟨S4x2048x3x3, .f32⟩
  | 85 => ⟨S4x2048x3x3, .f32⟩
  | 86 => ⟨S4x2048x3x3, .f32⟩
  | 87 => ⟨S4x2048x3x3, .i1⟩
  | 88 => ⟨S4x2048x3x3, .f32⟩
  | 89 => ⟨S4x2048x3x3, .f32⟩
  | 90 => ⟨S4x2048x3x3, .i1⟩
  | 91 => ⟨S4x2048x3x3, .f32⟩
  | 92 => ⟨S4x2048x3x3, .f32⟩
  | 93 => ⟨S4x2048x3x3, .f32⟩
  | 94 => ⟨S4x2048x3x3, .f32⟩
  | 95 => ⟨S_, .f32⟩
  | 96 => ⟨S_, .f32⟩
  | 97 => ⟨S4x2048x3x3, .i1⟩
  | 98 => ⟨S4x2048x3x3, .f32⟩
  | 99 => ⟨S4x2048x3x3, .f32⟩
  | 100 => ⟨S4x2048x3x3, .f32⟩
  | 101 => ⟨S4x2048x1x1, .f32⟩
  | 102 => ⟨S4x2048x1x1, .f32⟩
  | 103 => ⟨S4x2048x1x1, .f32⟩
  | 104 => ⟨S4x2048x1x1, .f32⟩
  | 105 => ⟨S_, .f32⟩
  | 106 => ⟨S4x2048x1x1, .f32⟩
  | 107 => ⟨S4x2048x1x1, .i1⟩
  | 108 => ⟨S4x2048x1x1, .f32⟩
  | 109 => ⟨S_, .f32⟩
  | 110 => ⟨S_, .f32⟩
  | 111 => ⟨S4x2048x1x1, .f32⟩
  | 112 => ⟨S4x2048x1x1, .f32⟩
  | 113 => ⟨S_, .f32⟩
  | 114 => ⟨S4x2048x1x1, .f32⟩
  | 115 => ⟨S4x2048x1x1, .f32⟩
  | 116 => ⟨S4x2048x1x1, .f32⟩
  | 117 => ⟨S_, .f32⟩
  | 118 => ⟨S4x2048x1x1, .f32⟩
  | 119 => ⟨S4x2048x1x1, .i1⟩
  | 120 => ⟨S_, .f32⟩
  | 121 => ⟨S_, .f32⟩
  | 122 => ⟨S4x2048x1x1, .f32⟩
  | 123 => ⟨S4x2048x1x1, .f32⟩
  | 124 => ⟨S4x2048x1x1, .f32⟩
  | 125 => ⟨S4x2048x1x1, .f32⟩
  | 126 => ⟨S4x2048x1x1, .f32⟩
  | 127 => ⟨S_, .f32⟩
  | _ => ⟨S4x2048x3, .f32⟩

abbrev hbmTy0_6 (i : Nat) : BufTy := match i % 128 with
  | 0 => ⟨S4x2048x1x1, .f32⟩
  | 1 => ⟨S4x2048x1x1, .f32⟩
  | 2 => ⟨S4x2048x1x1, .f32⟩
  | 3 => ⟨S4x2048x1x1, .f32⟩
  | 4 => ⟨S4x2048x1x1, .f32⟩
  | 5 => ⟨S4x2048x1x1, .f32⟩
  | 6 => ⟨S_, .f32⟩
  | 7 => ⟨S_, .f32⟩
  | 8 => ⟨S4x2048x1x1, .f32⟩
  | 9 => ⟨S4x2048x1x1, .f32⟩
  | 10 => ⟨S4x2048x1x1, .f32⟩
  | 11 => ⟨S_, .f32⟩
  | 12 => ⟨S4x2048x1x1, .f32⟩
  | 13 => ⟨S4x2048x1x1, .f32⟩
  | 14 => ⟨S4x2048x1x1, .f32⟩
  | 15 => ⟨S_, .f32⟩
  | 16 => ⟨S4x2048x1x1, .f32⟩
  | 17 => ⟨S4x2048x1x1, .f32⟩
  | 18 => ⟨S4x2048x1x1, .f32⟩
  | 19 => ⟨S4x2048x1x1, .f32⟩
  | 20 => ⟨S4x2048x3x3, .i1⟩
  | 21 => ⟨S4x2048x3x3, .f32⟩
  | 22 => ⟨S4x2048x3x3, .f32⟩
  | 23 => ⟨S4x2048x3x3, .f32⟩
  | 24 => ⟨S4x2048x3x3, .i1⟩
  | 25 => ⟨S4x2048x3x3, .f32⟩
  | 26 => ⟨S4x2048x3x3, .f32⟩
  | 27 => ⟨S4x2048x3x3, .i1⟩
  | 28 => ⟨S4x2048x3x3, .f32⟩
  | 29 => ⟨S4x2048x3x3, .f32⟩
  | 30 => ⟨S4x2048x3x3, .f32⟩
  | 31 => ⟨S4x2048x3x3, .f32⟩
  | 32 => ⟨S_, .f32⟩
  | 33 => ⟨S_, .f32⟩
  | 34 => ⟨S4x2048x3x3, .i1⟩
  | 35 => ⟨S4x2048x3x3, .f32⟩
  | 36 => ⟨S4x2048x3x3, .f32⟩
  | 37 => ⟨S4x2048x3x3, .f32⟩
  | 38 => ⟨S4x2048x1x1, .f32⟩
  | 39 => ⟨S4x2048x1x1, .f32⟩
  | 40 => ⟨S4x2048x1x1, .f32⟩
  | 41 => ⟨S4x2048x1x1, .f32⟩
  | 42 => ⟨S_, .f32⟩
  | 43 => ⟨S4x2048x1x1, .f32⟩
  | 44 => ⟨S4x2048x1x1, .i1⟩
  | 45 => ⟨S4x2048x1x1, .f32⟩
  | 46 => ⟨S_, .f32⟩
  | 47 => ⟨S_, .f32⟩
  | 48 => ⟨S4x2048x1x1, .f32⟩
  | 49 => ⟨S4x2048x1x1, .f32⟩
  | 50 => ⟨S_, .f32⟩
  | 51 => ⟨S4x2048x1x1, .f32⟩
  | 52 => ⟨S4x2048x1x1, .f32⟩
  | 53 => ⟨S4x2048x1x1, .f32⟩
  | 54 => ⟨S_, .f32⟩
  | 55 => ⟨S4x2048x1x1, .f32⟩
  | 56 => ⟨S4x2048x1x1, .i1⟩
  | 57 => ⟨S_, .f32⟩
  | 58 => ⟨S_, .f32⟩
  | 59 => ⟨S4x2048x1x1, .f32⟩
  | 60 => ⟨S4x2048x1x1, .f32⟩
  | 61 => ⟨S4x2048x1x1, .f32⟩
  | 62 => ⟨S4x2048x1x1, .f32⟩
  | 63 => ⟨S4x2048x1x1, .f32⟩
  | 64 => ⟨S_, .f32⟩
  | 65 => ⟨S4x2048x1x1, .f32⟩
  | 66 => ⟨S4x2048x1x1, .f32⟩
  | 67 => ⟨S4x2048x1x1, .f32⟩
  | 68 => ⟨S4x2048x1x1, .f32⟩
  | 69 => ⟨S4x2048x1x1, .f32⟩
  | 70 => ⟨S4x2048x1x1, .f32⟩
  | 71 => ⟨S_, .f32⟩
  | 72 => ⟨S_, .f32⟩
  | 73 => ⟨S4x2048x1x1, .f32⟩
  | 74 => ⟨S4x2048x1x1, .f32⟩
  | 75 => ⟨S4x2048x1x1, .f32⟩
  | 76 => ⟨S_, .f32⟩
  | 77 => ⟨S4x2048x1x1, .f32⟩
  | 78 => ⟨S4x2048x1x1, .f32⟩
  | 79 => ⟨S4x2048x1x1, .f32⟩
  | 80 => ⟨S_, .f32⟩
  | 81 => ⟨S4x2048x1x1, .f32⟩
  | 82 => ⟨S4x2048x1x1, .f32⟩
  | 83 => ⟨S4x2048x1x1, .f32⟩
  | 84 => ⟨S4x2048x1x1, .f32⟩
  | 85 => ⟨S4x2048x3x3, .i1⟩
  | 86 => ⟨S4x2048x3x3, .f32⟩
  | 87 => ⟨S4x2048x3x3, .f32⟩
  | 88 => ⟨S4x2048x3x3, .f32⟩
  | 89 => ⟨S4x2048x3x3, .i1⟩
  | 90 => ⟨S4x2048x3x3, .f32⟩
  | 91 => ⟨S4x2048x3x3, .f32⟩
  | 92 => ⟨S4x2048x3x3, .i1⟩
  | 93 => ⟨S4x2048x3x3, .f32⟩
  | 94 => ⟨S4x2048x3x3, .f32⟩
  | 95 => ⟨S4x2048x3x3, .f32⟩
  | 96 => ⟨S4x2048x3x3, .f32⟩
  | 97 => ⟨S_, .f32⟩
  | 98 => ⟨S_, .f32⟩
  | 99 => ⟨S4x2048x3x3, .i1⟩
  | 100 => ⟨S4x2048x3x3, .f32⟩
  | 101 => ⟨S4x2048x3x3, .f32⟩
  | 102 => ⟨S4x2048x3x3, .f32⟩
  | 103 => ⟨S4x2048x1x1, .f32⟩
  | 104 => ⟨S4x2048x1x1, .f32⟩
  | 105 => ⟨S4x2048x1x1, .f32⟩
  | 106 => ⟨S4x2048x1x1, .f32⟩
  | 107 => ⟨S_, .f32⟩
  | 108 => ⟨S4x2048x1x1, .f32⟩
  | 109 => ⟨S4x2048x1x1, .i1⟩
  | 110 => ⟨S4x2048x1x1, .f32⟩
  | 111 => ⟨S_, .f32⟩
  | 112 => ⟨S_, .f32⟩
  | 113 => ⟨S4x2048x1x1, .f32⟩
  | 114 => ⟨S4x2048x1x1, .f32⟩
  | 115 => ⟨S_, .f32⟩
  | 116 => ⟨S4x2048x1x1, .f32⟩
  | 117 => ⟨S4x2048x1x1, .f32⟩
  | 118 => ⟨S4x2048x1x1, .f32⟩
  | 119 => ⟨S_, .f32⟩
  | 120 => ⟨S4x2048x1x1, .f32⟩
  | 121 => ⟨S4x2048x1x1, .i1⟩
  | 122 => ⟨S_, .f32⟩
  | 123 => ⟨S_, .f32⟩
  | 124 => ⟨S4x2048x1x1, .f32⟩
  | 125 => ⟨S4x2048x1x1, .f32⟩
  | 126 => ⟨S4x2048x1x1, .f32⟩
  | 127 => ⟨S4x2048x1x1, .f32⟩
  | _ => ⟨S4x2048x3, .f32⟩

abbrev hbmTy0_7 (i : Nat) : BufTy := match i % 128 with
  | 0 => ⟨S4x2048x1x1, .f32⟩
  | 1 => ⟨S_, .f32⟩
  | 2 => ⟨S4x2048x1x1, .f32⟩
  | 3 => ⟨S4x2048x1x1, .f32⟩
  | 4 => ⟨S4x2048x1x1, .f32⟩
  | 5 => ⟨S4x2048x1x1, .f32⟩
  | 6 => ⟨S4x2048x1x1, .f32⟩
  | 7 => ⟨S4x2048x1x1, .f32⟩
  | 8 => ⟨S_, .f32⟩
  | 9 => ⟨S_, .f32⟩
  | 10 => ⟨S4x2048x1x1, .f32⟩
  | 11 => ⟨S4x2048x1x1, .f32⟩
  | 12 => ⟨S4x2048x1x1, .f32⟩
  | 13 => ⟨S_, .f32⟩
  | 14 => ⟨S4x2048x1x1, .f32⟩
  | 15 => ⟨S4x2048x1x1, .f32⟩
  | 16 => ⟨S4x2048x1x1, .f32⟩
  | 17 => ⟨S_, .f32⟩
  | 18 => ⟨S4x2048x1x1, .f32⟩
  | 19 => ⟨S4x2048x1x1, .f32⟩
  | 20 => ⟨S4x2048x1x1, .f32⟩
  | 21 => ⟨S4x2048x1x1, .f32⟩
  | 22 => ⟨S4x2048x3x3, .i1⟩
  | 23 => ⟨S4x2048x3x3, .f32⟩
  | 24 => ⟨S4x2048x3x3, .f32⟩
  | 25 => ⟨S4x2048x3x3, .f32⟩
  | 26 => ⟨S4x2048x3x3, .i1⟩
  | 27 => ⟨S4x2048x3x3, .f32⟩
  | 28 => ⟨S4x2048x3x3, .f32⟩
  | 29 => ⟨S4x2048x3x3, .i1⟩
  | 30 => ⟨S4x2048x3x3, .f32⟩
  | 31 => ⟨S4x2048x3x3, .f32⟩
  | 32 => ⟨S4x2048x3x3, .f32⟩
  | 33 => ⟨S4x2048x3x3, .f32⟩
  | 34 => ⟨S_, .f32⟩
  | 35 => ⟨S_, .f32⟩
  | 36 => ⟨S4x2048x3x3, .i1⟩
  | 37 => ⟨S4x2048x3x3, .f32⟩
  | 38 => ⟨S4x2048x3x3, .f32⟩
  | 39 => ⟨S4x2048x3x3, .f32⟩
  | 40 => ⟨S4x2048x1x1, .f32⟩
  | 41 => ⟨S4x2048x1x1, .f32⟩
  | 42 => ⟨S4x2048x1x1, .f32⟩
  | 43 => ⟨S4x2048x1x1, .f32⟩
  | 44 => ⟨S_, .f32⟩
  | 45 => ⟨S4x2048x1x1, .f32⟩
  | 46 => ⟨S4x2048x1x1, .i1⟩
  | 47 => ⟨S4x2048x1x1, .f32⟩
  | 48 => ⟨S_, .f32⟩
  | 49 => ⟨S_, .f32⟩
  | 50 => ⟨S4x2048x1x1, .f32⟩
  | 51 => ⟨S4x2048x1x1, .f32⟩
  | 52 => ⟨S_, .f32⟩
  | 53 => ⟨S4x2048x1x1, .f32⟩
  | 54 => ⟨S4x2048x1x1, .f32⟩
  | 55 => ⟨S4x2048x1x1, .f32⟩
  | 56 => ⟨S_, .f32⟩
  | 57 => ⟨S4x2048x1x1, .f32⟩
  | 58 => ⟨S4x2048x1x1, .i1⟩
  | 59 => ⟨S_, .f32⟩
  | 60 => ⟨S_, .f32⟩
  | 61 => ⟨S4x2048x1x1, .f32⟩
  | 62 => ⟨S4x2048x1x1, .f32⟩
  | 63 => ⟨S4x2048x1x1, .f32⟩
  | 64 => ⟨S4x2048x1x1, .f32⟩
  | 65 => ⟨S4x2048x1x1, .f32⟩
  | 66 => ⟨S_, .f32⟩
  | 67 => ⟨S4x2048x1x1, .f32⟩
  | 68 => ⟨S4x2048x1x1, .f32⟩
  | 69 => ⟨S4x2048x1x1, .f32⟩
  | 70 => ⟨S4x2048x1x1, .f32⟩
  | 71 => ⟨S4x2048x1x1, .f32⟩
  | 72 => ⟨S4x2048x1x1, .f32⟩
  | 73 => ⟨S_, .f32⟩
  | 74 => ⟨S_, .f32⟩
  | 75 => ⟨S4x2048x1x1, .f32⟩
  | 76 => ⟨S4x2048x1x1, .f32⟩
  | 77 => ⟨S4x2048x1x1, .f32⟩
  | 78 => ⟨S_, .f32⟩
  | 79 => ⟨S4x2048x1x1, .f32⟩
  | 80 => ⟨S4x2048x1x1, .f32⟩
  | 81 => ⟨S4x2048x1x1, .f32⟩
  | 82 => ⟨S_, .f32⟩
  | 83 => ⟨S4x2048x1x1, .f32⟩
  | 84 => ⟨S4x2048x1x1, .f32⟩
  | 85 => ⟨S4x2048x1x1, .f32⟩
  | 86 => ⟨S4x2048x1x1, .f32⟩
  | 87 => ⟨S4x2048x3x3, .i1⟩
  | 88 => ⟨S4x2048x3x3, .f32⟩
  | 89 => ⟨S4x2048x3x3, .f32⟩
  | 90 => ⟨S4x2048x3x3, .f32⟩
  | 91 => ⟨S4x2048x3x3, .i1⟩
  | 92 => ⟨S4x2048x3x3, .f32⟩
  | 93 => ⟨S4x2048x3x3, .f32⟩
  | 94 => ⟨S4x2048x3x3, .i1⟩
  | 95 => ⟨S4x2048x3x3, .f32⟩
  | 96 => ⟨S4x2048x3x3, .f32⟩
  | 97 => ⟨S4x2048x3x3, .f32⟩
  | 98 => ⟨S4x2048x3x3, .f32⟩
  | 99 => ⟨S_, .f32⟩
  | 100 => ⟨S_, .f32⟩
  | 101 => ⟨S4x2048x3x3, .i1⟩
  | 102 => ⟨S4x2048x3x3, .f32⟩
  | 103 => ⟨S4x2048x3x3, .f32⟩
  | 104 => ⟨S4x2048x3x3, .f32⟩
  | 105 => ⟨S4x2048x1x1, .f32⟩
  | 106 => ⟨S4x2048x1x1, .f32⟩
  | 107 => ⟨S4x2048x1x1, .f32⟩
  | 108 => ⟨S4x2048x1x1, .f32⟩
  | 109 => ⟨S_, .f32⟩
  | 110 => ⟨S4x2048x1x1, .f32⟩
  | 111 => ⟨S4x2048x1x1, .i1⟩
  | 112 => ⟨S4x2048x1x1, .f32⟩
  | 113 => ⟨S_, .f32⟩
  | 114 => ⟨S_, .f32⟩
  | 115 => ⟨S4x2048x1x1, .f32⟩
  | 116 => ⟨S4x2048x1x1, .f32⟩
  | 117 => ⟨S_, .f32⟩
  | 118 => ⟨S4x2048x1x1, .f32⟩
  | 119 => ⟨S4x2048x1x1, .f32⟩
  | 120 => ⟨S4x2048x1x1, .f32⟩
  | 121 => ⟨S_, .f32⟩
  | 122 => ⟨S4x2048x1x1, .f32⟩
  | 123 => ⟨S4x2048x1x1, .i1⟩
  | 124 => ⟨S_, .f32⟩
  | 125 => ⟨S_, .f32⟩
  | 126 => ⟨S4x2048x1x1, .f32⟩
  | 127 => ⟨S4x2048x1x1, .f32⟩
  | _ => ⟨S4x2048x3, .f32⟩

abbrev hbmTy0_8 (i : Nat) : BufTy := match i % 128 with
  | 0 => ⟨S4x2048x1x1, .f32⟩
  | 1 => ⟨S4x2048x1x1, .f32⟩
  | 2 => ⟨S4x2048x1x1, .f32⟩
  | 3 => ⟨S_, .f32⟩
  | 4 => ⟨S4x2048x1x1, .f32⟩
  | 5 => ⟨S4x2048x1x1, .f32⟩
  | 6 => ⟨S4x2048x1x1, .f32⟩
  | 7 => ⟨S4x2048x1x1, .f32⟩
  | 8 => ⟨S4x2048x1x1, .f32⟩
  | 9 => ⟨S4x2048x1x1, .f32⟩
  | 10 => ⟨S_, .f32⟩
  | 11 => ⟨S_, .f32⟩
  | 12 => ⟨S4x2048x1x1, .f32⟩
  | 13 => ⟨S4x2048x1x1, .f32⟩
  | 14 => ⟨S4x2048x1x1, .f32⟩
  | 15 => ⟨S_, .f32⟩
  | 16 => ⟨S4x2048x1x1, .f32⟩
  | 17 => ⟨S4x2048x1x1, .f32⟩
  | 18 => ⟨S4x2048x1x1, .f32⟩
  | 19 => ⟨S_, .f32⟩
  | 20 => ⟨S4x2048x1x1, .f32⟩
  | 21 => ⟨S4x2048x1x1, .f32⟩
  | 22 => ⟨S4x2048x1x1, .f32⟩
  | 23 => ⟨S4x2048x1x1, .f32⟩
  | 24 => ⟨S4x2048x3x3, .i1⟩
  | 25 => ⟨S4x2048x3x3, .f32⟩
  | 26 => ⟨S4x2048x3x3, .f32⟩
  | 27 => ⟨S4x2048x3x3, .f32⟩
  | 28 => ⟨S4x2048x3x3, .i1⟩
  | 29 => ⟨S4x2048x3x3, .f32⟩
  | 30 => ⟨S4x2048x3x3, .f32⟩
  | 31 => ⟨S4x2048x3x3, .i1⟩
  | 32 => ⟨S4x2048x3x3, .f32⟩
  | 33 => ⟨S4x2048x3x3, .f32⟩
  | 34 => ⟨S4x2048x3x3, .f32⟩
  | 35 => ⟨S4x2048x3x3, .f32⟩
  | 36 => ⟨S_, .f32⟩
  | 37 => ⟨S_, .f32⟩
  | 38 => ⟨S4x2048x3x3, .i1⟩
  | 39 => ⟨S4x2048x3x3, .f32⟩
  | 40 => ⟨S4x2048x3x3, .f32⟩
  | 41 => ⟨S4x2048x3x3, .f32⟩
  | 42 => ⟨S4x2048x1x1, .f32⟩
  | 43 => ⟨S4x2048x1x1, .f32⟩
  | 44 => ⟨S4x2048x1x1, .f32⟩
  | 45 => ⟨S4x2048x1x1, .f32⟩
  | 46 => ⟨S_, .f32⟩
  | 47 => ⟨S4x2048x1x1, .f32⟩
  | 48 => ⟨S4x2048x1x1, .i1⟩
  | 49 => ⟨S4x2048x1x1, .f32⟩
  | 50 => ⟨S_, .f32⟩
  | 51 => ⟨S_, .f32⟩
  | 52 => ⟨S4x2048x1x1, .f32⟩
  | 53 => ⟨S4x2048x1x1, .f32⟩
  | 54 => ⟨S_, .f32⟩
  | 55 => ⟨S4x2048x1x1, .f32⟩
  | 56 => ⟨S4x2048x1x1, .f32⟩
  | 57 => ⟨S4x2048x1x1, .f32⟩
  | 58 => ⟨S_, .f32⟩
  | 59 => ⟨S4x2048x1x1, .f32⟩
  | 60 => ⟨S4x2048x1x1, .i1⟩
  | 61 => ⟨S_, .f32⟩
  | 62 => ⟨S_, .f32⟩
  | 63 => ⟨S4x2048x1x1, .f32⟩
  | 64 => ⟨S4x2048x1x1, .f32⟩
  | 65 => ⟨S4x2048x1x1, .f32⟩
  | 66 => ⟨S4x2048x1x1, .f32⟩
  | 67 => ⟨S4x2048x1x1, .f32⟩
  | 68 => ⟨S_, .f32⟩
  | 69 => ⟨S4x2048x1x1, .f32⟩
  | 70 => ⟨S4x2048x1x1, .f32⟩
  | 71 => ⟨S4x2048x1x1, .f32⟩
  | 72 => ⟨S4x2048x1x1, .f32⟩
  | 73 => ⟨S4x2048x1x1, .f32⟩
  | 74 => ⟨S4x2048x1x1, .f32⟩
  | 75 => ⟨S_, .f32⟩
  | 76 => ⟨S_, .f32⟩
  | 77 => ⟨S4x2048x1x1, .f32⟩
  | 78 => ⟨S4x2048x1x1, .f32⟩
  | 79 => ⟨S4x2048x1x1, .f32⟩
  | 80 => ⟨S_, .f32⟩
  | 81 => ⟨S4x2048x1x1, .f32⟩
  | 82 => ⟨S4x2048x1x1, .f32⟩
  | 83 => ⟨S4x2048x1x1, .f32⟩
  | 84 => ⟨S_, .f32⟩
  | 85 => ⟨S4x2048x1x1, .f32⟩
  | 86 => ⟨S4x2048x1x1, .f32⟩
  | 87 => ⟨S4x2048x1x1, .f32⟩
  | 88 => ⟨S4x2048x1x1, .f32⟩
  | 89 => ⟨S4x2048x3x3, .i1⟩
  | 90 => ⟨S4x2048x3x3, .f32⟩
  | 91 => ⟨S4x2048x3x3, .f32⟩
  | 92 => ⟨S4x2048x3x3, .f32⟩
  | 93 => ⟨S4x2048x3x3, .i1⟩
  | 94 => ⟨S4x2048x3x3, .f32⟩
  | 95 => ⟨S4x2048x3x3, .f32⟩
  | 96 => ⟨S4x2048x3x3, .i1⟩
  | 97 => ⟨S4x2048x3x3, .f32⟩
  | 98 => ⟨S4x2048x3x3, .f32⟩
  | 99 => ⟨S4x2048x3x3, .f32⟩
  | 100 => ⟨S4x2048x3x3, .f32⟩
  | 101 => ⟨S_, .f32⟩
  | 102 => ⟨S_, .f32⟩
  | 103 => ⟨S4x2048x3x3, .i1⟩
  | 104 => ⟨S4x2048x3x3, .f32⟩
  | 105 => ⟨S4x2048x3x3, .f32⟩
  | 106 => ⟨S4x2048x3x3, .f32⟩
  | 107 => ⟨S3x3, .i32⟩
  | 108 => ⟨S3x3, .i32⟩
  | 109 => ⟨S_, .i32⟩
  | 110 => ⟨S3x3, .i32⟩
  | 111 => ⟨S3x3, .i32⟩
  | 112 => ⟨S3x3, .i1⟩
  | 113 => ⟨S_, .f32⟩
  | 114 => ⟨S_, .f32⟩
  | 115 => ⟨S4x2048x3x3, .i1⟩
  | 116 => ⟨S4x2048x3x3, .f32⟩
  | 117 => ⟨S4x2048x3x3, .f32⟩
  | 118 => ⟨S_, .f32⟩
  | 119 => ⟨S4x2048x3, .f32⟩
  | 120 => ⟨S4x2048x1x3, .f32⟩
  | 121 => ⟨S4x2048x3, .f32⟩
  | 122 => ⟨S4x2048x1x3, .f32⟩
  | 123 => ⟨S4x2048x3, .f32⟩
  | 124 => ⟨S4x2048x1x3, .f32⟩
  | 125 => ⟨S4x2048x3, .f32⟩
  | 126 => ⟨S4x2048x3, .f32⟩
  | 127 => ⟨S4x2048x3, .f32⟩
  | _ => ⟨S4x2048x3, .f32⟩

abbrev hbmTy0_9 (i : Nat) : BufTy := match i % 128 with
  | 0 => ⟨S4x2048x3, .f32⟩
  | 1 => ⟨S4x2048x3, .f32⟩
  | 2 => ⟨S4x2048x1x3, .f32⟩
  | 3 => ⟨S4x2048x1x3, .f32⟩
  | 4 => ⟨S4x2048x1x3, .f32⟩
  | 5 => ⟨S4x2048x3x3, .f32⟩
  | 6 => ⟨S4x2048x3x1, .f32⟩
  | 7 => ⟨S4x2048x3, .f32⟩
  | 8 => ⟨S_, .f32⟩
  | 9 => ⟨S4x3, .f32⟩
  | 10 => ⟨S4x1x3, .f32⟩
  | 11 => ⟨S_, .f32⟩
  | 12 => ⟨S4x1x3, .f32⟩
  | 13 => ⟨S4x1x3, .f32⟩
  | 14 => ⟨S4x2048x3, .f32⟩
  | 15 => ⟨S4x2048x3, .f32⟩
  | 16 => ⟨S4x2048x3, .f32⟩
  | 17 => ⟨S_, .f32⟩
  | 18 => ⟨S4x2048, .f32⟩
  | 19 => ⟨S4x2048x1, .f32⟩
  | 20 => ⟨S4x2048x1, .f32⟩
  | 21 => ⟨S_, .f32⟩
  | 22 => ⟨S4x2048x1, .f32⟩
  | 23 => ⟨S4x2048x1, .i1⟩
  | 24 => ⟨S_, .f32⟩
  | 25 => ⟨S4x2048x1, .f32⟩
  | 26 => ⟨S4x2048x1, .f32⟩
  | 27 => ⟨S4x2048x3, .f32⟩
  | 28 => ⟨S4x2048x3, .f32⟩
  | 29 => ⟨S4x2048x3, .f32⟩
  | 30 => ⟨S_, .f32⟩
  | 31 => ⟨S4x2048, .f32⟩
  | 32 => ⟨S4x2048x1, .f32⟩
  | 33 => ⟨S4x2048x1, .f32⟩
  | 34 => ⟨S_, .f32⟩
  | 35 => ⟨S4x2048x1, .f32⟩
  | 36 => ⟨S4x2048x1, .f32⟩
  | 37 => ⟨S4x2048x3, .f32⟩
  | 38 => ⟨S4x2048x3, .f32⟩
  | 39 => ⟨S4x2048x3, .f32⟩
  | 40 => ⟨S_, .f32⟩
  | 41 => ⟨S4x2048, .f32⟩
  | 42 => ⟨S4x2048x1, .f32⟩
  | 43 => ⟨S4x2048x1, .f32⟩
  | 44 => ⟨S_, .f32⟩
  | 45 => ⟨S4x2048, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x1, .f32⟩
  | 52 => ⟨S4x2048x6, .f32⟩
  | 53 => ⟨S4x2048x64, .f32⟩
  | 54 => ⟨S1x1x64, .f32⟩
  | 55 => ⟨S4x2048x64, .f32⟩
  | 56 => ⟨S4x2048x64, .f32⟩
  | 57 => ⟨S_, .f32⟩
  | 58 => ⟨S4x2048x64, .f32⟩
  | 59 => ⟨S4x2048x64, .f32⟩
  | 60 => ⟨S4x2048x64, .f32⟩
  | 61 => ⟨S_, .f32⟩
  | 62 => ⟨S_, .f32⟩
  | 63 => ⟨S_, .f32⟩
  | 64 => ⟨S4x2048x64, .f32⟩
  | 65 => ⟨S4x2048x64, .f32⟩
  | 66 => ⟨S4x2048x64, .f32⟩
  | 67 => ⟨S4x2048x64, .f32⟩
  | 68 => ⟨S4x2048x64, .f32⟩
  | 69 => ⟨S1x1x64, .f32⟩
  | 70 => ⟨S4x2048x64, .f32⟩
  | 71 => ⟨S4x2048x64, .f32⟩
  | 72 => ⟨S4x2048x64, .f32⟩
  | 73 => ⟨S1x1x64, .f32⟩
  | 74 => ⟨S4x2048x64, .f32⟩
  | 75 => ⟨S4x2048x64, .f32⟩
  | 76 => ⟨S_, .f32⟩
  | 77 => ⟨S4x2048x64, .f32⟩
  | 78 => ⟨S4x2048x64, .f32⟩
  | 79 => ⟨S4x2048x64, .f32⟩
  | 80 => ⟨S_, .f32⟩
  | 81 => ⟨S_, .f32⟩
  | 82 => ⟨S_, .f32⟩
  | 83 => ⟨S4x2048x64, .f32⟩
  | 84 => ⟨S4x2048x64, .f32⟩
  | 85 => ⟨S4x2048x64, .f32⟩
  | 86 => ⟨S4x2048x64, .f32⟩
  | 87 => ⟨S4x2048x64, .f32⟩
  | 88 => ⟨S1x1x64, .f32⟩
  | 89 => ⟨S4x2048x64, .f32⟩
  | 90 => ⟨S4x2048x64, .f32⟩
  | 91 => ⟨S4x2048x128, .f32⟩
  | 92 => ⟨S4x2048x64, .f32⟩
  | 93 => ⟨S1x1x64, .f32⟩
  | 94 => ⟨S4x2048x64, .f32⟩
  | 95 => ⟨S4x2048x64, .f32⟩
  | 96 => ⟨S_, .f32⟩
  | 97 => ⟨S4x2048x64, .f32⟩
  | 98 => ⟨S4x2048x64, .f32⟩
  | 99 => ⟨S4x2048x64, .f32⟩
  | 100 => ⟨S_, .f32⟩
  | 101 => ⟨S_, .f32⟩
  | 102 => ⟨S_, .f32⟩
  | 103 => ⟨S4x2048x64, .f32⟩
  | 104 => ⟨S4x2048x64, .f32⟩
  | 105 => ⟨S4x2048x64, .f32⟩
  | 106 => ⟨S4x2048x64, .f32⟩
  | 107 => ⟨S4x2048x64, .f32⟩
  | 108 => ⟨S1x1x64, .f32⟩
  | 109 => ⟨S4x2048x64, .f32⟩
  | 110 => ⟨S4x2048x64, .f32⟩
  | 111 => ⟨S4x2048x1, .f32⟩
  | 112 => ⟨S1x1x1, .f32⟩
  | 113 => ⟨S4x2048x1, .f32⟩
  | 114 => ⟨S4x2048x1, .f32⟩
  | 115 => ⟨S4x2048x1, .f32⟩
  | 116 => ⟨S4x2048, .f32⟩
  | 117 => ⟨S4x2048x1, .f32⟩
  | 118 => ⟨S4x2048, .f32⟩
  | 119 => ⟨S4x2048x1, .f32⟩
  | 120 => ⟨S4x2048, .f32⟩
  | 121 => ⟨S4x2048, .f32⟩
  | 122 => ⟨S4x2048x3, .f32⟩
  | 123 => ⟨S_, .f32⟩
  | 124 => ⟨S4x2048, .f32⟩
  | 125 => ⟨S4x2048, .f32⟩
  | 126 => ⟨S4x2048x1, .f32⟩
  | 127 => ⟨S4x2048x1, .f32⟩
  | _ => ⟨S4x2048x3, .f32⟩

abbrev hbmTy0_10 (i : Nat) : BufTy := match i % 128 with
  | 0 => ⟨S4x2048x1, .f32⟩
  | 1 => ⟨S4x2048x1, .f32⟩
  | 2 => ⟨S4x2048x4, .f32⟩
  | 3 => ⟨S_, .f32⟩
  | 4 => ⟨S4x2048x3, .f32⟩
  | 5 => ⟨S4x2048x6, .f32⟩
  | 6 => ⟨S_, .f32⟩
  | 7 => ⟨S4x2048x1, .f32⟩
  | 8 => ⟨S4x2048x4, .f32⟩
  | 9 => ⟨S_, .f32⟩
  | 10 => ⟨S4x2048x1, .f32⟩
  | 11 => ⟨S4x2048x16, .f32⟩
  | _ => ⟨S4x2048x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4x2048x3, .f32⟩

abbrev bufTy : (tb : Table) → Fin (tcTables nBuf tb) → BufTy
  | .hbm, ⟨i, _⟩ => hbmTy i
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_cst : Ref sig .tc := ⟨.hbm, 17, rfl⟩
abbrev main_c_0 : Ref sig .tc := ⟨.hbm, 18, rfl⟩
abbrev main_c_1 : Ref sig .tc := ⟨.hbm, 19, rfl⟩
abbrev main_c_2 : Ref sig .tc := ⟨.hbm, 20, rfl⟩
abbrev main_c_3 : Ref sig .tc := ⟨.hbm, 21, rfl⟩
abbrev main_cst_4 : Ref sig .tc := ⟨.hbm, 22, rfl⟩
abbrev main_c_5 : Ref sig .tc := ⟨.hbm, 23, rfl⟩
abbrev main_c_6 : Ref sig .tc := ⟨.hbm, 24, rfl⟩
abbrev main_c_7 : Ref sig .tc := ⟨.hbm, 25, rfl⟩
abbrev main_c_8 : Ref sig .tc := ⟨.hbm, 26, rfl⟩
abbrev main_cst_9 : Ref sig .tc := ⟨.hbm, 27, rfl⟩
abbrev main_c_10 : Ref sig .tc := ⟨.hbm, 28, rfl⟩
abbrev main_c_11 : Ref sig .tc := ⟨.hbm, 29, rfl⟩
abbrev main_c_12 : Ref sig .tc := ⟨.hbm, 30, rfl⟩
abbrev main_c_13 : Ref sig .tc := ⟨.hbm, 31, rfl⟩
abbrev main_cst_14 : Ref sig .tc := ⟨.hbm, 32, rfl⟩
abbrev main_c_15 : Ref sig .tc := ⟨.hbm, 33, rfl⟩
abbrev main_c_16 : Ref sig .tc := ⟨.hbm, 34, rfl⟩
abbrev main_c_17 : Ref sig .tc := ⟨.hbm, 35, rfl⟩
abbrev main_c_18 : Ref sig .tc := ⟨.hbm, 36, rfl⟩
abbrev main_cst_19 : Ref sig .tc := ⟨.hbm, 37, rfl⟩
abbrev main_c_20 : Ref sig .tc := ⟨.hbm, 38, rfl⟩
abbrev main_c_21 : Ref sig .tc := ⟨.hbm, 39, rfl⟩
abbrev main_c_22 : Ref sig .tc := ⟨.hbm, 40, rfl⟩
abbrev main_c_23 : Ref sig .tc := ⟨.hbm, 41, rfl⟩
abbrev main_cst_24 : Ref sig .tc := ⟨.hbm, 42, rfl⟩
abbrev main_c_25 : Ref sig .tc := ⟨.hbm, 43, rfl⟩
abbrev main_c_26 : Ref sig .tc := ⟨.hbm, 44, rfl⟩
abbrev main_c_27 : Ref sig .tc := ⟨.hbm, 45, rfl⟩
abbrev main_c_28 : Ref sig .tc := ⟨.hbm, 46, rfl⟩
abbrev main_cst_29 : Ref sig .tc := ⟨.hbm, 47, rfl⟩
abbrev main_c_30 : Ref sig .tc := ⟨.hbm, 48, rfl⟩
abbrev main_c_31 : Ref sig .tc := ⟨.hbm, 49, rfl⟩
abbrev main_c_32 : Ref sig .tc := ⟨.hbm, 50, rfl⟩
abbrev main_c_33 : Ref sig .tc := ⟨.hbm, 51, rfl⟩
abbrev main_cst_34 : Ref sig .tc := ⟨.hbm, 52, rfl⟩
abbrev main_c_35 : Ref sig .tc := ⟨.hbm, 53, rfl⟩
abbrev main_c_36 : Ref sig .tc := ⟨.hbm, 54, rfl⟩
abbrev main_c_37 : Ref sig .tc := ⟨.hbm, 55, rfl⟩
abbrev main_c_38 : Ref sig .tc := ⟨.hbm, 56, rfl⟩
abbrev main_cst_39 : Ref sig .tc := ⟨.hbm, 57, rfl⟩
abbrev main_c_40 : Ref sig .tc := ⟨.hbm, 58, rfl⟩
abbrev main_c_41 : Ref sig .tc := ⟨.hbm, 59, rfl⟩
abbrev main_c_42 : Ref sig .tc := ⟨.hbm, 60, rfl⟩
abbrev main_c_43 : Ref sig .tc := ⟨.hbm, 61, rfl⟩
abbrev main_cst_44 : Ref sig .tc := ⟨.hbm, 62, rfl⟩
abbrev main_c_45 : Ref sig .tc := ⟨.hbm, 63, rfl⟩
abbrev main_c_46 : Ref sig .tc := ⟨.hbm, 64, rfl⟩
abbrev main_c_47 : Ref sig .tc := ⟨.hbm, 65, rfl⟩
abbrev main_c_48 : Ref sig .tc := ⟨.hbm, 66, rfl⟩
abbrev main_cst_49 : Ref sig .tc := ⟨.hbm, 67, rfl⟩
abbrev main_c_50 : Ref sig .tc := ⟨.hbm, 68, rfl⟩
abbrev main_c_51 : Ref sig .tc := ⟨.hbm, 69, rfl⟩
abbrev main_c_52 : Ref sig .tc := ⟨.hbm, 70, rfl⟩
abbrev main_c_53 : Ref sig .tc := ⟨.hbm, 71, rfl⟩
abbrev main_cst_54 : Ref sig .tc := ⟨.hbm, 72, rfl⟩
abbrev main_c_55 : Ref sig .tc := ⟨.hbm, 73, rfl⟩
abbrev main_c_56 : Ref sig .tc := ⟨.hbm, 74, rfl⟩
abbrev main_c_57 : Ref sig .tc := ⟨.hbm, 75, rfl⟩
abbrev main_c_58 : Ref sig .tc := ⟨.hbm, 76, rfl⟩
abbrev main_cst_59 : Ref sig .tc := ⟨.hbm, 77, rfl⟩
abbrev main_c_60 : Ref sig .tc := ⟨.hbm, 78, rfl⟩
abbrev main_c_61 : Ref sig .tc := ⟨.hbm, 79, rfl⟩
abbrev main_c_62 : Ref sig .tc := ⟨.hbm, 80, rfl⟩
abbrev main_c_63 : Ref sig .tc := ⟨.hbm, 81, rfl⟩
abbrev main_cst_64 : Ref sig .tc := ⟨.hbm, 82, rfl⟩
abbrev main_c_65 : Ref sig .tc := ⟨.hbm, 83, rfl⟩
abbrev main_c_66 : Ref sig .tc := ⟨.hbm, 84, rfl⟩
abbrev main_c_67 : Ref sig .tc := ⟨.hbm, 85, rfl⟩
abbrev main_c_68 : Ref sig .tc := ⟨.hbm, 86, rfl⟩
abbrev main_cst_69 : Ref sig .tc := ⟨.hbm, 87, rfl⟩
abbrev main_c_70 : Ref sig .tc := ⟨.hbm, 88, rfl⟩
abbrev main_c_71 : Ref sig .tc := ⟨.hbm, 89, rfl⟩
abbrev main_c_72 : Ref sig .tc := ⟨.hbm, 90, rfl⟩
abbrev main_v0 : Ref sig .tc := ⟨.hbm, 91, rfl⟩
abbrev main_cst_73 : Ref sig .tc := ⟨.hbm, 92, rfl⟩
abbrev main_v1 : Ref sig .tc := ⟨.hbm, 93, rfl⟩
abbrev main_v2 : Ref sig .tc := ⟨.hbm, 94, rfl⟩
abbrev main_v3 : Ref sig .tc := ⟨.hbm, 95, rfl⟩
abbrev main_v4 : Ref sig .tc := ⟨.hbm, 96, rfl⟩
abbrev main_v5 : Ref sig .tc := ⟨.hbm, 97, rfl⟩
abbrev main_v6 : Ref sig .tc := ⟨.hbm, 98, rfl⟩
abbrev main_v7 : Ref sig .tc := ⟨.hbm, 99, rfl⟩
abbrev main_cst_74 : Ref sig .tc := ⟨.hbm, 100, rfl⟩
abbrev main_v8 : Ref sig .tc := ⟨.hbm, 101, rfl⟩
abbrev main_v9 : Ref sig .tc := ⟨.hbm, 102, rfl⟩
abbrev main_v10 : Ref sig .tc := ⟨.hbm, 103, rfl⟩
abbrev main_cst_75 : Ref sig .tc := ⟨.hbm, 104, rfl⟩
abbrev main_v11 : Ref sig .tc := ⟨.hbm, 105, rfl⟩
abbrev main_v12 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_c_76 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_cst_77 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_values : Ref sig .tc := ⟨.hbm, 120, rfl⟩
abbrev main_indices : Ref sig .tc := ⟨.hbm, 121, rfl⟩
abbrev main_c_78 : Ref sig .tc := ⟨.hbm, 122, rfl⟩
abbrev main_v24 : Ref sig .tc := ⟨.hbm, 123, rfl⟩
abbrev main_v25 : Ref sig .tc := ⟨.hbm, 124, rfl⟩
abbrev main_c_79 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_cst_80 : Ref sig .tc := ⟨.hbm, 135, rfl⟩
abbrev main_v35 : Ref sig .tc := ⟨.hbm, 136, rfl⟩
abbrev main_v36 : Ref sig .tc := ⟨.hbm, 137, rfl⟩
abbrev main_call0_v0 : Ref sig .tc := ⟨.hbm, 138, rfl⟩
abbrev main_call0_cst : Ref sig .tc := ⟨.hbm, 139, rfl⟩
abbrev main_call0_v1 : Ref sig .tc := ⟨.hbm, 140, rfl⟩
abbrev main_v37 : Ref sig .tc := ⟨.hbm, 141, rfl⟩
abbrev main_cst_81 : Ref sig .tc := ⟨.hbm, 142, rfl⟩
abbrev main_v38 : Ref sig .tc := ⟨.hbm, 143, rfl⟩
abbrev main_v39 : Ref sig .tc := ⟨.hbm, 144, rfl⟩
abbrev main_cst_82 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_c_83 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_call1_v0 : Ref sig .tc := ⟨.hbm, 159, rfl⟩
abbrev main_call1_cst : Ref sig .tc := ⟨.hbm, 160, rfl⟩
abbrev main_call1_v1 : Ref sig .tc := ⟨.hbm, 161, rfl⟩
abbrev main_call1_v2 : Ref sig .tc := ⟨.hbm, 162, rfl⟩
abbrev main_call1_v3 : Ref sig .tc := ⟨.hbm, 163, rfl⟩
abbrev main_call1_cst_0 : Ref sig .tc := ⟨.hbm, 164, rfl⟩
abbrev main_call1_call0_v0 : Ref sig .tc := ⟨.hbm, 165, rfl⟩
abbrev main_call1_call0_v1 : Ref sig .tc := ⟨.hbm, 166, rfl⟩
abbrev main_call1_v4 : Ref sig .tc := ⟨.hbm, 167, rfl⟩
abbrev main_call1_cst_1 : Ref sig .tc := ⟨.hbm, 168, rfl⟩
abbrev main_call1_v5 : Ref sig .tc := ⟨.hbm, 169, rfl⟩
abbrev main_call1_v6 : Ref sig .tc := ⟨.hbm, 170, rfl⟩
abbrev main_call1_v7 : Ref sig .tc := ⟨.hbm, 171, rfl⟩
abbrev main_call1_cst_2 : Ref sig .tc := ⟨.hbm, 172, rfl⟩
abbrev main_call1_v8 : Ref sig .tc := ⟨.hbm, 173, rfl⟩
abbrev main_call1_v9 : Ref sig .tc := ⟨.hbm, 174, rfl⟩
abbrev main_call1_cst_3 : Ref sig .tc := ⟨.hbm, 175, rfl⟩
abbrev main_call1_cst_4 : Ref sig .tc := ⟨.hbm, 176, rfl⟩
abbrev main_call1_call1_v0 : Ref sig .tc := ⟨.hbm, 177, rfl⟩
abbrev main_call1_call1_v1 : Ref sig .tc := ⟨.hbm, 178, rfl⟩
abbrev main_call1_v10 : Ref sig .tc := ⟨.hbm, 179, rfl⟩
abbrev main_call1_v11 : Ref sig .tc := ⟨.hbm, 180, rfl⟩
abbrev main_call1_v12 : Ref sig .tc := ⟨.hbm, 181, rfl⟩
abbrev main_call1_cst_5 : Ref sig .tc := ⟨.hbm, 182, rfl⟩
abbrev main_call1_v13 : Ref sig .tc := ⟨.hbm, 183, rfl⟩
abbrev main_call1_v14 : Ref sig .tc := ⟨.hbm, 184, rfl⟩
abbrev main_call1_v15 : Ref sig .tc := ⟨.hbm, 185, rfl⟩
abbrev main_call1_v16 : Ref sig .tc := ⟨.hbm, 186, rfl⟩
abbrev main_call1_v17 : Ref sig .tc := ⟨.hbm, 187, rfl⟩
abbrev main_call1_v18 : Ref sig .tc := ⟨.hbm, 188, rfl⟩
abbrev main_call1_cst_6 : Ref sig .tc := ⟨.hbm, 189, rfl⟩
abbrev main_call1_call2_v0 : Ref sig .tc := ⟨.hbm, 190, rfl⟩
abbrev main_call1_call2_v1 : Ref sig .tc := ⟨.hbm, 191, rfl⟩
abbrev main_call1_v19 : Ref sig .tc := ⟨.hbm, 192, rfl⟩
abbrev main_call1_v20 : Ref sig .tc := ⟨.hbm, 193, rfl⟩
abbrev main_call1_cst_7 : Ref sig .tc := ⟨.hbm, 194, rfl⟩
abbrev main_call1_v21 : Ref sig .tc := ⟨.hbm, 195, rfl⟩
abbrev main_call1_v22 : Ref sig .tc := ⟨.hbm, 196, rfl⟩
abbrev main_call1_v23 : Ref sig .tc := ⟨.hbm, 197, rfl⟩
abbrev main_call1_cst_8 : Ref sig .tc := ⟨.hbm, 198, rfl⟩
abbrev main_call1_v24 : Ref sig .tc := ⟨.hbm, 199, rfl⟩
abbrev main_v52_0 : Ref sig .tc := ⟨.hbm, 200, rfl⟩
abbrev main_v52_1 : Ref sig .tc := ⟨.hbm, 201, rfl⟩
abbrev main_v53 : Ref sig .tc := ⟨.hbm, 202, rfl⟩
abbrev main_call2_v0 : Ref sig .tc := ⟨.hbm, 203, rfl⟩
abbrev main_call2_v1 : Ref sig .tc := ⟨.hbm, 204, rfl⟩
abbrev main_call2_v2 : Ref sig .tc := ⟨.hbm, 205, rfl⟩
abbrev main_v54 : Ref sig .tc := ⟨.hbm, 206, rfl⟩
abbrev main_call3_v0 : Ref sig .tc := ⟨.hbm, 207, rfl⟩
abbrev main_call3_v1 : Ref sig .tc := ⟨.hbm, 208, rfl⟩
abbrev main_v55 : Ref sig .tc := ⟨.hbm, 209, rfl⟩
abbrev main_call4_v0 : Ref sig .tc := ⟨.hbm, 210, rfl⟩
abbrev main_call4_v1 : Ref sig .tc := ⟨.hbm, 211, rfl⟩
abbrev main_v56 : Ref sig .tc := ⟨.hbm, 212, rfl⟩
abbrev main_v57 : Ref sig .tc := ⟨.hbm, 213, rfl⟩
abbrev main_v58 : Ref sig .tc := ⟨.hbm, 214, rfl⟩
abbrev main_cst_84 : Ref sig .tc := ⟨.hbm, 215, rfl⟩
abbrev main_call5_v0 : Ref sig .tc := ⟨.hbm, 216, rfl⟩
abbrev main_call5_v1 : Ref sig .tc := ⟨.hbm, 217, rfl⟩
abbrev main_call5_v2 : Ref sig .tc := ⟨.hbm, 218, rfl⟩
abbrev main_v59 : Ref sig .tc := ⟨.hbm, 219, rfl⟩
abbrev main_v60 : Ref sig .tc := ⟨.hbm, 220, rfl⟩
abbrev main_v61 : Ref sig .tc := ⟨.hbm, 221, rfl⟩
abbrev main_v62 : Ref sig .tc := ⟨.hbm, 222, rfl⟩
abbrev main_v63 : Ref sig .tc := ⟨.hbm, 223, rfl⟩
abbrev main_call6_v0 : Ref sig .tc := ⟨.hbm, 224, rfl⟩
abbrev main_call6_cst : Ref sig .tc := ⟨.hbm, 225, rfl⟩
abbrev main_call6_v1 : Ref sig .tc := ⟨.hbm, 226, rfl⟩
abbrev main_call6_v2 : Ref sig .tc := ⟨.hbm, 227, rfl⟩
abbrev main_call6_v3 : Ref sig .tc := ⟨.hbm, 228, rfl⟩
abbrev main_call6_cst_0 : Ref sig .tc := ⟨.hbm, 229, rfl⟩
abbrev main_call6_call0_v0 : Ref sig .tc := ⟨.hbm, 230, rfl⟩
abbrev main_call6_call0_v1 : Ref sig .tc := ⟨.hbm, 231, rfl⟩
abbrev main_call6_v4 : Ref sig .tc := ⟨.hbm, 232, rfl⟩
abbrev main_call6_cst_1 : Ref sig .tc := ⟨.hbm, 233, rfl⟩
abbrev main_call6_v5 : Ref sig .tc := ⟨.hbm, 234, rfl⟩
abbrev main_call6_v6 : Ref sig .tc := ⟨.hbm, 235, rfl⟩
abbrev main_call6_v7 : Ref sig .tc := ⟨.hbm, 236, rfl⟩
abbrev main_call6_cst_2 : Ref sig .tc := ⟨.hbm, 237, rfl⟩
abbrev main_call6_v8 : Ref sig .tc := ⟨.hbm, 238, rfl⟩
abbrev main_call6_v9 : Ref sig .tc := ⟨.hbm, 239, rfl⟩
abbrev main_call6_cst_3 : Ref sig .tc := ⟨.hbm, 240, rfl⟩
abbrev main_call6_cst_4 : Ref sig .tc := ⟨.hbm, 241, rfl⟩
abbrev main_call6_call1_v0 : Ref sig .tc := ⟨.hbm, 242, rfl⟩
abbrev main_call6_call1_v1 : Ref sig .tc := ⟨.hbm, 243, rfl⟩
abbrev main_call6_v10 : Ref sig .tc := ⟨.hbm, 244, rfl⟩
abbrev main_call6_v11 : Ref sig .tc := ⟨.hbm, 245, rfl⟩
abbrev main_call6_v12 : Ref sig .tc := ⟨.hbm, 246, rfl⟩
abbrev main_call6_cst_5 : Ref sig .tc := ⟨.hbm, 247, rfl⟩
abbrev main_call6_v13 : Ref sig .tc := ⟨.hbm, 248, rfl⟩
abbrev main_call6_v14 : Ref sig .tc := ⟨.hbm, 249, rfl⟩
abbrev main_call6_v15 : Ref sig .tc := ⟨.hbm, 250, rfl⟩
abbrev main_call6_v16 : Ref sig .tc := ⟨.hbm, 251, rfl⟩
abbrev main_call6_v17 : Ref sig .tc := ⟨.hbm, 252, rfl⟩
abbrev main_call6_v18 : Ref sig .tc := ⟨.hbm, 253, rfl⟩
abbrev main_call6_cst_6 : Ref sig .tc := ⟨.hbm, 254, rfl⟩
abbrev main_call6_call2_v0 : Ref sig .tc := ⟨.hbm, 255, rfl⟩
abbrev main_call6_call2_v1 : Ref sig .tc := ⟨.hbm, 256, rfl⟩
abbrev main_call6_v19 : Ref sig .tc := ⟨.hbm, 257, rfl⟩
abbrev main_call6_v20 : Ref sig .tc := ⟨.hbm, 258, rfl⟩
abbrev main_call6_cst_7 : Ref sig .tc := ⟨.hbm, 259, rfl⟩
abbrev main_call6_v21 : Ref sig .tc := ⟨.hbm, 260, rfl⟩
abbrev main_call6_v22 : Ref sig .tc := ⟨.hbm, 261, rfl⟩
abbrev main_call6_v23 : Ref sig .tc := ⟨.hbm, 262, rfl⟩
abbrev main_call6_cst_8 : Ref sig .tc := ⟨.hbm, 263, rfl⟩
abbrev main_call6_v24 : Ref sig .tc := ⟨.hbm, 264, rfl⟩
abbrev main_v64_0 : Ref sig .tc := ⟨.hbm, 265, rfl⟩
abbrev main_v64_1 : Ref sig .tc := ⟨.hbm, 266, rfl⟩
abbrev main_v65 : Ref sig .tc := ⟨.hbm, 267, rfl⟩
abbrev main_call7_v0 : Ref sig .tc := ⟨.hbm, 268, rfl⟩
abbrev main_call7_v1 : Ref sig .tc := ⟨.hbm, 269, rfl⟩
abbrev main_call7_v2 : Ref sig .tc := ⟨.hbm, 270, rfl⟩
abbrev main_v66 : Ref sig .tc := ⟨.hbm, 271, rfl⟩
abbrev main_call8_v0 : Ref sig .tc := ⟨.hbm, 272, rfl⟩
abbrev main_call8_v1 : Ref sig .tc := ⟨.hbm, 273, rfl⟩
abbrev main_v67 : Ref sig .tc := ⟨.hbm, 274, rfl⟩
abbrev main_call9_v0 : Ref sig .tc := ⟨.hbm, 275, rfl⟩
abbrev main_call9_v1 : Ref sig .tc := ⟨.hbm, 276, rfl⟩
abbrev main_v68 : Ref sig .tc := ⟨.hbm, 277, rfl⟩
abbrev main_v69 : Ref sig .tc := ⟨.hbm, 278, rfl⟩
abbrev main_v70 : Ref sig .tc := ⟨.hbm, 279, rfl⟩
abbrev main_cst_85 : Ref sig .tc := ⟨.hbm, 280, rfl⟩
abbrev main_call10_v0 : Ref sig .tc := ⟨.hbm, 281, rfl⟩
abbrev main_call10_v1 : Ref sig .tc := ⟨.hbm, 282, rfl⟩
abbrev main_call10_v2 : Ref sig .tc := ⟨.hbm, 283, rfl⟩
abbrev main_v71 : Ref sig .tc := ⟨.hbm, 284, rfl⟩
abbrev main_v72 : Ref sig .tc := ⟨.hbm, 285, rfl⟩
abbrev main_v73 : Ref sig .tc := ⟨.hbm, 286, rfl⟩
abbrev main_v74 : Ref sig .tc := ⟨.hbm, 287, rfl⟩
abbrev main_v75 : Ref sig .tc := ⟨.hbm, 288, rfl⟩
abbrev main_call11_v0 : Ref sig .tc := ⟨.hbm, 289, rfl⟩
abbrev main_call11_cst : Ref sig .tc := ⟨.hbm, 290, rfl⟩
abbrev main_call11_v1 : Ref sig .tc := ⟨.hbm, 291, rfl⟩
abbrev main_call11_v2 : Ref sig .tc := ⟨.hbm, 292, rfl⟩
abbrev main_call11_v3 : Ref sig .tc := ⟨.hbm, 293, rfl⟩
abbrev main_call11_cst_0 : Ref sig .tc := ⟨.hbm, 294, rfl⟩
abbrev main_call11_call0_v0 : Ref sig .tc := ⟨.hbm, 295, rfl⟩
abbrev main_call11_call0_v1 : Ref sig .tc := ⟨.hbm, 296, rfl⟩
abbrev main_call11_v4 : Ref sig .tc := ⟨.hbm, 297, rfl⟩
abbrev main_call11_cst_1 : Ref sig .tc := ⟨.hbm, 298, rfl⟩
abbrev main_call11_v5 : Ref sig .tc := ⟨.hbm, 299, rfl⟩
abbrev main_call11_v6 : Ref sig .tc := ⟨.hbm, 300, rfl⟩
abbrev main_call11_v7 : Ref sig .tc := ⟨.hbm, 301, rfl⟩
abbrev main_call11_cst_2 : Ref sig .tc := ⟨.hbm, 302, rfl⟩
abbrev main_call11_v8 : Ref sig .tc := ⟨.hbm, 303, rfl⟩
abbrev main_call11_v9 : Ref sig .tc := ⟨.hbm, 304, rfl⟩
abbrev main_call11_cst_3 : Ref sig .tc := ⟨.hbm, 305, rfl⟩
abbrev main_call11_cst_4 : Ref sig .tc := ⟨.hbm, 306, rfl⟩
abbrev main_call11_call1_v0 : Ref sig .tc := ⟨.hbm, 307, rfl⟩
abbrev main_call11_call1_v1 : Ref sig .tc := ⟨.hbm, 308, rfl⟩
abbrev main_call11_v10 : Ref sig .tc := ⟨.hbm, 309, rfl⟩
abbrev main_call11_v11 : Ref sig .tc := ⟨.hbm, 310, rfl⟩
abbrev main_call11_v12 : Ref sig .tc := ⟨.hbm, 311, rfl⟩
abbrev main_call11_cst_5 : Ref sig .tc := ⟨.hbm, 312, rfl⟩
abbrev main_call11_v13 : Ref sig .tc := ⟨.hbm, 313, rfl⟩
abbrev main_call11_v14 : Ref sig .tc := ⟨.hbm, 314, rfl⟩
abbrev main_call11_v15 : Ref sig .tc := ⟨.hbm, 315, rfl⟩
abbrev main_call11_v16 : Ref sig .tc := ⟨.hbm, 316, rfl⟩
abbrev main_call11_v17 : Ref sig .tc := ⟨.hbm, 317, rfl⟩
abbrev main_call11_v18 : Ref sig .tc := ⟨.hbm, 318, rfl⟩
abbrev main_call11_cst_6 : Ref sig .tc := ⟨.hbm, 319, rfl⟩
abbrev main_call11_call2_v0 : Ref sig .tc := ⟨.hbm, 320, rfl⟩
abbrev main_call11_call2_v1 : Ref sig .tc := ⟨.hbm, 321, rfl⟩
abbrev main_call11_v19 : Ref sig .tc := ⟨.hbm, 322, rfl⟩
abbrev main_call11_v20 : Ref sig .tc := ⟨.hbm, 323, rfl⟩
abbrev main_call11_cst_7 : Ref sig .tc := ⟨.hbm, 324, rfl⟩
abbrev main_call11_v21 : Ref sig .tc := ⟨.hbm, 325, rfl⟩
abbrev main_call11_v22 : Ref sig .tc := ⟨.hbm, 326, rfl⟩
abbrev main_call11_v23 : Ref sig .tc := ⟨.hbm, 327, rfl⟩
abbrev main_call11_cst_8 : Ref sig .tc := ⟨.hbm, 328, rfl⟩
abbrev main_call11_v24 : Ref sig .tc := ⟨.hbm, 329, rfl⟩
abbrev main_v76_0 : Ref sig .tc := ⟨.hbm, 330, rfl⟩
abbrev main_v76_1 : Ref sig .tc := ⟨.hbm, 331, rfl⟩
abbrev main_v77 : Ref sig .tc := ⟨.hbm, 332, rfl⟩
abbrev main_call12_v0 : Ref sig .tc := ⟨.hbm, 333, rfl⟩
abbrev main_call12_v1 : Ref sig .tc := ⟨.hbm, 334, rfl⟩
abbrev main_call12_v2 : Ref sig .tc := ⟨.hbm, 335, rfl⟩
abbrev main_v78 : Ref sig .tc := ⟨.hbm, 336, rfl⟩
abbrev main_call13_v0 : Ref sig .tc := ⟨.hbm, 337, rfl⟩
abbrev main_call13_v1 : Ref sig .tc := ⟨.hbm, 338, rfl⟩
abbrev main_v79 : Ref sig .tc := ⟨.hbm, 339, rfl⟩
abbrev main_call14_v0 : Ref sig .tc := ⟨.hbm, 340, rfl⟩
abbrev main_call14_v1 : Ref sig .tc := ⟨.hbm, 341, rfl⟩
abbrev main_v80 : Ref sig .tc := ⟨.hbm, 342, rfl⟩
abbrev main_v81 : Ref sig .tc := ⟨.hbm, 343, rfl⟩
abbrev main_v82 : Ref sig .tc := ⟨.hbm, 344, rfl⟩
abbrev main_cst_86 : Ref sig .tc := ⟨.hbm, 345, rfl⟩
abbrev main_call15_v0 : Ref sig .tc := ⟨.hbm, 346, rfl⟩
abbrev main_call15_v1 : Ref sig .tc := ⟨.hbm, 347, rfl⟩
abbrev main_call15_v2 : Ref sig .tc := ⟨.hbm, 348, rfl⟩
abbrev main_v83 : Ref sig .tc := ⟨.hbm, 349, rfl⟩
abbrev main_v84 : Ref sig .tc := ⟨.hbm, 350, rfl⟩
abbrev main_v85 : Ref sig .tc := ⟨.hbm, 351, rfl⟩
abbrev main_v86 : Ref sig .tc := ⟨.hbm, 352, rfl⟩
abbrev main_v87 : Ref sig .tc := ⟨.hbm, 353, rfl⟩
abbrev main_call16_v0 : Ref sig .tc := ⟨.hbm, 354, rfl⟩
abbrev main_call16_cst : Ref sig .tc := ⟨.hbm, 355, rfl⟩
abbrev main_call16_v1 : Ref sig .tc := ⟨.hbm, 356, rfl⟩
abbrev main_call16_v2 : Ref sig .tc := ⟨.hbm, 357, rfl⟩
abbrev main_call16_v3 : Ref sig .tc := ⟨.hbm, 358, rfl⟩
abbrev main_call16_cst_0 : Ref sig .tc := ⟨.hbm, 359, rfl⟩
abbrev main_call16_call0_v0 : Ref sig .tc := ⟨.hbm, 360, rfl⟩
abbrev main_call16_call0_v1 : Ref sig .tc := ⟨.hbm, 361, rfl⟩
abbrev main_call16_v4 : Ref sig .tc := ⟨.hbm, 362, rfl⟩
abbrev main_call16_cst_1 : Ref sig .tc := ⟨.hbm, 363, rfl⟩
abbrev main_call16_v5 : Ref sig .tc := ⟨.hbm, 364, rfl⟩
abbrev main_call16_v6 : Ref sig .tc := ⟨.hbm, 365, rfl⟩
abbrev main_call16_v7 : Ref sig .tc := ⟨.hbm, 366, rfl⟩
abbrev main_call16_cst_2 : Ref sig .tc := ⟨.hbm, 367, rfl⟩
abbrev main_call16_v8 : Ref sig .tc := ⟨.hbm, 368, rfl⟩
abbrev main_call16_v9 : Ref sig .tc := ⟨.hbm, 369, rfl⟩
abbrev main_call16_cst_3 : Ref sig .tc := ⟨.hbm, 370, rfl⟩
abbrev main_call16_cst_4 : Ref sig .tc := ⟨.hbm, 371, rfl⟩
abbrev main_call16_call1_v0 : Ref sig .tc := ⟨.hbm, 372, rfl⟩
abbrev main_call16_call1_v1 : Ref sig .tc := ⟨.hbm, 373, rfl⟩
abbrev main_call16_v10 : Ref sig .tc := ⟨.hbm, 374, rfl⟩
abbrev main_call16_v11 : Ref sig .tc := ⟨.hbm, 375, rfl⟩
abbrev main_call16_v12 : Ref sig .tc := ⟨.hbm, 376, rfl⟩
abbrev main_call16_cst_5 : Ref sig .tc := ⟨.hbm, 377, rfl⟩
abbrev main_call16_v13 : Ref sig .tc := ⟨.hbm, 378, rfl⟩
abbrev main_call16_v14 : Ref sig .tc := ⟨.hbm, 379, rfl⟩
abbrev main_call16_v15 : Ref sig .tc := ⟨.hbm, 380, rfl⟩
abbrev main_call16_v16 : Ref sig .tc := ⟨.hbm, 381, rfl⟩
abbrev main_call16_v17 : Ref sig .tc := ⟨.hbm, 382, rfl⟩
abbrev main_call16_v18 : Ref sig .tc := ⟨.hbm, 383, rfl⟩
abbrev main_call16_cst_6 : Ref sig .tc := ⟨.hbm, 384, rfl⟩
abbrev main_call16_call2_v0 : Ref sig .tc := ⟨.hbm, 385, rfl⟩
abbrev main_call16_call2_v1 : Ref sig .tc := ⟨.hbm, 386, rfl⟩
abbrev main_call16_v19 : Ref sig .tc := ⟨.hbm, 387, rfl⟩
abbrev main_call16_v20 : Ref sig .tc := ⟨.hbm, 388, rfl⟩
abbrev main_call16_cst_7 : Ref sig .tc := ⟨.hbm, 389, rfl⟩
abbrev main_call16_v21 : Ref sig .tc := ⟨.hbm, 390, rfl⟩
abbrev main_call16_v22 : Ref sig .tc := ⟨.hbm, 391, rfl⟩
abbrev main_call16_v23 : Ref sig .tc := ⟨.hbm, 392, rfl⟩
abbrev main_call16_cst_8 : Ref sig .tc := ⟨.hbm, 393, rfl⟩
abbrev main_call16_v24 : Ref sig .tc := ⟨.hbm, 394, rfl⟩
abbrev main_v88_0 : Ref sig .tc := ⟨.hbm, 395, rfl⟩
abbrev main_v88_1 : Ref sig .tc := ⟨.hbm, 396, rfl⟩
abbrev main_v89 : Ref sig .tc := ⟨.hbm, 397, rfl⟩
abbrev main_call17_v0 : Ref sig .tc := ⟨.hbm, 398, rfl⟩
abbrev main_call17_v1 : Ref sig .tc := ⟨.hbm, 399, rfl⟩
abbrev main_call17_v2 : Ref sig .tc := ⟨.hbm, 400, rfl⟩
abbrev main_v90 : Ref sig .tc := ⟨.hbm, 401, rfl⟩
abbrev main_call18_v0 : Ref sig .tc := ⟨.hbm, 402, rfl⟩
abbrev main_call18_v1 : Ref sig .tc := ⟨.hbm, 403, rfl⟩
abbrev main_v91 : Ref sig .tc := ⟨.hbm, 404, rfl⟩
abbrev main_call19_v0 : Ref sig .tc := ⟨.hbm, 405, rfl⟩
abbrev main_call19_v1 : Ref sig .tc := ⟨.hbm, 406, rfl⟩
abbrev main_v92 : Ref sig .tc := ⟨.hbm, 407, rfl⟩
abbrev main_v93 : Ref sig .tc := ⟨.hbm, 408, rfl⟩
abbrev main_v94 : Ref sig .tc := ⟨.hbm, 409, rfl⟩
abbrev main_cst_87 : Ref sig .tc := ⟨.hbm, 410, rfl⟩
abbrev main_call20_v0 : Ref sig .tc := ⟨.hbm, 411, rfl⟩
abbrev main_call20_v1 : Ref sig .tc := ⟨.hbm, 412, rfl⟩
abbrev main_call20_v2 : Ref sig .tc := ⟨.hbm, 413, rfl⟩
abbrev main_v95 : Ref sig .tc := ⟨.hbm, 414, rfl⟩
abbrev main_v96 : Ref sig .tc := ⟨.hbm, 415, rfl⟩
abbrev main_v97 : Ref sig .tc := ⟨.hbm, 416, rfl⟩
abbrev main_v98 : Ref sig .tc := ⟨.hbm, 417, rfl⟩
abbrev main_v99 : Ref sig .tc := ⟨.hbm, 418, rfl⟩
abbrev main_call21_v0 : Ref sig .tc := ⟨.hbm, 419, rfl⟩
abbrev main_call21_cst : Ref sig .tc := ⟨.hbm, 420, rfl⟩
abbrev main_call21_v1 : Ref sig .tc := ⟨.hbm, 421, rfl⟩
abbrev main_call21_v2 : Ref sig .tc := ⟨.hbm, 422, rfl⟩
abbrev main_call21_v3 : Ref sig .tc := ⟨.hbm, 423, rfl⟩
abbrev main_call21_cst_0 : Ref sig .tc := ⟨.hbm, 424, rfl⟩
abbrev main_call21_call0_v0 : Ref sig .tc := ⟨.hbm, 425, rfl⟩
abbrev main_call21_call0_v1 : Ref sig .tc := ⟨.hbm, 426, rfl⟩
abbrev main_call21_v4 : Ref sig .tc := ⟨.hbm, 427, rfl⟩
abbrev main_call21_cst_1 : Ref sig .tc := ⟨.hbm, 428, rfl⟩
abbrev main_call21_v5 : Ref sig .tc := ⟨.hbm, 429, rfl⟩
abbrev main_call21_v6 : Ref sig .tc := ⟨.hbm, 430, rfl⟩
abbrev main_call21_v7 : Ref sig .tc := ⟨.hbm, 431, rfl⟩
abbrev main_call21_cst_2 : Ref sig .tc := ⟨.hbm, 432, rfl⟩
abbrev main_call21_v8 : Ref sig .tc := ⟨.hbm, 433, rfl⟩
abbrev main_call21_v9 : Ref sig .tc := ⟨.hbm, 434, rfl⟩
abbrev main_call21_cst_3 : Ref sig .tc := ⟨.hbm, 435, rfl⟩
abbrev main_call21_cst_4 : Ref sig .tc := ⟨.hbm, 436, rfl⟩
abbrev main_call21_call1_v0 : Ref sig .tc := ⟨.hbm, 437, rfl⟩
abbrev main_call21_call1_v1 : Ref sig .tc := ⟨.hbm, 438, rfl⟩
abbrev main_call21_v10 : Ref sig .tc := ⟨.hbm, 439, rfl⟩
abbrev main_call21_v11 : Ref sig .tc := ⟨.hbm, 440, rfl⟩
abbrev main_call21_v12 : Ref sig .tc := ⟨.hbm, 441, rfl⟩
abbrev main_call21_cst_5 : Ref sig .tc := ⟨.hbm, 442, rfl⟩
abbrev main_call21_v13 : Ref sig .tc := ⟨.hbm, 443, rfl⟩
abbrev main_call21_v14 : Ref sig .tc := ⟨.hbm, 444, rfl⟩
abbrev main_call21_v15 : Ref sig .tc := ⟨.hbm, 445, rfl⟩
abbrev main_call21_v16 : Ref sig .tc := ⟨.hbm, 446, rfl⟩
abbrev main_call21_v17 : Ref sig .tc := ⟨.hbm, 447, rfl⟩
abbrev main_call21_v18 : Ref sig .tc := ⟨.hbm, 448, rfl⟩
abbrev main_call21_cst_6 : Ref sig .tc := ⟨.hbm, 449, rfl⟩
abbrev main_call21_call2_v0 : Ref sig .tc := ⟨.hbm, 450, rfl⟩
abbrev main_call21_call2_v1 : Ref sig .tc := ⟨.hbm, 451, rfl⟩
abbrev main_call21_v19 : Ref sig .tc := ⟨.hbm, 452, rfl⟩
abbrev main_call21_v20 : Ref sig .tc := ⟨.hbm, 453, rfl⟩
abbrev main_call21_cst_7 : Ref sig .tc := ⟨.hbm, 454, rfl⟩
abbrev main_call21_v21 : Ref sig .tc := ⟨.hbm, 455, rfl⟩
abbrev main_call21_v22 : Ref sig .tc := ⟨.hbm, 456, rfl⟩
abbrev main_call21_v23 : Ref sig .tc := ⟨.hbm, 457, rfl⟩
abbrev main_call21_cst_8 : Ref sig .tc := ⟨.hbm, 458, rfl⟩
abbrev main_call21_v24 : Ref sig .tc := ⟨.hbm, 459, rfl⟩
abbrev main_v100_0 : Ref sig .tc := ⟨.hbm, 460, rfl⟩
abbrev main_v100_1 : Ref sig .tc := ⟨.hbm, 461, rfl⟩
abbrev main_v101 : Ref sig .tc := ⟨.hbm, 462, rfl⟩
abbrev main_call22_v0 : Ref sig .tc := ⟨.hbm, 463, rfl⟩
abbrev main_call22_v1 : Ref sig .tc := ⟨.hbm, 464, rfl⟩
abbrev main_call22_v2 : Ref sig .tc := ⟨.hbm, 465, rfl⟩
abbrev main_v102 : Ref sig .tc := ⟨.hbm, 466, rfl⟩
abbrev main_call23_v0 : Ref sig .tc := ⟨.hbm, 467, rfl⟩
abbrev main_call23_v1 : Ref sig .tc := ⟨.hbm, 468, rfl⟩
abbrev main_v103 : Ref sig .tc := ⟨.hbm, 469, rfl⟩
abbrev main_call24_v0 : Ref sig .tc := ⟨.hbm, 470, rfl⟩
abbrev main_call24_v1 : Ref sig .tc := ⟨.hbm, 471, rfl⟩
abbrev main_v104 : Ref sig .tc := ⟨.hbm, 472, rfl⟩
abbrev main_v105 : Ref sig .tc := ⟨.hbm, 473, rfl⟩
abbrev main_v106 : Ref sig .tc := ⟨.hbm, 474, rfl⟩
abbrev main_cst_88 : Ref sig .tc := ⟨.hbm, 475, rfl⟩
abbrev main_call25_v0 : Ref sig .tc := ⟨.hbm, 476, rfl⟩
abbrev main_call25_v1 : Ref sig .tc := ⟨.hbm, 477, rfl⟩
abbrev main_call25_v2 : Ref sig .tc := ⟨.hbm, 478, rfl⟩
abbrev main_v107 : Ref sig .tc := ⟨.hbm, 479, rfl⟩
abbrev main_v108 : Ref sig .tc := ⟨.hbm, 480, rfl⟩
abbrev main_v109 : Ref sig .tc := ⟨.hbm, 481, rfl⟩
abbrev main_v110 : Ref sig .tc := ⟨.hbm, 482, rfl⟩
abbrev main_v111 : Ref sig .tc := ⟨.hbm, 483, rfl⟩
abbrev main_call26_v0 : Ref sig .tc := ⟨.hbm, 484, rfl⟩
abbrev main_call26_cst : Ref sig .tc := ⟨.hbm, 485, rfl⟩
abbrev main_call26_v1 : Ref sig .tc := ⟨.hbm, 486, rfl⟩
abbrev main_call26_v2 : Ref sig .tc := ⟨.hbm, 487, rfl⟩
abbrev main_call26_v3 : Ref sig .tc := ⟨.hbm, 488, rfl⟩
abbrev main_call26_cst_0 : Ref sig .tc := ⟨.hbm, 489, rfl⟩
abbrev main_call26_call0_v0 : Ref sig .tc := ⟨.hbm, 490, rfl⟩
abbrev main_call26_call0_v1 : Ref sig .tc := ⟨.hbm, 491, rfl⟩
abbrev main_call26_v4 : Ref sig .tc := ⟨.hbm, 492, rfl⟩
abbrev main_call26_cst_1 : Ref sig .tc := ⟨.hbm, 493, rfl⟩
abbrev main_call26_v5 : Ref sig .tc := ⟨.hbm, 494, rfl⟩
abbrev main_call26_v6 : Ref sig .tc := ⟨.hbm, 495, rfl⟩
abbrev main_call26_v7 : Ref sig .tc := ⟨.hbm, 496, rfl⟩
abbrev main_call26_cst_2 : Ref sig .tc := ⟨.hbm, 497, rfl⟩
abbrev main_call26_v8 : Ref sig .tc := ⟨.hbm, 498, rfl⟩
abbrev main_call26_v9 : Ref sig .tc := ⟨.hbm, 499, rfl⟩
abbrev main_call26_cst_3 : Ref sig .tc := ⟨.hbm, 500, rfl⟩
abbrev main_call26_cst_4 : Ref sig .tc := ⟨.hbm, 501, rfl⟩
abbrev main_call26_call1_v0 : Ref sig .tc := ⟨.hbm, 502, rfl⟩
abbrev main_call26_call1_v1 : Ref sig .tc := ⟨.hbm, 503, rfl⟩
abbrev main_call26_v10 : Ref sig .tc := ⟨.hbm, 504, rfl⟩
abbrev main_call26_v11 : Ref sig .tc := ⟨.hbm, 505, rfl⟩
abbrev main_call26_v12 : Ref sig .tc := ⟨.hbm, 506, rfl⟩
abbrev main_call26_cst_5 : Ref sig .tc := ⟨.hbm, 507, rfl⟩
abbrev main_call26_v13 : Ref sig .tc := ⟨.hbm, 508, rfl⟩
abbrev main_call26_v14 : Ref sig .tc := ⟨.hbm, 509, rfl⟩
abbrev main_call26_v15 : Ref sig .tc := ⟨.hbm, 510, rfl⟩
abbrev main_call26_v16 : Ref sig .tc := ⟨.hbm, 511, rfl⟩
abbrev main_call26_v17 : Ref sig .tc := ⟨.hbm, 512, rfl⟩
abbrev main_call26_v18 : Ref sig .tc := ⟨.hbm, 513, rfl⟩
abbrev main_call26_cst_6 : Ref sig .tc := ⟨.hbm, 514, rfl⟩
abbrev main_call26_call2_v0 : Ref sig .tc := ⟨.hbm, 515, rfl⟩
abbrev main_call26_call2_v1 : Ref sig .tc := ⟨.hbm, 516, rfl⟩
abbrev main_call26_v19 : Ref sig .tc := ⟨.hbm, 517, rfl⟩
abbrev main_call26_v20 : Ref sig .tc := ⟨.hbm, 518, rfl⟩
abbrev main_call26_cst_7 : Ref sig .tc := ⟨.hbm, 519, rfl⟩
abbrev main_call26_v21 : Ref sig .tc := ⟨.hbm, 520, rfl⟩
abbrev main_call26_v22 : Ref sig .tc := ⟨.hbm, 521, rfl⟩
abbrev main_call26_v23 : Ref sig .tc := ⟨.hbm, 522, rfl⟩
abbrev main_call26_cst_8 : Ref sig .tc := ⟨.hbm, 523, rfl⟩
abbrev main_call26_v24 : Ref sig .tc := ⟨.hbm, 524, rfl⟩
abbrev main_v112_0 : Ref sig .tc := ⟨.hbm, 525, rfl⟩
abbrev main_v112_1 : Ref sig .tc := ⟨.hbm, 526, rfl⟩
abbrev main_v113 : Ref sig .tc := ⟨.hbm, 527, rfl⟩
abbrev main_call27_v0 : Ref sig .tc := ⟨.hbm, 528, rfl⟩
abbrev main_call27_v1 : Ref sig .tc := ⟨.hbm, 529, rfl⟩
abbrev main_call27_v2 : Ref sig .tc := ⟨.hbm, 530, rfl⟩
abbrev main_v114 : Ref sig .tc := ⟨.hbm, 531, rfl⟩
abbrev main_call28_v0 : Ref sig .tc := ⟨.hbm, 532, rfl⟩
abbrev main_call28_v1 : Ref sig .tc := ⟨.hbm, 533, rfl⟩
abbrev main_v115 : Ref sig .tc := ⟨.hbm, 534, rfl⟩
abbrev main_call29_v0 : Ref sig .tc := ⟨.hbm, 535, rfl⟩
abbrev main_call29_v1 : Ref sig .tc := ⟨.hbm, 536, rfl⟩
abbrev main_v116 : Ref sig .tc := ⟨.hbm, 537, rfl⟩
abbrev main_v117 : Ref sig .tc := ⟨.hbm, 538, rfl⟩
abbrev main_v118 : Ref sig .tc := ⟨.hbm, 539, rfl⟩
abbrev main_cst_89 : Ref sig .tc := ⟨.hbm, 540, rfl⟩
abbrev main_call30_v0 : Ref sig .tc := ⟨.hbm, 541, rfl⟩
abbrev main_call30_v1 : Ref sig .tc := ⟨.hbm, 542, rfl⟩
abbrev main_call30_v2 : Ref sig .tc := ⟨.hbm, 543, rfl⟩
abbrev main_v119 : Ref sig .tc := ⟨.hbm, 544, rfl⟩
abbrev main_v120 : Ref sig .tc := ⟨.hbm, 545, rfl⟩
abbrev main_v121 : Ref sig .tc := ⟨.hbm, 546, rfl⟩
abbrev main_v122 : Ref sig .tc := ⟨.hbm, 547, rfl⟩
abbrev main_v123 : Ref sig .tc := ⟨.hbm, 548, rfl⟩
abbrev main_call31_v0 : Ref sig .tc := ⟨.hbm, 549, rfl⟩
abbrev main_call31_cst : Ref sig .tc := ⟨.hbm, 550, rfl⟩
abbrev main_call31_v1 : Ref sig .tc := ⟨.hbm, 551, rfl⟩
abbrev main_call31_v2 : Ref sig .tc := ⟨.hbm, 552, rfl⟩
abbrev main_call31_v3 : Ref sig .tc := ⟨.hbm, 553, rfl⟩
abbrev main_call31_cst_0 : Ref sig .tc := ⟨.hbm, 554, rfl⟩
abbrev main_call31_call0_v0 : Ref sig .tc := ⟨.hbm, 555, rfl⟩
abbrev main_call31_call0_v1 : Ref sig .tc := ⟨.hbm, 556, rfl⟩
abbrev main_call31_v4 : Ref sig .tc := ⟨.hbm, 557, rfl⟩
abbrev main_call31_cst_1 : Ref sig .tc := ⟨.hbm, 558, rfl⟩
abbrev main_call31_v5 : Ref sig .tc := ⟨.hbm, 559, rfl⟩
abbrev main_call31_v6 : Ref sig .tc := ⟨.hbm, 560, rfl⟩
abbrev main_call31_v7 : Ref sig .tc := ⟨.hbm, 561, rfl⟩
abbrev main_call31_cst_2 : Ref sig .tc := ⟨.hbm, 562, rfl⟩
abbrev main_call31_v8 : Ref sig .tc := ⟨.hbm, 563, rfl⟩
abbrev main_call31_v9 : Ref sig .tc := ⟨.hbm, 564, rfl⟩
abbrev main_call31_cst_3 : Ref sig .tc := ⟨.hbm, 565, rfl⟩
abbrev main_call31_cst_4 : Ref sig .tc := ⟨.hbm, 566, rfl⟩
abbrev main_call31_call1_v0 : Ref sig .tc := ⟨.hbm, 567, rfl⟩
abbrev main_call31_call1_v1 : Ref sig .tc := ⟨.hbm, 568, rfl⟩
abbrev main_call31_v10 : Ref sig .tc := ⟨.hbm, 569, rfl⟩
abbrev main_call31_v11 : Ref sig .tc := ⟨.hbm, 570, rfl⟩
abbrev main_call31_v12 : Ref sig .tc := ⟨.hbm, 571, rfl⟩
abbrev main_call31_cst_5 : Ref sig .tc := ⟨.hbm, 572, rfl⟩
abbrev main_call31_v13 : Ref sig .tc := ⟨.hbm, 573, rfl⟩
abbrev main_call31_v14 : Ref sig .tc := ⟨.hbm, 574, rfl⟩
abbrev main_call31_v15 : Ref sig .tc := ⟨.hbm, 575, rfl⟩
abbrev main_call31_v16 : Ref sig .tc := ⟨.hbm, 576, rfl⟩
abbrev main_call31_v17 : Ref sig .tc := ⟨.hbm, 577, rfl⟩
abbrev main_call31_v18 : Ref sig .tc := ⟨.hbm, 578, rfl⟩
abbrev main_call31_cst_6 : Ref sig .tc := ⟨.hbm, 579, rfl⟩
abbrev main_call31_call2_v0 : Ref sig .tc := ⟨.hbm, 580, rfl⟩
abbrev main_call31_call2_v1 : Ref sig .tc := ⟨.hbm, 581, rfl⟩
abbrev main_call31_v19 : Ref sig .tc := ⟨.hbm, 582, rfl⟩
abbrev main_call31_v20 : Ref sig .tc := ⟨.hbm, 583, rfl⟩
abbrev main_call31_cst_7 : Ref sig .tc := ⟨.hbm, 584, rfl⟩
abbrev main_call31_v21 : Ref sig .tc := ⟨.hbm, 585, rfl⟩
abbrev main_call31_v22 : Ref sig .tc := ⟨.hbm, 586, rfl⟩
abbrev main_call31_v23 : Ref sig .tc := ⟨.hbm, 587, rfl⟩
abbrev main_call31_cst_8 : Ref sig .tc := ⟨.hbm, 588, rfl⟩
abbrev main_call31_v24 : Ref sig .tc := ⟨.hbm, 589, rfl⟩
abbrev main_v124_0 : Ref sig .tc := ⟨.hbm, 590, rfl⟩
abbrev main_v124_1 : Ref sig .tc := ⟨.hbm, 591, rfl⟩
abbrev main_v125 : Ref sig .tc := ⟨.hbm, 592, rfl⟩
abbrev main_call32_v0 : Ref sig .tc := ⟨.hbm, 593, rfl⟩
abbrev main_call32_v1 : Ref sig .tc := ⟨.hbm, 594, rfl⟩
abbrev main_call32_v2 : Ref sig .tc := ⟨.hbm, 595, rfl⟩
abbrev main_v126 : Ref sig .tc := ⟨.hbm, 596, rfl⟩
abbrev main_call33_v0 : Ref sig .tc := ⟨.hbm, 597, rfl⟩
abbrev main_call33_v1 : Ref sig .tc := ⟨.hbm, 598, rfl⟩
abbrev main_v127 : Ref sig .tc := ⟨.hbm, 599, rfl⟩
abbrev main_call34_v0 : Ref sig .tc := ⟨.hbm, 600, rfl⟩
abbrev main_call34_v1 : Ref sig .tc := ⟨.hbm, 601, rfl⟩
abbrev main_v128 : Ref sig .tc := ⟨.hbm, 602, rfl⟩
abbrev main_v129 : Ref sig .tc := ⟨.hbm, 603, rfl⟩
abbrev main_v130 : Ref sig .tc := ⟨.hbm, 604, rfl⟩
abbrev main_cst_90 : Ref sig .tc := ⟨.hbm, 605, rfl⟩
abbrev main_call35_v0 : Ref sig .tc := ⟨.hbm, 606, rfl⟩
abbrev main_call35_v1 : Ref sig .tc := ⟨.hbm, 607, rfl⟩
abbrev main_call35_v2 : Ref sig .tc := ⟨.hbm, 608, rfl⟩
abbrev main_v131 : Ref sig .tc := ⟨.hbm, 609, rfl⟩
abbrev main_v132 : Ref sig .tc := ⟨.hbm, 610, rfl⟩
abbrev main_v133 : Ref sig .tc := ⟨.hbm, 611, rfl⟩
abbrev main_v134 : Ref sig .tc := ⟨.hbm, 612, rfl⟩
abbrev main_v135 : Ref sig .tc := ⟨.hbm, 613, rfl⟩
abbrev main_call36_v0 : Ref sig .tc := ⟨.hbm, 614, rfl⟩
abbrev main_call36_cst : Ref sig .tc := ⟨.hbm, 615, rfl⟩
abbrev main_call36_v1 : Ref sig .tc := ⟨.hbm, 616, rfl⟩
abbrev main_call36_v2 : Ref sig .tc := ⟨.hbm, 617, rfl⟩
abbrev main_call36_v3 : Ref sig .tc := ⟨.hbm, 618, rfl⟩
abbrev main_call36_cst_0 : Ref sig .tc := ⟨.hbm, 619, rfl⟩
abbrev main_call36_call0_v0 : Ref sig .tc := ⟨.hbm, 620, rfl⟩
abbrev main_call36_call0_v1 : Ref sig .tc := ⟨.hbm, 621, rfl⟩
abbrev main_call36_v4 : Ref sig .tc := ⟨.hbm, 622, rfl⟩
abbrev main_call36_cst_1 : Ref sig .tc := ⟨.hbm, 623, rfl⟩
abbrev main_call36_v5 : Ref sig .tc := ⟨.hbm, 624, rfl⟩
abbrev main_call36_v6 : Ref sig .tc := ⟨.hbm, 625, rfl⟩
abbrev main_call36_v7 : Ref sig .tc := ⟨.hbm, 626, rfl⟩
abbrev main_call36_cst_2 : Ref sig .tc := ⟨.hbm, 627, rfl⟩
abbrev main_call36_v8 : Ref sig .tc := ⟨.hbm, 628, rfl⟩
abbrev main_call36_v9 : Ref sig .tc := ⟨.hbm, 629, rfl⟩
abbrev main_call36_cst_3 : Ref sig .tc := ⟨.hbm, 630, rfl⟩
abbrev main_call36_cst_4 : Ref sig .tc := ⟨.hbm, 631, rfl⟩
abbrev main_call36_call1_v0 : Ref sig .tc := ⟨.hbm, 632, rfl⟩
abbrev main_call36_call1_v1 : Ref sig .tc := ⟨.hbm, 633, rfl⟩
abbrev main_call36_v10 : Ref sig .tc := ⟨.hbm, 634, rfl⟩
abbrev main_call36_v11 : Ref sig .tc := ⟨.hbm, 635, rfl⟩
abbrev main_call36_v12 : Ref sig .tc := ⟨.hbm, 636, rfl⟩
abbrev main_call36_cst_5 : Ref sig .tc := ⟨.hbm, 637, rfl⟩
abbrev main_call36_v13 : Ref sig .tc := ⟨.hbm, 638, rfl⟩
abbrev main_call36_v14 : Ref sig .tc := ⟨.hbm, 639, rfl⟩
abbrev main_call36_v15 : Ref sig .tc := ⟨.hbm, 640, rfl⟩
abbrev main_call36_v16 : Ref sig .tc := ⟨.hbm, 641, rfl⟩
abbrev main_call36_v17 : Ref sig .tc := ⟨.hbm, 642, rfl⟩
abbrev main_call36_v18 : Ref sig .tc := ⟨.hbm, 643, rfl⟩
abbrev main_call36_cst_6 : Ref sig .tc := ⟨.hbm, 644, rfl⟩
abbrev main_call36_call2_v0 : Ref sig .tc := ⟨.hbm, 645, rfl⟩
abbrev main_call36_call2_v1 : Ref sig .tc := ⟨.hbm, 646, rfl⟩
abbrev main_call36_v19 : Ref sig .tc := ⟨.hbm, 647, rfl⟩
abbrev main_call36_v20 : Ref sig .tc := ⟨.hbm, 648, rfl⟩
abbrev main_call36_cst_7 : Ref sig .tc := ⟨.hbm, 649, rfl⟩
abbrev main_call36_v21 : Ref sig .tc := ⟨.hbm, 650, rfl⟩
abbrev main_call36_v22 : Ref sig .tc := ⟨.hbm, 651, rfl⟩
abbrev main_call36_v23 : Ref sig .tc := ⟨.hbm, 652, rfl⟩
abbrev main_call36_cst_8 : Ref sig .tc := ⟨.hbm, 653, rfl⟩
abbrev main_call36_v24 : Ref sig .tc := ⟨.hbm, 654, rfl⟩
abbrev main_v136_0 : Ref sig .tc := ⟨.hbm, 655, rfl⟩
abbrev main_v136_1 : Ref sig .tc := ⟨.hbm, 656, rfl⟩
abbrev main_v137 : Ref sig .tc := ⟨.hbm, 657, rfl⟩
abbrev main_call37_v0 : Ref sig .tc := ⟨.hbm, 658, rfl⟩
abbrev main_call37_v1 : Ref sig .tc := ⟨.hbm, 659, rfl⟩
abbrev main_call37_v2 : Ref sig .tc := ⟨.hbm, 660, rfl⟩
abbrev main_v138 : Ref sig .tc := ⟨.hbm, 661, rfl⟩
abbrev main_call38_v0 : Ref sig .tc := ⟨.hbm, 662, rfl⟩
abbrev main_call38_v1 : Ref sig .tc := ⟨.hbm, 663, rfl⟩
abbrev main_v139 : Ref sig .tc := ⟨.hbm, 664, rfl⟩
abbrev main_call39_v0 : Ref sig .tc := ⟨.hbm, 665, rfl⟩
abbrev main_call39_v1 : Ref sig .tc := ⟨.hbm, 666, rfl⟩
abbrev main_v140 : Ref sig .tc := ⟨.hbm, 667, rfl⟩
abbrev main_v141 : Ref sig .tc := ⟨.hbm, 668, rfl⟩
abbrev main_v142 : Ref sig .tc := ⟨.hbm, 669, rfl⟩
abbrev main_cst_91 : Ref sig .tc := ⟨.hbm, 670, rfl⟩
abbrev main_call40_v0 : Ref sig .tc := ⟨.hbm, 671, rfl⟩
abbrev main_call40_v1 : Ref sig .tc := ⟨.hbm, 672, rfl⟩
abbrev main_call40_v2 : Ref sig .tc := ⟨.hbm, 673, rfl⟩
abbrev main_v143 : Ref sig .tc := ⟨.hbm, 674, rfl⟩
abbrev main_v144 : Ref sig .tc := ⟨.hbm, 675, rfl⟩
abbrev main_v145 : Ref sig .tc := ⟨.hbm, 676, rfl⟩
abbrev main_v146 : Ref sig .tc := ⟨.hbm, 677, rfl⟩
abbrev main_v147 : Ref sig .tc := ⟨.hbm, 678, rfl⟩
abbrev main_call41_v0 : Ref sig .tc := ⟨.hbm, 679, rfl⟩
abbrev main_call41_cst : Ref sig .tc := ⟨.hbm, 680, rfl⟩
abbrev main_call41_v1 : Ref sig .tc := ⟨.hbm, 681, rfl⟩
abbrev main_call41_v2 : Ref sig .tc := ⟨.hbm, 682, rfl⟩
abbrev main_call41_v3 : Ref sig .tc := ⟨.hbm, 683, rfl⟩
abbrev main_call41_cst_0 : Ref sig .tc := ⟨.hbm, 684, rfl⟩
abbrev main_call41_call0_v0 : Ref sig .tc := ⟨.hbm, 685, rfl⟩
abbrev main_call41_call0_v1 : Ref sig .tc := ⟨.hbm, 686, rfl⟩
abbrev main_call41_v4 : Ref sig .tc := ⟨.hbm, 687, rfl⟩
abbrev main_call41_cst_1 : Ref sig .tc := ⟨.hbm, 688, rfl⟩
abbrev main_call41_v5 : Ref sig .tc := ⟨.hbm, 689, rfl⟩
abbrev main_call41_v6 : Ref sig .tc := ⟨.hbm, 690, rfl⟩
abbrev main_call41_v7 : Ref sig .tc := ⟨.hbm, 691, rfl⟩
abbrev main_call41_cst_2 : Ref sig .tc := ⟨.hbm, 692, rfl⟩
abbrev main_call41_v8 : Ref sig .tc := ⟨.hbm, 693, rfl⟩
abbrev main_call41_v9 : Ref sig .tc := ⟨.hbm, 694, rfl⟩
abbrev main_call41_cst_3 : Ref sig .tc := ⟨.hbm, 695, rfl⟩
abbrev main_call41_cst_4 : Ref sig .tc := ⟨.hbm, 696, rfl⟩
abbrev main_call41_call1_v0 : Ref sig .tc := ⟨.hbm, 697, rfl⟩
abbrev main_call41_call1_v1 : Ref sig .tc := ⟨.hbm, 698, rfl⟩
abbrev main_call41_v10 : Ref sig .tc := ⟨.hbm, 699, rfl⟩
abbrev main_call41_v11 : Ref sig .tc := ⟨.hbm, 700, rfl⟩
abbrev main_call41_v12 : Ref sig .tc := ⟨.hbm, 701, rfl⟩
abbrev main_call41_cst_5 : Ref sig .tc := ⟨.hbm, 702, rfl⟩
abbrev main_call41_v13 : Ref sig .tc := ⟨.hbm, 703, rfl⟩
abbrev main_call41_v14 : Ref sig .tc := ⟨.hbm, 704, rfl⟩
abbrev main_call41_v15 : Ref sig .tc := ⟨.hbm, 705, rfl⟩
abbrev main_call41_v16 : Ref sig .tc := ⟨.hbm, 706, rfl⟩
abbrev main_call41_v17 : Ref sig .tc := ⟨.hbm, 707, rfl⟩
abbrev main_call41_v18 : Ref sig .tc := ⟨.hbm, 708, rfl⟩
abbrev main_call41_cst_6 : Ref sig .tc := ⟨.hbm, 709, rfl⟩
abbrev main_call41_call2_v0 : Ref sig .tc := ⟨.hbm, 710, rfl⟩
abbrev main_call41_call2_v1 : Ref sig .tc := ⟨.hbm, 711, rfl⟩
abbrev main_call41_v19 : Ref sig .tc := ⟨.hbm, 712, rfl⟩
abbrev main_call41_v20 : Ref sig .tc := ⟨.hbm, 713, rfl⟩
abbrev main_call41_cst_7 : Ref sig .tc := ⟨.hbm, 714, rfl⟩
abbrev main_call41_v21 : Ref sig .tc := ⟨.hbm, 715, rfl⟩
abbrev main_call41_v22 : Ref sig .tc := ⟨.hbm, 716, rfl⟩
abbrev main_call41_v23 : Ref sig .tc := ⟨.hbm, 717, rfl⟩
abbrev main_call41_cst_8 : Ref sig .tc := ⟨.hbm, 718, rfl⟩
abbrev main_call41_v24 : Ref sig .tc := ⟨.hbm, 719, rfl⟩
abbrev main_v148_0 : Ref sig .tc := ⟨.hbm, 720, rfl⟩
abbrev main_v148_1 : Ref sig .tc := ⟨.hbm, 721, rfl⟩
abbrev main_v149 : Ref sig .tc := ⟨.hbm, 722, rfl⟩
abbrev main_call42_v0 : Ref sig .tc := ⟨.hbm, 723, rfl⟩
abbrev main_call42_v1 : Ref sig .tc := ⟨.hbm, 724, rfl⟩
abbrev main_call42_v2 : Ref sig .tc := ⟨.hbm, 725, rfl⟩
abbrev main_v150 : Ref sig .tc := ⟨.hbm, 726, rfl⟩
abbrev main_call43_v0 : Ref sig .tc := ⟨.hbm, 727, rfl⟩
abbrev main_call43_v1 : Ref sig .tc := ⟨.hbm, 728, rfl⟩
abbrev main_v151 : Ref sig .tc := ⟨.hbm, 729, rfl⟩
abbrev main_call44_v0 : Ref sig .tc := ⟨.hbm, 730, rfl⟩
abbrev main_call44_v1 : Ref sig .tc := ⟨.hbm, 731, rfl⟩
abbrev main_v152 : Ref sig .tc := ⟨.hbm, 732, rfl⟩
abbrev main_v153 : Ref sig .tc := ⟨.hbm, 733, rfl⟩
abbrev main_v154 : Ref sig .tc := ⟨.hbm, 734, rfl⟩
abbrev main_cst_92 : Ref sig .tc := ⟨.hbm, 735, rfl⟩
abbrev main_call45_v0 : Ref sig .tc := ⟨.hbm, 736, rfl⟩
abbrev main_call45_v1 : Ref sig .tc := ⟨.hbm, 737, rfl⟩
abbrev main_call45_v2 : Ref sig .tc := ⟨.hbm, 738, rfl⟩
abbrev main_v155 : Ref sig .tc := ⟨.hbm, 739, rfl⟩
abbrev main_v156 : Ref sig .tc := ⟨.hbm, 740, rfl⟩
abbrev main_v157 : Ref sig .tc := ⟨.hbm, 741, rfl⟩
abbrev main_v158 : Ref sig .tc := ⟨.hbm, 742, rfl⟩
abbrev main_v159 : Ref sig .tc := ⟨.hbm, 743, rfl⟩
abbrev main_call46_v0 : Ref sig .tc := ⟨.hbm, 744, rfl⟩
abbrev main_call46_cst : Ref sig .tc := ⟨.hbm, 745, rfl⟩
abbrev main_call46_v1 : Ref sig .tc := ⟨.hbm, 746, rfl⟩
abbrev main_call46_v2 : Ref sig .tc := ⟨.hbm, 747, rfl⟩
abbrev main_call46_v3 : Ref sig .tc := ⟨.hbm, 748, rfl⟩
abbrev main_call46_cst_0 : Ref sig .tc := ⟨.hbm, 749, rfl⟩
abbrev main_call46_call0_v0 : Ref sig .tc := ⟨.hbm, 750, rfl⟩
abbrev main_call46_call0_v1 : Ref sig .tc := ⟨.hbm, 751, rfl⟩
abbrev main_call46_v4 : Ref sig .tc := ⟨.hbm, 752, rfl⟩
abbrev main_call46_cst_1 : Ref sig .tc := ⟨.hbm, 753, rfl⟩
abbrev main_call46_v5 : Ref sig .tc := ⟨.hbm, 754, rfl⟩
abbrev main_call46_v6 : Ref sig .tc := ⟨.hbm, 755, rfl⟩
abbrev main_call46_v7 : Ref sig .tc := ⟨.hbm, 756, rfl⟩
abbrev main_call46_cst_2 : Ref sig .tc := ⟨.hbm, 757, rfl⟩
abbrev main_call46_v8 : Ref sig .tc := ⟨.hbm, 758, rfl⟩
abbrev main_call46_v9 : Ref sig .tc := ⟨.hbm, 759, rfl⟩
abbrev main_call46_cst_3 : Ref sig .tc := ⟨.hbm, 760, rfl⟩
abbrev main_call46_cst_4 : Ref sig .tc := ⟨.hbm, 761, rfl⟩
abbrev main_call46_call1_v0 : Ref sig .tc := ⟨.hbm, 762, rfl⟩
abbrev main_call46_call1_v1 : Ref sig .tc := ⟨.hbm, 763, rfl⟩
abbrev main_call46_v10 : Ref sig .tc := ⟨.hbm, 764, rfl⟩
abbrev main_call46_v11 : Ref sig .tc := ⟨.hbm, 765, rfl⟩
abbrev main_call46_v12 : Ref sig .tc := ⟨.hbm, 766, rfl⟩
abbrev main_call46_cst_5 : Ref sig .tc := ⟨.hbm, 767, rfl⟩
abbrev main_call46_v13 : Ref sig .tc := ⟨.hbm, 768, rfl⟩
abbrev main_call46_v14 : Ref sig .tc := ⟨.hbm, 769, rfl⟩
abbrev main_call46_v15 : Ref sig .tc := ⟨.hbm, 770, rfl⟩
abbrev main_call46_v16 : Ref sig .tc := ⟨.hbm, 771, rfl⟩
abbrev main_call46_v17 : Ref sig .tc := ⟨.hbm, 772, rfl⟩
abbrev main_call46_v18 : Ref sig .tc := ⟨.hbm, 773, rfl⟩
abbrev main_call46_cst_6 : Ref sig .tc := ⟨.hbm, 774, rfl⟩
abbrev main_call46_call2_v0 : Ref sig .tc := ⟨.hbm, 775, rfl⟩
abbrev main_call46_call2_v1 : Ref sig .tc := ⟨.hbm, 776, rfl⟩
abbrev main_call46_v19 : Ref sig .tc := ⟨.hbm, 777, rfl⟩
abbrev main_call46_v20 : Ref sig .tc := ⟨.hbm, 778, rfl⟩
abbrev main_call46_cst_7 : Ref sig .tc := ⟨.hbm, 779, rfl⟩
abbrev main_call46_v21 : Ref sig .tc := ⟨.hbm, 780, rfl⟩
abbrev main_call46_v22 : Ref sig .tc := ⟨.hbm, 781, rfl⟩
abbrev main_call46_v23 : Ref sig .tc := ⟨.hbm, 782, rfl⟩
abbrev main_call46_cst_8 : Ref sig .tc := ⟨.hbm, 783, rfl⟩
abbrev main_call46_v24 : Ref sig .tc := ⟨.hbm, 784, rfl⟩
abbrev main_v160_0 : Ref sig .tc := ⟨.hbm, 785, rfl⟩
abbrev main_v160_1 : Ref sig .tc := ⟨.hbm, 786, rfl⟩
abbrev main_v161 : Ref sig .tc := ⟨.hbm, 787, rfl⟩
abbrev main_call47_v0 : Ref sig .tc := ⟨.hbm, 788, rfl⟩
abbrev main_call47_v1 : Ref sig .tc := ⟨.hbm, 789, rfl⟩
abbrev main_call47_v2 : Ref sig .tc := ⟨.hbm, 790, rfl⟩
abbrev main_v162 : Ref sig .tc := ⟨.hbm, 791, rfl⟩
abbrev main_call48_v0 : Ref sig .tc := ⟨.hbm, 792, rfl⟩
abbrev main_call48_v1 : Ref sig .tc := ⟨.hbm, 793, rfl⟩
abbrev main_v163 : Ref sig .tc := ⟨.hbm, 794, rfl⟩
abbrev main_call49_v0 : Ref sig .tc := ⟨.hbm, 795, rfl⟩
abbrev main_call49_v1 : Ref sig .tc := ⟨.hbm, 796, rfl⟩
abbrev main_v164 : Ref sig .tc := ⟨.hbm, 797, rfl⟩
abbrev main_v165 : Ref sig .tc := ⟨.hbm, 798, rfl⟩
abbrev main_v166 : Ref sig .tc := ⟨.hbm, 799, rfl⟩
abbrev main_cst_93 : Ref sig .tc := ⟨.hbm, 800, rfl⟩
abbrev main_call50_v0 : Ref sig .tc := ⟨.hbm, 801, rfl⟩
abbrev main_call50_v1 : Ref sig .tc := ⟨.hbm, 802, rfl⟩
abbrev main_call50_v2 : Ref sig .tc := ⟨.hbm, 803, rfl⟩
abbrev main_v167 : Ref sig .tc := ⟨.hbm, 804, rfl⟩
abbrev main_v168 : Ref sig .tc := ⟨.hbm, 805, rfl⟩
abbrev main_v169 : Ref sig .tc := ⟨.hbm, 806, rfl⟩
abbrev main_v170 : Ref sig .tc := ⟨.hbm, 807, rfl⟩
abbrev main_v171 : Ref sig .tc := ⟨.hbm, 808, rfl⟩
abbrev main_call51_v0 : Ref sig .tc := ⟨.hbm, 809, rfl⟩
abbrev main_call51_cst : Ref sig .tc := ⟨.hbm, 810, rfl⟩
abbrev main_call51_v1 : Ref sig .tc := ⟨.hbm, 811, rfl⟩
abbrev main_call51_v2 : Ref sig .tc := ⟨.hbm, 812, rfl⟩
abbrev main_call51_v3 : Ref sig .tc := ⟨.hbm, 813, rfl⟩
abbrev main_call51_cst_0 : Ref sig .tc := ⟨.hbm, 814, rfl⟩
abbrev main_call51_call0_v0 : Ref sig .tc := ⟨.hbm, 815, rfl⟩
abbrev main_call51_call0_v1 : Ref sig .tc := ⟨.hbm, 816, rfl⟩
abbrev main_call51_v4 : Ref sig .tc := ⟨.hbm, 817, rfl⟩
abbrev main_call51_cst_1 : Ref sig .tc := ⟨.hbm, 818, rfl⟩
abbrev main_call51_v5 : Ref sig .tc := ⟨.hbm, 819, rfl⟩
abbrev main_call51_v6 : Ref sig .tc := ⟨.hbm, 820, rfl⟩
abbrev main_call51_v7 : Ref sig .tc := ⟨.hbm, 821, rfl⟩
abbrev main_call51_cst_2 : Ref sig .tc := ⟨.hbm, 822, rfl⟩
abbrev main_call51_v8 : Ref sig .tc := ⟨.hbm, 823, rfl⟩
abbrev main_call51_v9 : Ref sig .tc := ⟨.hbm, 824, rfl⟩
abbrev main_call51_cst_3 : Ref sig .tc := ⟨.hbm, 825, rfl⟩
abbrev main_call51_cst_4 : Ref sig .tc := ⟨.hbm, 826, rfl⟩
abbrev main_call51_call1_v0 : Ref sig .tc := ⟨.hbm, 827, rfl⟩
abbrev main_call51_call1_v1 : Ref sig .tc := ⟨.hbm, 828, rfl⟩
abbrev main_call51_v10 : Ref sig .tc := ⟨.hbm, 829, rfl⟩
abbrev main_call51_v11 : Ref sig .tc := ⟨.hbm, 830, rfl⟩
abbrev main_call51_v12 : Ref sig .tc := ⟨.hbm, 831, rfl⟩
abbrev main_call51_cst_5 : Ref sig .tc := ⟨.hbm, 832, rfl⟩
abbrev main_call51_v13 : Ref sig .tc := ⟨.hbm, 833, rfl⟩
abbrev main_call51_v14 : Ref sig .tc := ⟨.hbm, 834, rfl⟩
abbrev main_call51_v15 : Ref sig .tc := ⟨.hbm, 835, rfl⟩
abbrev main_call51_v16 : Ref sig .tc := ⟨.hbm, 836, rfl⟩
abbrev main_call51_v17 : Ref sig .tc := ⟨.hbm, 837, rfl⟩
abbrev main_call51_v18 : Ref sig .tc := ⟨.hbm, 838, rfl⟩
abbrev main_call51_cst_6 : Ref sig .tc := ⟨.hbm, 839, rfl⟩
abbrev main_call51_call2_v0 : Ref sig .tc := ⟨.hbm, 840, rfl⟩
abbrev main_call51_call2_v1 : Ref sig .tc := ⟨.hbm, 841, rfl⟩
abbrev main_call51_v19 : Ref sig .tc := ⟨.hbm, 842, rfl⟩
abbrev main_call51_v20 : Ref sig .tc := ⟨.hbm, 843, rfl⟩
abbrev main_call51_cst_7 : Ref sig .tc := ⟨.hbm, 844, rfl⟩
abbrev main_call51_v21 : Ref sig .tc := ⟨.hbm, 845, rfl⟩
abbrev main_call51_v22 : Ref sig .tc := ⟨.hbm, 846, rfl⟩
abbrev main_call51_v23 : Ref sig .tc := ⟨.hbm, 847, rfl⟩
abbrev main_call51_cst_8 : Ref sig .tc := ⟨.hbm, 848, rfl⟩
abbrev main_call51_v24 : Ref sig .tc := ⟨.hbm, 849, rfl⟩
abbrev main_v172_0 : Ref sig .tc := ⟨.hbm, 850, rfl⟩
abbrev main_v172_1 : Ref sig .tc := ⟨.hbm, 851, rfl⟩
abbrev main_v173 : Ref sig .tc := ⟨.hbm, 852, rfl⟩
abbrev main_call52_v0 : Ref sig .tc := ⟨.hbm, 853, rfl⟩
abbrev main_call52_v1 : Ref sig .tc := ⟨.hbm, 854, rfl⟩
abbrev main_call52_v2 : Ref sig .tc := ⟨.hbm, 855, rfl⟩
abbrev main_v174 : Ref sig .tc := ⟨.hbm, 856, rfl⟩
abbrev main_call53_v0 : Ref sig .tc := ⟨.hbm, 857, rfl⟩
abbrev main_call53_v1 : Ref sig .tc := ⟨.hbm, 858, rfl⟩
abbrev main_v175 : Ref sig .tc := ⟨.hbm, 859, rfl⟩
abbrev main_call54_v0 : Ref sig .tc := ⟨.hbm, 860, rfl⟩
abbrev main_call54_v1 : Ref sig .tc := ⟨.hbm, 861, rfl⟩
abbrev main_v176 : Ref sig .tc := ⟨.hbm, 862, rfl⟩
abbrev main_v177 : Ref sig .tc := ⟨.hbm, 863, rfl⟩
abbrev main_v178 : Ref sig .tc := ⟨.hbm, 864, rfl⟩
abbrev main_cst_94 : Ref sig .tc := ⟨.hbm, 865, rfl⟩
abbrev main_call55_v0 : Ref sig .tc := ⟨.hbm, 866, rfl⟩
abbrev main_call55_v1 : Ref sig .tc := ⟨.hbm, 867, rfl⟩
abbrev main_call55_v2 : Ref sig .tc := ⟨.hbm, 868, rfl⟩
abbrev main_v179 : Ref sig .tc := ⟨.hbm, 869, rfl⟩
abbrev main_v180 : Ref sig .tc := ⟨.hbm, 870, rfl⟩
abbrev main_v181 : Ref sig .tc := ⟨.hbm, 871, rfl⟩
abbrev main_v182 : Ref sig .tc := ⟨.hbm, 872, rfl⟩
abbrev main_v183 : Ref sig .tc := ⟨.hbm, 873, rfl⟩
abbrev main_call56_v0 : Ref sig .tc := ⟨.hbm, 874, rfl⟩
abbrev main_call56_cst : Ref sig .tc := ⟨.hbm, 875, rfl⟩
abbrev main_call56_v1 : Ref sig .tc := ⟨.hbm, 876, rfl⟩
abbrev main_call56_v2 : Ref sig .tc := ⟨.hbm, 877, rfl⟩
abbrev main_call56_v3 : Ref sig .tc := ⟨.hbm, 878, rfl⟩
abbrev main_call56_cst_0 : Ref sig .tc := ⟨.hbm, 879, rfl⟩
abbrev main_call56_call0_v0 : Ref sig .tc := ⟨.hbm, 880, rfl⟩
abbrev main_call56_call0_v1 : Ref sig .tc := ⟨.hbm, 881, rfl⟩
abbrev main_call56_v4 : Ref sig .tc := ⟨.hbm, 882, rfl⟩
abbrev main_call56_cst_1 : Ref sig .tc := ⟨.hbm, 883, rfl⟩
abbrev main_call56_v5 : Ref sig .tc := ⟨.hbm, 884, rfl⟩
abbrev main_call56_v6 : Ref sig .tc := ⟨.hbm, 885, rfl⟩
abbrev main_call56_v7 : Ref sig .tc := ⟨.hbm, 886, rfl⟩
abbrev main_call56_cst_2 : Ref sig .tc := ⟨.hbm, 887, rfl⟩
abbrev main_call56_v8 : Ref sig .tc := ⟨.hbm, 888, rfl⟩
abbrev main_call56_v9 : Ref sig .tc := ⟨.hbm, 889, rfl⟩
abbrev main_call56_cst_3 : Ref sig .tc := ⟨.hbm, 890, rfl⟩
abbrev main_call56_cst_4 : Ref sig .tc := ⟨.hbm, 891, rfl⟩
abbrev main_call56_call1_v0 : Ref sig .tc := ⟨.hbm, 892, rfl⟩
abbrev main_call56_call1_v1 : Ref sig .tc := ⟨.hbm, 893, rfl⟩
abbrev main_call56_v10 : Ref sig .tc := ⟨.hbm, 894, rfl⟩
abbrev main_call56_v11 : Ref sig .tc := ⟨.hbm, 895, rfl⟩
abbrev main_call56_v12 : Ref sig .tc := ⟨.hbm, 896, rfl⟩
abbrev main_call56_cst_5 : Ref sig .tc := ⟨.hbm, 897, rfl⟩
abbrev main_call56_v13 : Ref sig .tc := ⟨.hbm, 898, rfl⟩
abbrev main_call56_v14 : Ref sig .tc := ⟨.hbm, 899, rfl⟩
abbrev main_call56_v15 : Ref sig .tc := ⟨.hbm, 900, rfl⟩
abbrev main_call56_v16 : Ref sig .tc := ⟨.hbm, 901, rfl⟩
abbrev main_call56_v17 : Ref sig .tc := ⟨.hbm, 902, rfl⟩
abbrev main_call56_v18 : Ref sig .tc := ⟨.hbm, 903, rfl⟩
abbrev main_call56_cst_6 : Ref sig .tc := ⟨.hbm, 904, rfl⟩
abbrev main_call56_call2_v0 : Ref sig .tc := ⟨.hbm, 905, rfl⟩
abbrev main_call56_call2_v1 : Ref sig .tc := ⟨.hbm, 906, rfl⟩
abbrev main_call56_v19 : Ref sig .tc := ⟨.hbm, 907, rfl⟩
abbrev main_call56_v20 : Ref sig .tc := ⟨.hbm, 908, rfl⟩
abbrev main_call56_cst_7 : Ref sig .tc := ⟨.hbm, 909, rfl⟩
abbrev main_call56_v21 : Ref sig .tc := ⟨.hbm, 910, rfl⟩
abbrev main_call56_v22 : Ref sig .tc := ⟨.hbm, 911, rfl⟩
abbrev main_call56_v23 : Ref sig .tc := ⟨.hbm, 912, rfl⟩
abbrev main_call56_cst_8 : Ref sig .tc := ⟨.hbm, 913, rfl⟩
abbrev main_call56_v24 : Ref sig .tc := ⟨.hbm, 914, rfl⟩
abbrev main_v184_0 : Ref sig .tc := ⟨.hbm, 915, rfl⟩
abbrev main_v184_1 : Ref sig .tc := ⟨.hbm, 916, rfl⟩
abbrev main_v185 : Ref sig .tc := ⟨.hbm, 917, rfl⟩
abbrev main_call57_v0 : Ref sig .tc := ⟨.hbm, 918, rfl⟩
abbrev main_call57_v1 : Ref sig .tc := ⟨.hbm, 919, rfl⟩
abbrev main_call57_v2 : Ref sig .tc := ⟨.hbm, 920, rfl⟩
abbrev main_v186 : Ref sig .tc := ⟨.hbm, 921, rfl⟩
abbrev main_call58_v0 : Ref sig .tc := ⟨.hbm, 922, rfl⟩
abbrev main_call58_v1 : Ref sig .tc := ⟨.hbm, 923, rfl⟩
abbrev main_v187 : Ref sig .tc := ⟨.hbm, 924, rfl⟩
abbrev main_call59_v0 : Ref sig .tc := ⟨.hbm, 925, rfl⟩
abbrev main_call59_v1 : Ref sig .tc := ⟨.hbm, 926, rfl⟩
abbrev main_v188 : Ref sig .tc := ⟨.hbm, 927, rfl⟩
abbrev main_v189 : Ref sig .tc := ⟨.hbm, 928, rfl⟩
abbrev main_v190 : Ref sig .tc := ⟨.hbm, 929, rfl⟩
abbrev main_cst_95 : Ref sig .tc := ⟨.hbm, 930, rfl⟩
abbrev main_call60_v0 : Ref sig .tc := ⟨.hbm, 931, rfl⟩
abbrev main_call60_v1 : Ref sig .tc := ⟨.hbm, 932, rfl⟩
abbrev main_call60_v2 : Ref sig .tc := ⟨.hbm, 933, rfl⟩
abbrev main_v191 : Ref sig .tc := ⟨.hbm, 934, rfl⟩
abbrev main_v192 : Ref sig .tc := ⟨.hbm, 935, rfl⟩
abbrev main_v193 : Ref sig .tc := ⟨.hbm, 936, rfl⟩
abbrev main_v194 : Ref sig .tc := ⟨.hbm, 937, rfl⟩
abbrev main_v195 : Ref sig .tc := ⟨.hbm, 938, rfl⟩
abbrev main_call61_v0 : Ref sig .tc := ⟨.hbm, 939, rfl⟩
abbrev main_call61_cst : Ref sig .tc := ⟨.hbm, 940, rfl⟩
abbrev main_call61_v1 : Ref sig .tc := ⟨.hbm, 941, rfl⟩
abbrev main_call61_v2 : Ref sig .tc := ⟨.hbm, 942, rfl⟩
abbrev main_call61_v3 : Ref sig .tc := ⟨.hbm, 943, rfl⟩
abbrev main_call61_cst_0 : Ref sig .tc := ⟨.hbm, 944, rfl⟩
abbrev main_call61_call0_v0 : Ref sig .tc := ⟨.hbm, 945, rfl⟩
abbrev main_call61_call0_v1 : Ref sig .tc := ⟨.hbm, 946, rfl⟩
abbrev main_call61_v4 : Ref sig .tc := ⟨.hbm, 947, rfl⟩
abbrev main_call61_cst_1 : Ref sig .tc := ⟨.hbm, 948, rfl⟩
abbrev main_call61_v5 : Ref sig .tc := ⟨.hbm, 949, rfl⟩
abbrev main_call61_v6 : Ref sig .tc := ⟨.hbm, 950, rfl⟩
abbrev main_call61_v7 : Ref sig .tc := ⟨.hbm, 951, rfl⟩
abbrev main_call61_cst_2 : Ref sig .tc := ⟨.hbm, 952, rfl⟩
abbrev main_call61_v8 : Ref sig .tc := ⟨.hbm, 953, rfl⟩
abbrev main_call61_v9 : Ref sig .tc := ⟨.hbm, 954, rfl⟩
abbrev main_call61_cst_3 : Ref sig .tc := ⟨.hbm, 955, rfl⟩
abbrev main_call61_cst_4 : Ref sig .tc := ⟨.hbm, 956, rfl⟩
abbrev main_call61_call1_v0 : Ref sig .tc := ⟨.hbm, 957, rfl⟩
abbrev main_call61_call1_v1 : Ref sig .tc := ⟨.hbm, 958, rfl⟩
abbrev main_call61_v10 : Ref sig .tc := ⟨.hbm, 959, rfl⟩
abbrev main_call61_v11 : Ref sig .tc := ⟨.hbm, 960, rfl⟩
abbrev main_call61_v12 : Ref sig .tc := ⟨.hbm, 961, rfl⟩
abbrev main_call61_cst_5 : Ref sig .tc := ⟨.hbm, 962, rfl⟩
abbrev main_call61_v13 : Ref sig .tc := ⟨.hbm, 963, rfl⟩
abbrev main_call61_v14 : Ref sig .tc := ⟨.hbm, 964, rfl⟩
abbrev main_call61_v15 : Ref sig .tc := ⟨.hbm, 965, rfl⟩
abbrev main_call61_v16 : Ref sig .tc := ⟨.hbm, 966, rfl⟩
abbrev main_call61_v17 : Ref sig .tc := ⟨.hbm, 967, rfl⟩
abbrev main_call61_v18 : Ref sig .tc := ⟨.hbm, 968, rfl⟩
abbrev main_call61_cst_6 : Ref sig .tc := ⟨.hbm, 969, rfl⟩
abbrev main_call61_call2_v0 : Ref sig .tc := ⟨.hbm, 970, rfl⟩
abbrev main_call61_call2_v1 : Ref sig .tc := ⟨.hbm, 971, rfl⟩
abbrev main_call61_v19 : Ref sig .tc := ⟨.hbm, 972, rfl⟩
abbrev main_call61_v20 : Ref sig .tc := ⟨.hbm, 973, rfl⟩
abbrev main_call61_cst_7 : Ref sig .tc := ⟨.hbm, 974, rfl⟩
abbrev main_call61_v21 : Ref sig .tc := ⟨.hbm, 975, rfl⟩
abbrev main_call61_v22 : Ref sig .tc := ⟨.hbm, 976, rfl⟩
abbrev main_call61_v23 : Ref sig .tc := ⟨.hbm, 977, rfl⟩
abbrev main_call61_cst_8 : Ref sig .tc := ⟨.hbm, 978, rfl⟩
abbrev main_call61_v24 : Ref sig .tc := ⟨.hbm, 979, rfl⟩
abbrev main_v196_0 : Ref sig .tc := ⟨.hbm, 980, rfl⟩
abbrev main_v196_1 : Ref sig .tc := ⟨.hbm, 981, rfl⟩
abbrev main_v197 : Ref sig .tc := ⟨.hbm, 982, rfl⟩
abbrev main_call62_v0 : Ref sig .tc := ⟨.hbm, 983, rfl⟩
abbrev main_call62_v1 : Ref sig .tc := ⟨.hbm, 984, rfl⟩
abbrev main_call62_v2 : Ref sig .tc := ⟨.hbm, 985, rfl⟩
abbrev main_v198 : Ref sig .tc := ⟨.hbm, 986, rfl⟩
abbrev main_call63_v0 : Ref sig .tc := ⟨.hbm, 987, rfl⟩
abbrev main_call63_v1 : Ref sig .tc := ⟨.hbm, 988, rfl⟩
abbrev main_v199 : Ref sig .tc := ⟨.hbm, 989, rfl⟩
abbrev main_call64_v0 : Ref sig .tc := ⟨.hbm, 990, rfl⟩
abbrev main_call64_v1 : Ref sig .tc := ⟨.hbm, 991, rfl⟩
abbrev main_v200 : Ref sig .tc := ⟨.hbm, 992, rfl⟩
abbrev main_v201 : Ref sig .tc := ⟨.hbm, 993, rfl⟩
abbrev main_v202 : Ref sig .tc := ⟨.hbm, 994, rfl⟩
abbrev main_cst_96 : Ref sig .tc := ⟨.hbm, 995, rfl⟩
abbrev main_call65_v0 : Ref sig .tc := ⟨.hbm, 996, rfl⟩
abbrev main_call65_v1 : Ref sig .tc := ⟨.hbm, 997, rfl⟩
abbrev main_call65_v2 : Ref sig .tc := ⟨.hbm, 998, rfl⟩
abbrev main_v203 : Ref sig .tc := ⟨.hbm, 999, rfl⟩
abbrev main_v204 : Ref sig .tc := ⟨.hbm, 1000, rfl⟩
abbrev main_v205 : Ref sig .tc := ⟨.hbm, 1001, rfl⟩
abbrev main_v206 : Ref sig .tc := ⟨.hbm, 1002, rfl⟩
abbrev main_v207 : Ref sig .tc := ⟨.hbm, 1003, rfl⟩
abbrev main_call66_v0 : Ref sig .tc := ⟨.hbm, 1004, rfl⟩
abbrev main_call66_cst : Ref sig .tc := ⟨.hbm, 1005, rfl⟩
abbrev main_call66_v1 : Ref sig .tc := ⟨.hbm, 1006, rfl⟩
abbrev main_call66_v2 : Ref sig .tc := ⟨.hbm, 1007, rfl⟩
abbrev main_call66_v3 : Ref sig .tc := ⟨.hbm, 1008, rfl⟩
abbrev main_call66_cst_0 : Ref sig .tc := ⟨.hbm, 1009, rfl⟩
abbrev main_call66_call0_v0 : Ref sig .tc := ⟨.hbm, 1010, rfl⟩
abbrev main_call66_call0_v1 : Ref sig .tc := ⟨.hbm, 1011, rfl⟩
abbrev main_call66_v4 : Ref sig .tc := ⟨.hbm, 1012, rfl⟩
abbrev main_call66_cst_1 : Ref sig .tc := ⟨.hbm, 1013, rfl⟩
abbrev main_call66_v5 : Ref sig .tc := ⟨.hbm, 1014, rfl⟩
abbrev main_call66_v6 : Ref sig .tc := ⟨.hbm, 1015, rfl⟩
abbrev main_call66_v7 : Ref sig .tc := ⟨.hbm, 1016, rfl⟩
abbrev main_call66_cst_2 : Ref sig .tc := ⟨.hbm, 1017, rfl⟩
abbrev main_call66_v8 : Ref sig .tc := ⟨.hbm, 1018, rfl⟩
abbrev main_call66_v9 : Ref sig .tc := ⟨.hbm, 1019, rfl⟩
abbrev main_call66_cst_3 : Ref sig .tc := ⟨.hbm, 1020, rfl⟩
abbrev main_call66_cst_4 : Ref sig .tc := ⟨.hbm, 1021, rfl⟩
abbrev main_call66_call1_v0 : Ref sig .tc := ⟨.hbm, 1022, rfl⟩
abbrev main_call66_call1_v1 : Ref sig .tc := ⟨.hbm, 1023, rfl⟩
abbrev main_call66_v10 : Ref sig .tc := ⟨.hbm, 1024, rfl⟩
abbrev main_call66_v11 : Ref sig .tc := ⟨.hbm, 1025, rfl⟩
abbrev main_call66_v12 : Ref sig .tc := ⟨.hbm, 1026, rfl⟩
abbrev main_call66_cst_5 : Ref sig .tc := ⟨.hbm, 1027, rfl⟩
abbrev main_call66_v13 : Ref sig .tc := ⟨.hbm, 1028, rfl⟩
abbrev main_call66_v14 : Ref sig .tc := ⟨.hbm, 1029, rfl⟩
abbrev main_call66_v15 : Ref sig .tc := ⟨.hbm, 1030, rfl⟩
abbrev main_call66_v16 : Ref sig .tc := ⟨.hbm, 1031, rfl⟩
abbrev main_call66_v17 : Ref sig .tc := ⟨.hbm, 1032, rfl⟩
abbrev main_call66_v18 : Ref sig .tc := ⟨.hbm, 1033, rfl⟩
abbrev main_call66_cst_6 : Ref sig .tc := ⟨.hbm, 1034, rfl⟩
abbrev main_call66_call2_v0 : Ref sig .tc := ⟨.hbm, 1035, rfl⟩
abbrev main_call66_call2_v1 : Ref sig .tc := ⟨.hbm, 1036, rfl⟩
abbrev main_call66_v19 : Ref sig .tc := ⟨.hbm, 1037, rfl⟩
abbrev main_call66_v20 : Ref sig .tc := ⟨.hbm, 1038, rfl⟩
abbrev main_call66_cst_7 : Ref sig .tc := ⟨.hbm, 1039, rfl⟩
abbrev main_call66_v21 : Ref sig .tc := ⟨.hbm, 1040, rfl⟩
abbrev main_call66_v22 : Ref sig .tc := ⟨.hbm, 1041, rfl⟩
abbrev main_call66_v23 : Ref sig .tc := ⟨.hbm, 1042, rfl⟩
abbrev main_call66_cst_8 : Ref sig .tc := ⟨.hbm, 1043, rfl⟩
abbrev main_call66_v24 : Ref sig .tc := ⟨.hbm, 1044, rfl⟩
abbrev main_v208_0 : Ref sig .tc := ⟨.hbm, 1045, rfl⟩
abbrev main_v208_1 : Ref sig .tc := ⟨.hbm, 1046, rfl⟩
abbrev main_v209 : Ref sig .tc := ⟨.hbm, 1047, rfl⟩
abbrev main_call67_v0 : Ref sig .tc := ⟨.hbm, 1048, rfl⟩
abbrev main_call67_v1 : Ref sig .tc := ⟨.hbm, 1049, rfl⟩
abbrev main_call67_v2 : Ref sig .tc := ⟨.hbm, 1050, rfl⟩
abbrev main_v210 : Ref sig .tc := ⟨.hbm, 1051, rfl⟩
abbrev main_call68_v0 : Ref sig .tc := ⟨.hbm, 1052, rfl⟩
abbrev main_call68_v1 : Ref sig .tc := ⟨.hbm, 1053, rfl⟩
abbrev main_v211 : Ref sig .tc := ⟨.hbm, 1054, rfl⟩
abbrev main_call69_v0 : Ref sig .tc := ⟨.hbm, 1055, rfl⟩
abbrev main_call69_v1 : Ref sig .tc := ⟨.hbm, 1056, rfl⟩
abbrev main_v212 : Ref sig .tc := ⟨.hbm, 1057, rfl⟩
abbrev main_v213 : Ref sig .tc := ⟨.hbm, 1058, rfl⟩
abbrev main_v214 : Ref sig .tc := ⟨.hbm, 1059, rfl⟩
abbrev main_cst_97 : Ref sig .tc := ⟨.hbm, 1060, rfl⟩
abbrev main_call70_v0 : Ref sig .tc := ⟨.hbm, 1061, rfl⟩
abbrev main_call70_v1 : Ref sig .tc := ⟨.hbm, 1062, rfl⟩
abbrev main_call70_v2 : Ref sig .tc := ⟨.hbm, 1063, rfl⟩
abbrev main_v215 : Ref sig .tc := ⟨.hbm, 1064, rfl⟩
abbrev main_v216 : Ref sig .tc := ⟨.hbm, 1065, rfl⟩
abbrev main_v217 : Ref sig .tc := ⟨.hbm, 1066, rfl⟩
abbrev main_v218 : Ref sig .tc := ⟨.hbm, 1067, rfl⟩
abbrev main_v219 : Ref sig .tc := ⟨.hbm, 1068, rfl⟩
abbrev main_call71_v0 : Ref sig .tc := ⟨.hbm, 1069, rfl⟩
abbrev main_call71_cst : Ref sig .tc := ⟨.hbm, 1070, rfl⟩
abbrev main_call71_v1 : Ref sig .tc := ⟨.hbm, 1071, rfl⟩
abbrev main_call71_v2 : Ref sig .tc := ⟨.hbm, 1072, rfl⟩
abbrev main_call71_v3 : Ref sig .tc := ⟨.hbm, 1073, rfl⟩
abbrev main_call71_cst_0 : Ref sig .tc := ⟨.hbm, 1074, rfl⟩
abbrev main_call71_call0_v0 : Ref sig .tc := ⟨.hbm, 1075, rfl⟩
abbrev main_call71_call0_v1 : Ref sig .tc := ⟨.hbm, 1076, rfl⟩
abbrev main_call71_v4 : Ref sig .tc := ⟨.hbm, 1077, rfl⟩
abbrev main_call71_cst_1 : Ref sig .tc := ⟨.hbm, 1078, rfl⟩
abbrev main_call71_v5 : Ref sig .tc := ⟨.hbm, 1079, rfl⟩
abbrev main_call71_v6 : Ref sig .tc := ⟨.hbm, 1080, rfl⟩
abbrev main_call71_v7 : Ref sig .tc := ⟨.hbm, 1081, rfl⟩
abbrev main_call71_cst_2 : Ref sig .tc := ⟨.hbm, 1082, rfl⟩
abbrev main_call71_v8 : Ref sig .tc := ⟨.hbm, 1083, rfl⟩
abbrev main_call71_v9 : Ref sig .tc := ⟨.hbm, 1084, rfl⟩
abbrev main_call71_cst_3 : Ref sig .tc := ⟨.hbm, 1085, rfl⟩
abbrev main_call71_cst_4 : Ref sig .tc := ⟨.hbm, 1086, rfl⟩
abbrev main_call71_call1_v0 : Ref sig .tc := ⟨.hbm, 1087, rfl⟩
abbrev main_call71_call1_v1 : Ref sig .tc := ⟨.hbm, 1088, rfl⟩
abbrev main_call71_v10 : Ref sig .tc := ⟨.hbm, 1089, rfl⟩
abbrev main_call71_v11 : Ref sig .tc := ⟨.hbm, 1090, rfl⟩
abbrev main_call71_v12 : Ref sig .tc := ⟨.hbm, 1091, rfl⟩
abbrev main_call71_cst_5 : Ref sig .tc := ⟨.hbm, 1092, rfl⟩
abbrev main_call71_v13 : Ref sig .tc := ⟨.hbm, 1093, rfl⟩
abbrev main_call71_v14 : Ref sig .tc := ⟨.hbm, 1094, rfl⟩
abbrev main_call71_v15 : Ref sig .tc := ⟨.hbm, 1095, rfl⟩
abbrev main_call71_v16 : Ref sig .tc := ⟨.hbm, 1096, rfl⟩
abbrev main_call71_v17 : Ref sig .tc := ⟨.hbm, 1097, rfl⟩
abbrev main_call71_v18 : Ref sig .tc := ⟨.hbm, 1098, rfl⟩
abbrev main_call71_cst_6 : Ref sig .tc := ⟨.hbm, 1099, rfl⟩
abbrev main_call71_call2_v0 : Ref sig .tc := ⟨.hbm, 1100, rfl⟩
abbrev main_call71_call2_v1 : Ref sig .tc := ⟨.hbm, 1101, rfl⟩
abbrev main_call71_v19 : Ref sig .tc := ⟨.hbm, 1102, rfl⟩
abbrev main_call71_v20 : Ref sig .tc := ⟨.hbm, 1103, rfl⟩
abbrev main_call71_cst_7 : Ref sig .tc := ⟨.hbm, 1104, rfl⟩
abbrev main_call71_v21 : Ref sig .tc := ⟨.hbm, 1105, rfl⟩
abbrev main_call71_v22 : Ref sig .tc := ⟨.hbm, 1106, rfl⟩
abbrev main_call71_v23 : Ref sig .tc := ⟨.hbm, 1107, rfl⟩
abbrev main_call71_cst_8 : Ref sig .tc := ⟨.hbm, 1108, rfl⟩
abbrev main_call71_v24 : Ref sig .tc := ⟨.hbm, 1109, rfl⟩
abbrev main_v220_0 : Ref sig .tc := ⟨.hbm, 1110, rfl⟩
abbrev main_v220_1 : Ref sig .tc := ⟨.hbm, 1111, rfl⟩
abbrev main_v221 : Ref sig .tc := ⟨.hbm, 1112, rfl⟩
abbrev main_call72_v0 : Ref sig .tc := ⟨.hbm, 1113, rfl⟩
abbrev main_call72_v1 : Ref sig .tc := ⟨.hbm, 1114, rfl⟩
abbrev main_call72_v2 : Ref sig .tc := ⟨.hbm, 1115, rfl⟩
abbrev main_v222 : Ref sig .tc := ⟨.hbm, 1116, rfl⟩
abbrev main_call73_v0 : Ref sig .tc := ⟨.hbm, 1117, rfl⟩
abbrev main_call73_v1 : Ref sig .tc := ⟨.hbm, 1118, rfl⟩
abbrev main_v223 : Ref sig .tc := ⟨.hbm, 1119, rfl⟩
abbrev main_call74_v0 : Ref sig .tc := ⟨.hbm, 1120, rfl⟩
abbrev main_call74_v1 : Ref sig .tc := ⟨.hbm, 1121, rfl⟩
abbrev main_v224 : Ref sig .tc := ⟨.hbm, 1122, rfl⟩
abbrev main_v225 : Ref sig .tc := ⟨.hbm, 1123, rfl⟩
abbrev main_v226 : Ref sig .tc := ⟨.hbm, 1124, rfl⟩
abbrev main_cst_98 : Ref sig .tc := ⟨.hbm, 1125, rfl⟩
abbrev main_call75_v0 : Ref sig .tc := ⟨.hbm, 1126, rfl⟩
abbrev main_call75_v1 : Ref sig .tc := ⟨.hbm, 1127, rfl⟩
abbrev main_call75_v2 : Ref sig .tc := ⟨.hbm, 1128, rfl⟩
abbrev main_v227 : Ref sig .tc := ⟨.hbm, 1129, rfl⟩
abbrev main_v228 : Ref sig .tc := ⟨.hbm, 1130, rfl⟩
abbrev main_v229 : Ref sig .tc := ⟨.hbm, 1131, rfl⟩
abbrev main_v230 : Ref sig .tc := ⟨.hbm, 1132, rfl⟩
abbrev main_c_99 : Ref sig .tc := ⟨.hbm, 1133, rfl⟩
abbrev main_v231 : Ref sig .tc := ⟨.hbm, 1134, rfl⟩
abbrev main_v232 : Ref sig .tc := ⟨.hbm, 1135, rfl⟩
abbrev main_v233 : Ref sig .tc := ⟨.hbm, 1136, rfl⟩
abbrev main_cst_100 : Ref sig .tc := ⟨.hbm, 1137, rfl⟩
abbrev main_call76_v0 : Ref sig .tc := ⟨.hbm, 1138, rfl⟩
abbrev main_call76_v1 : Ref sig .tc := ⟨.hbm, 1139, rfl⟩
abbrev main_call76_v2 : Ref sig .tc := ⟨.hbm, 1140, rfl⟩
abbrev main_v234 : Ref sig .tc := ⟨.hbm, 1141, rfl⟩
abbrev main_cst_101 : Ref sig .tc := ⟨.hbm, 1142, rfl⟩
abbrev main_v235 : Ref sig .tc := ⟨.hbm, 1143, rfl⟩
abbrev main_v236 : Ref sig .tc := ⟨.hbm, 1144, rfl⟩
abbrev main_v237 : Ref sig .tc := ⟨.hbm, 1145, rfl⟩
abbrev main_v238 : Ref sig .tc := ⟨.hbm, 1146, rfl⟩
abbrev main_v239 : Ref sig .tc := ⟨.hbm, 1147, rfl⟩
abbrev main_v240 : Ref sig .tc := ⟨.hbm, 1148, rfl⟩
abbrev main_v241 : Ref sig .tc := ⟨.hbm, 1149, rfl⟩
abbrev main_v242_0 : Ref sig .tc := ⟨.hbm, 1150, rfl⟩
abbrev main_v242_1 : Ref sig .tc := ⟨.hbm, 1151, rfl⟩
abbrev main_v242_2 : Ref sig .tc := ⟨.hbm, 1152, rfl⟩
abbrev main_v242_3 : Ref sig .tc := ⟨.hbm, 1153, rfl⟩
abbrev main_v243 : Ref sig .tc := ⟨.hbm, 1154, rfl⟩
abbrev main_v244 : Ref sig .tc := ⟨.hbm, 1155, rfl⟩
abbrev main_v245 : Ref sig .tc := ⟨.hbm, 1156, rfl⟩
abbrev main_v246 : Ref sig .tc := ⟨.hbm, 1157, rfl⟩
abbrev main_v247 : Ref sig .tc := ⟨.hbm, 1158, rfl⟩
abbrev main_v248 : Ref sig .tc := ⟨.hbm, 1159, rfl⟩
abbrev main_cst_102 : Ref sig .tc := ⟨.hbm, 1160, rfl⟩
abbrev main_v249 : Ref sig .tc := ⟨.hbm, 1161, rfl⟩
abbrev main_v250 : Ref sig .tc := ⟨.hbm, 1162, rfl⟩
abbrev main_cst_103 : Ref sig .tc := ⟨.hbm, 1163, rfl⟩
abbrev main_v251 : Ref sig .tc := ⟨.hbm, 1164, rfl⟩
abbrev main_v252 : Ref sig .tc := ⟨.hbm, 1165, rfl⟩
abbrev main_v253 : Ref sig .tc := ⟨.hbm, 1166, rfl⟩
abbrev main_v254 : Ref sig .tc := ⟨.hbm, 1167, rfl⟩
abbrev main_v255 : Ref sig .tc := ⟨.hbm, 1168, rfl⟩
abbrev main_cst_104 : Ref sig .tc := ⟨.hbm, 1169, rfl⟩
abbrev main_v256 : Ref sig .tc := ⟨.hbm, 1170, rfl⟩
abbrev main_v257 : Ref sig .tc := ⟨.hbm, 1171, rfl⟩
abbrev main_v258 : Ref sig .tc := ⟨.hbm, 1172, rfl⟩
abbrev main_cst_105 : Ref sig .tc := ⟨.hbm, 1173, rfl⟩
abbrev main_v259 : Ref sig .tc := ⟨.hbm, 1174, rfl⟩
abbrev main_v260 : Ref sig .tc := ⟨.hbm, 1175, rfl⟩
abbrev main_cst_106 : Ref sig .tc := ⟨.hbm, 1176, rfl⟩
abbrev main_v261 : Ref sig .tc := ⟨.hbm, 1177, rfl⟩
abbrev main_v262 : Ref sig .tc := ⟨.hbm, 1178, rfl⟩
abbrev main_v263 : Ref sig .tc := ⟨.hbm, 1179, rfl⟩
abbrev main_v264 : Ref sig .tc := ⟨.hbm, 1180, rfl⟩
abbrev main_call78_v0 : Ref sig .tc := ⟨.hbm, 1181, rfl⟩
abbrev main_call78_cst : Ref sig .tc := ⟨.hbm, 1182, rfl⟩
abbrev main_call78_v1 : Ref sig .tc := ⟨.hbm, 1183, rfl⟩
abbrev main_call78_v2 : Ref sig .tc := ⟨.hbm, 1184, rfl⟩
abbrev main_v265 : Ref sig .tc := ⟨.hbm, 1185, rfl⟩
abbrev main_cst_107 : Ref sig .tc := ⟨.hbm, 1186, rfl⟩
abbrev main_v266 : Ref sig .tc := ⟨.hbm, 1187, rfl⟩
abbrev main_v267 : Ref sig .tc := ⟨.hbm, 1188, rfl⟩
abbrev main_v268 : Ref sig .tc := ⟨.hbm, 1189, rfl⟩
abbrev main_v269 : Ref sig .tc := ⟨.hbm, 1190, rfl⟩
abbrev main_call79_v0 : Ref sig .tc := ⟨.hbm, 1191, rfl⟩
abbrev main_call79_cst : Ref sig .tc := ⟨.hbm, 1192, rfl⟩
abbrev main_call79_v1 : Ref sig .tc := ⟨.hbm, 1193, rfl⟩
abbrev main_call79_v2 : Ref sig .tc := ⟨.hbm, 1194, rfl⟩
abbrev main_v270 : Ref sig .tc := ⟨.hbm, 1195, rfl⟩
abbrev main_cst_108 : Ref sig .tc := ⟨.hbm, 1196, rfl⟩
abbrev main_v271 : Ref sig .tc := ⟨.hbm, 1197, rfl⟩
abbrev main_v272 : Ref sig .tc := ⟨.hbm, 1198, rfl⟩
abbrev main_cst_109 : Ref sig .tc := ⟨.hbm, 1199, rfl⟩
abbrev main_v273 : Ref sig .tc := ⟨.hbm, 1200, rfl⟩
abbrev main_v274 : Ref sig .tc := ⟨.hbm, 1201, rfl⟩
abbrev main_v275 : Ref sig .tc := ⟨.hbm, 1202, rfl⟩
abbrev main_v276 : Ref sig .tc := ⟨.hbm, 1203, rfl⟩
abbrev main_v277 : Ref sig .tc := ⟨.hbm, 1204, rfl⟩
abbrev main_v278 : Ref sig .tc := ⟨.hbm, 1205, rfl⟩
abbrev main_v279 : Ref sig .tc := ⟨.hbm, 1206, rfl⟩
abbrev main_v280 : Ref sig .tc := ⟨.hbm, 1207, rfl⟩
abbrev main_v281 : Ref sig .tc := ⟨.hbm, 1208, rfl⟩
abbrev main_cst_110 : Ref sig .tc := ⟨.hbm, 1209, rfl⟩
abbrev main_v282 : Ref sig .tc := ⟨.hbm, 1210, rfl⟩
abbrev main_v283 : Ref sig .tc := ⟨.hbm, 1211, rfl⟩
abbrev main_v284 : Ref sig .tc := ⟨.hbm, 1212, rfl⟩
abbrev main_cst_111 : Ref sig .tc := ⟨.hbm, 1213, rfl⟩
abbrev main_v285 : Ref sig .tc := ⟨.hbm, 1214, rfl⟩
abbrev main_v286 : Ref sig .tc := ⟨.hbm, 1215, rfl⟩
abbrev main_v287 : Ref sig .tc := ⟨.hbm, 1216, rfl⟩
abbrev main_v288 : Ref sig .tc := ⟨.hbm, 1217, rfl⟩
abbrev main_v289 : Ref sig .tc := ⟨.hbm, 1218, rfl⟩
abbrev main_v290 : Ref sig .tc := ⟨.hbm, 1219, rfl⟩
abbrev main_v291 : Ref sig .tc := ⟨.hbm, 1220, rfl⟩
abbrev main_v292 : Ref sig .tc := ⟨.hbm, 1221, rfl⟩
abbrev main_v293 : Ref sig .tc := ⟨.hbm, 1222, rfl⟩
abbrev main_v294 : Ref sig .tc := ⟨.hbm, 1223, rfl⟩
abbrev main_v295 : Ref sig .tc := ⟨.hbm, 1224, rfl⟩
abbrev main_v296 : Ref sig .tc := ⟨.hbm, 1225, rfl⟩
abbrev main_v297 : Ref sig .tc := ⟨.hbm, 1226, rfl⟩
abbrev main_v298 : Ref sig .tc := ⟨.hbm, 1227, rfl⟩
abbrev main_cst_112 : Ref sig .tc := ⟨.hbm, 1228, rfl⟩
abbrev main_v299 : Ref sig .tc := ⟨.hbm, 1229, rfl⟩
abbrev main_v300 : Ref sig .tc := ⟨.hbm, 1230, rfl⟩
abbrev main_v301 : Ref sig .tc := ⟨.hbm, 1231, rfl⟩
abbrev main_cst_113 : Ref sig .tc := ⟨.hbm, 1232, rfl⟩
abbrev main_v302 : Ref sig .tc := ⟨.hbm, 1233, rfl⟩
abbrev main_v303 : Ref sig .tc := ⟨.hbm, 1234, rfl⟩
abbrev main_v304 : Ref sig .tc := ⟨.hbm, 1235, rfl⟩
abbrev main_v305 : Ref sig .tc := ⟨.hbm, 1236, rfl⟩
abbrev main_v306 : Ref sig .tc := ⟨.hbm, 1237, rfl⟩
abbrev main_v307 : Ref sig .tc := ⟨.hbm, 1238, rfl⟩
abbrev main_v308 : Ref sig .tc := ⟨.hbm, 1239, rfl⟩
abbrev main_v309 : Ref sig .tc := ⟨.hbm, 1240, rfl⟩
abbrev main_v310 : Ref sig .tc := ⟨.hbm, 1241, rfl⟩
abbrev main_v311 : Ref sig .tc := ⟨.hbm, 1242, rfl⟩
abbrev main_v312 : Ref sig .tc := ⟨.hbm, 1243, rfl⟩
abbrev main_v313 : Ref sig .tc := ⟨.hbm, 1244, rfl⟩
abbrev main_v314 : Ref sig .tc := ⟨.hbm, 1245, rfl⟩
abbrev main_v315 : Ref sig .tc := ⟨.hbm, 1246, rfl⟩
abbrev main_v316 : Ref sig .tc := ⟨.hbm, 1247, rfl⟩
abbrev main_cst_114 : Ref sig .tc := ⟨.hbm, 1248, rfl⟩
abbrev main_v317 : Ref sig .tc := ⟨.hbm, 1249, rfl⟩
abbrev main_v318 : Ref sig .tc := ⟨.hbm, 1250, rfl⟩
abbrev main_v319 : Ref sig .tc := ⟨.hbm, 1251, rfl⟩
abbrev main_cst_115 : Ref sig .tc := ⟨.hbm, 1252, rfl⟩
abbrev main_v320 : Ref sig .tc := ⟨.hbm, 1253, rfl⟩
abbrev main_v321 : Ref sig .tc := ⟨.hbm, 1254, rfl⟩
abbrev main_v322 : Ref sig .tc := ⟨.hbm, 1255, rfl⟩
abbrev main_v323 : Ref sig .tc := ⟨.hbm, 1256, rfl⟩
abbrev main_v324 : Ref sig .tc := ⟨.hbm, 1257, rfl⟩
abbrev main_v325 : Ref sig .tc := ⟨.hbm, 1258, rfl⟩
abbrev main_v326 : Ref sig .tc := ⟨.hbm, 1259, rfl⟩
abbrev main_v327 : Ref sig .tc := ⟨.hbm, 1260, rfl⟩
abbrev main_v328 : Ref sig .tc := ⟨.hbm, 1261, rfl⟩
abbrev main_v329 : Ref sig .tc := ⟨.hbm, 1262, rfl⟩
abbrev main_v330 : Ref sig .tc := ⟨.hbm, 1263, rfl⟩
abbrev main_v331 : Ref sig .tc := ⟨.hbm, 1264, rfl⟩
abbrev main_v332 : Ref sig .tc := ⟨.hbm, 1265, rfl⟩
abbrev main_v333 : Ref sig .tc := ⟨.hbm, 1266, rfl⟩
abbrev main_v334 : Ref sig .tc := ⟨.hbm, 1267, rfl⟩
abbrev main_v335 : Ref sig .tc := ⟨.hbm, 1268, rfl⟩
abbrev main_v336 : Ref sig .tc := ⟨.hbm, 1269, rfl⟩
abbrev main_v337 : Ref sig .tc := ⟨.hbm, 1270, rfl⟩
abbrev main_v338 : Ref sig .tc := ⟨.hbm, 1271, rfl⟩
abbrev main_v339 : Ref sig .tc := ⟨.hbm, 1272, rfl⟩
abbrev main_v340 : Ref sig .tc := ⟨.hbm, 1273, rfl⟩
abbrev main_v341 : Ref sig .tc := ⟨.hbm, 1274, rfl⟩
abbrev main_cst_116 : Ref sig .tc := ⟨.hbm, 1275, rfl⟩
abbrev main_v342 : Ref sig .tc := ⟨.hbm, 1276, rfl⟩
abbrev main_v343 : Ref sig .tc := ⟨.hbm, 1277, rfl⟩
abbrev main_v344 : Ref sig .tc := ⟨.hbm, 1278, rfl⟩
abbrev main_v345 : Ref sig .tc := ⟨.hbm, 1279, rfl⟩
abbrev main_v346 : Ref sig .tc := ⟨.hbm, 1280, rfl⟩
abbrev main_v347 : Ref sig .tc := ⟨.hbm, 1281, rfl⟩
abbrev main_v348 : Ref sig .tc := ⟨.hbm, 1282, rfl⟩
abbrev main_cst_117 : Ref sig .tc := ⟨.hbm, 1283, rfl⟩
abbrev main_v349 : Ref sig .tc := ⟨.hbm, 1284, rfl⟩
abbrev main_v350 : Ref sig .tc := ⟨.hbm, 1285, rfl⟩
abbrev main_cst_118 : Ref sig .tc := ⟨.hbm, 1286, rfl⟩
abbrev main_v351 : Ref sig .tc := ⟨.hbm, 1287, rfl⟩
abbrev main_v352 : Ref sig .tc := ⟨.hbm, 1288, rfl⟩
abbrev main_cst_119 : Ref sig .tc := ⟨.hbm, 1289, rfl⟩
abbrev main_v353 : Ref sig .tc := ⟨.hbm, 1290, rfl⟩
abbrev main_v354 : Ref sig .tc := ⟨.hbm, 1291, rfl⟩

abbrev nD : Nat := 1
abbrev τ : Topo := Topo.v7x

variable {F : FTy → Type} [FloatOps F]
-- ==== Proof.Jacobi.lean ====
/- One Jacobi rotation of a symmetric 3×3 matrix, three ways: in the extended reals as the kernel's lanes compute it, over the
   reals in closed form, and over the reals as the product Jᵀ·A·J with the pivot set to zero. The three agree on real matrices;
   so do five sweeps of three rotations. -/
module

public import Idealize.ShloMosaic.Lib.Pointwise
public import Idealize.ShloMosaic.Lib.IdealHost

@[expose] public section

noncomputable section

namespace Cert.Jacobi

open Idealize.ShloMosaic

/-- The upper triangle of a symmetric 3×3 matrix and the nine entries of the accumulated rotation. -/
@[ext] structure Sym (α : Type) where
  (a00 a01 a02 a11 a12 a22 v00 v01 v02 v10 v11 v12 v20 v21 v22 : α)

/-- The structure with a function applied to each entry. -/
def Sym.map {α β : Type} (f : α → β) (S : Sym α) : Sym β :=
  ⟨f S.a00, f S.a01, f S.a02, f S.a11, f S.a12, f S.a22, f S.v00, f S.v01, f S.v02, f S.v10, f S.v11, f S.v12, f S.v20,
    f S.v21, f S.v22⟩

/-- The smallest pivot that is rotated away, as its float word's value. -/
def tinyE : EReal := Ideal.ofBits .f32 0x0A4FB11F#32

/-- The same number, a real. -/
def tinyR : ℝ := tinyE.toReal

theorem tiny_coe : tinyE = (tinyR : EReal) ∧ 0 < tinyR := by
  have h : tinyE = ((13611295 * 2 ^ (-130 : ℤ) : ℝ) : EReal) := by
    simp [tinyE, Ideal.ofBits, Ideal.ieee]
  have h2 : tinyR = (13611295 * 2 ^ (-130 : ℤ) : ℝ) := by rw [tinyR, h, EReal.toReal_coe]
  refine ⟨by rw [h2, h], by rw [h2]; positivity⟩

theorem ofBits_half : Ideal.ofBits .f32 0x3F000000#32 = ((1 / 2 : ℝ) : EReal) := by
  simp [Ideal.ofBits, Ideal.ieee]
  rw [← EReal.coe_mul]
  congr 1; norm_num
theorem ofBits_two : Ideal.ofBits .f32 0x40000000#32 = ((2 : ℝ) : EReal) := by
  simp [Ideal.ofBits, Ideal.ieee]
  rw [← EReal.coe_mul]
  congr 1; norm_num
theorem ofBits_neg_one : Ideal.ofBits .f32 0xBF800000#32 = ((-1 : ℝ) : EReal) := by
  simp [Ideal.ofBits, Ideal.ieee]
  rw [← EReal.coe_mul, ← EReal.coe_one]
  congr 1; norm_num
theorem ofBits_sixteen : Ideal.ofBits .f32 0x41800000#32 = ((16 : ℝ) : EReal) := by
  simp [Ideal.ofBits, Ideal.ieee]
  rw [← EReal.coe_mul]
  congr 1; norm_num
theorem ofBits_sixteenth : Ideal.ofBits .f32 0x3D800000#32 = ((1 / 16 : ℝ) : EReal) := by
  simp [Ideal.ofBits, Ideal.ieee]
  rw [← EReal.coe_mul]
  congr 1; norm_num
theorem ofBits_2048 : Ideal.ofBits .f32 0x45000000#32 = ((2048 : ℝ) : EReal) := by
  simp [Ideal.ofBits, Ideal.ieee]
  rw [← EReal.coe_mul]
  congr 1; norm_num

/-- The pivot is below the smallest one rotated away. -/
def eSmall (apq : EReal) : BitVec 1 := Ideal.cmp .olt (max apq (-apq)) tinyE

/-- The tangent from the cotangent of twice the angle. -/
def eTan (sm : BitVec 1) (τ : EReal) : EReal :=
  Scalar.select sm (Ideal.ofBits .f32 0x00000000#32)
    (Ideal.div (Scalar.select (Ideal.cmp .oge τ (Ideal.ofBits .f32 0x00000000#32)) (Ideal.ofBits .f32 0x3F800000#32)
      (Ideal.ofBits .f32 0xBF800000#32)) (max τ (-τ) + Ideal.sqrt (Ideal.ofBits .f32 0x3F800000#32 + τ * τ)))

/-- The tangent of the rotation's angle, as a lane of the kernel computes it. -/
def eT (app aqq apq : EReal) : EReal :=
  eTan (eSmall apq) (Ideal.div ((aqq - app) * Ideal.ofBits .f32 0x3F000000#32)
    (Scalar.select (eSmall apq) (Ideal.ofBits .f32 0x3F800000#32) apq))

/-- The tangent of the rotation's angle, as the reference computes it. -/
def hT (app aqq apq : EReal) : EReal :=
  eTan (eSmall apq) (Ideal.div (aqq - app) (Ideal.ofBits .f32 0x40000000#32 *
    (Scalar.select (eSmall apq) (Ideal.ofBits .f32 0x3F800000#32) apq)))

/-- The cosine from the tangent, as a lane of the kernel computes it. -/
def eC (t : EReal) : EReal := Ideal.rsqrt (Ideal.ofBits .f32 0x3F800000#32 + t * t)

/-- The cosine from the tangent, as the reference computes it. -/
def hC (t : EReal) : EReal :=
  Ideal.div (Ideal.ofBits .f32 0x3F800000#32) (Ideal.sqrt (Ideal.ofBits .f32 0x3F800000#32 + t * t))

/-- The real tangent. -/
def rT (app aqq apq : ℝ) : ℝ :=
  if |apq| < tinyR then 0 else
    (if 0 ≤ (aqq - app) * (1 / 2) / apq then 1 else -1) /
      (|(aqq - app) * (1 / 2) / apq| + Real.sqrt (1 + ((aqq - app) * (1 / 2) / apq) * ((aqq - app) * (1 / 2) / apq)))

/-- The real cosine. -/
def rC (t : ℝ) : ℝ := (Real.sqrt (1 + t * t))⁻¹

theorem max_neg_coe (x : ℝ) : max (x : EReal) (-(x : EReal)) = ((|x| : ℝ) : EReal) := by
  rw [← EReal.coe_neg]; exact (EReal.coe_strictMono.monotone.map_max).symm

theorem select_ofBool {α : Type} (p : Prop) [Decidable p] (a b : α) :
    Scalar.select (BitVec.ofBool (decide p)) a b = if p then a else b := by
  by_cases h : p <;> simp [Scalar.select, h]

theorem eSmall_coe (x : ℝ) : eSmall (x : EReal) = BitVec.ofBool (decide (|x| < tinyR)) := by
  unfold eSmall
  rw [max_neg_coe, tiny_coe.1]
  simp [Ideal.cmp]

theorem eTan_coe (p : Prop) [Decidable p] (τ : ℝ) : eTan (BitVec.ofBool (decide p)) (τ : EReal) =
    ((if p then 0 else (if 0 ≤ τ then 1 else -1) / (|τ| + Real.sqrt (1 + τ * τ)) : ℝ) : EReal) := by
  unfold eTan
  have hpos : 0 < 1 + τ * τ := by nlinarith [mul_self_nonneg τ]
  have hs : 0 < Real.sqrt (1 + τ * τ) := Real.sqrt_pos.mpr hpos
  have hd : |τ| + Real.sqrt (1 + τ * τ) ≠ 0 := by positivity
  rw [select_ofBool, max_neg_coe, Ideal.ofBits_one_f32, Ideal.ofBits_zero_f32, ofBits_neg_one]
  by_cases h : p
  · simp [h]
  · have e1 : (1 : EReal) + (τ : EReal) * (τ : EReal) = ((1 + τ * τ : ℝ) : EReal) := by push_cast; rfl
    have e2 : Scalar.select (Ideal.cmp .oge (τ : EReal) 0) (1 : EReal) ((-1 : ℝ) : EReal) =
        ((if 0 ≤ τ then 1 else -1 : ℝ) : EReal) := by
      simp only [Ideal.cmp]
      rw [select_ofBool]
      by_cases h0 : 0 ≤ τ <;> simp [h0]
    rw [if_neg h, if_neg h, e1, Ideal.sqrt_coe, if_neg (not_lt.mpr hpos.le), ← EReal.coe_add, Ideal.div_coe hd, e2,
      ← EReal.coe_mul, mul_one_div]

/-- The kernel's tangent of real entries is the real tangent. -/
theorem eT_coe (app aqq apq : ℝ) : eT app aqq apq = (rT app aqq apq : EReal) := by
  unfold eT rT
  rw [eSmall_coe, select_ofBool, ofBits_half, Ideal.ofBits_one_f32]
  by_cases h : |apq| < tinyR
  · have : Ideal.div (((aqq : EReal) - app) * ((1 / 2 : ℝ) : EReal)) 1 = (((aqq - app) * (1 / 2) : ℝ) : EReal) := by
      rw [← EReal.coe_one, Ideal.div_coe one_ne_zero]; push_cast; simp
    rw [if_pos h, this, eTan_coe, if_pos h, if_pos h]
  · have h0 : apq ≠ 0 := by
      rintro rfl; exact h (by simpa using tiny_coe.2)
    have : Ideal.div (((aqq : EReal) - app) * ((1 / 2 : ℝ) : EReal)) apq =
        (((aqq - app) * (1 / 2) / apq : ℝ) : EReal) := by
      rw [Ideal.div_coe h0, ← EReal.coe_sub, ← EReal.coe_mul, ← EReal.coe_mul, mul_one_div]
    rw [if_neg h, this, eTan_coe, if_neg h]

/-- The reference's tangent of real entries is the real tangent. -/
theorem hT_coe (app aqq apq : ℝ) : hT app aqq apq = (rT app aqq apq : EReal) := by
  unfold hT rT
  rw [eSmall_coe, select_ofBool, ofBits_two, Ideal.ofBits_one_f32]
  by_cases h : |apq| < tinyR
  · have : Ideal.div ((aqq : EReal) - app) (((2 : ℝ) : EReal) * 1) = (((aqq - app) * (1 / 2) : ℝ) : EReal) := by
      rw [mul_one, Ideal.div_coe two_ne_zero, ← EReal.coe_sub, ← EReal.coe_mul]
    rw [if_pos h, this, eTan_coe, if_pos h, if_pos h]
  · have h0 : apq ≠ 0 := by
      rintro rfl; exact h (by simpa using tiny_coe.2)
    have : Ideal.div ((aqq : EReal) - app) (((2 : ℝ) : EReal) * apq) =
        (((aqq - app) * (1 / 2) / apq : ℝ) : EReal) := by
      rw [← EReal.coe_mul, Ideal.div_coe (mul_ne_zero two_ne_zero h0), ← EReal.coe_sub, ← EReal.coe_mul]
      congr 1; field_simp
    rw [if_neg h, this, eTan_coe, if_neg h]

theorem one_add_sq_pos (t : ℝ) : 0 < 1 + t * t := by nlinarith [mul_self_nonneg t]

theorem eC_coe (t : ℝ) : eC t = (rC t : EReal) := by
  unfold eC rC
  have e1 : (1 : EReal) + (t : EReal) * (t : EReal) = ((1 + t * t : ℝ) : EReal) := by push_cast; rfl
  rw [Ideal.ofBits_one_f32, e1, Ideal.rsqrt_coe, if_neg (not_lt.mpr (one_add_sq_pos t).le), if_neg (one_add_sq_pos t).ne']

theorem hC_coe (t : ℝ) : hC t = (rC t : EReal) := by
  unfold hC rC
  have e1 : (1 : EReal) + (t : EReal) * (t : EReal) = ((1 + t * t : ℝ) : EReal) := by push_cast; rfl
  rw [Ideal.ofBits_one_f32, e1, Ideal.sqrt_coe, if_neg (not_lt.mpr (one_add_sq_pos t).le),
    Ideal.div_coe (Real.sqrt_pos.mpr (one_add_sq_pos t)).ne', one_mul, one_div]

/-- The squared cosine is the inverse of one plus the squared tangent. -/
theorem rC_sq (t : ℝ) : rC t * rC t * (1 + t * t) = 1 := by
  have h := Real.mul_self_sqrt (one_add_sq_pos t).le
  have h0 := (Real.sqrt_pos.mpr (one_add_sq_pos t)).ne'
  unfold rC
  rw [← mul_inv, h, inv_mul_cancel₀ (one_add_sq_pos t).ne']

/-- The tangent annihilates the pivot, or is zero where the pivot is not rotated away. -/
theorem rT_root (app aqq apq : ℝ) :
    rT app aqq apq * (apq * (rT app aqq apq * rT app aqq apq) + (aqq - app) * rT app aqq apq - apq) = 0 := by
  unfold rT
  split_ifs with h h1
  · simp
  all_goals
    have h0 : apq ≠ 0 := by
      rintro rfl; exact h (by simpa using tiny_coe.2)
    set τ := (aqq - app) * (1 / 2) / apq with hτ
    have e : aqq - app = 2 * τ * apq := by rw [hτ]; field_simp
    have hs := Real.mul_self_sqrt (one_add_sq_pos τ).le
    have hp := Real.sqrt_pos.mpr (one_add_sq_pos τ)
    set r := Real.sqrt (1 + τ * τ)
    rw [e]
    have hd : |τ| + r ≠ 0 := by positivity
    refine mul_eq_zero_of_right _ ?_
  · rw [abs_of_nonneg h1] at hd ⊢
    have e2 : 1 / (τ + r) = r - τ := by rw [div_eq_iff hd]; linear_combination -hs
    rw [e2]; linear_combination apq * hs
  · rw [abs_of_neg (not_le.mp h1)] at hd ⊢
    have e2 : -1 / (-τ + r) = -(r + τ) := by rw [div_eq_iff hd]; linear_combination hs
    rw [e2]; linear_combination apq * hs

/-- The rotation in the plane of axes 0 and 1, with tangent `t` and cosine `c`, entry by entry (the operations are given). -/
def rot01 {α : Type} (add sub mul : α → α → α) (z t c : α) (S : Sym α) : Sym α :=
  ⟨sub S.a00 (mul t S.a01), z, sub (mul c S.a02) (mul (mul t c) S.a12), add S.a11 (mul t S.a01),
    add (mul (mul t c) S.a02) (mul c S.a12), S.a22,
    sub (mul c S.v00) (mul (mul t c) S.v01), add (mul (mul t c) S.v00) (mul c S.v01), S.v02,
    sub (mul c S.v10) (mul (mul t c) S.v11), add (mul (mul t c) S.v10) (mul c S.v11), S.v12,
    sub (mul c S.v20) (mul (mul t c) S.v21), add (mul (mul t c) S.v20) (mul c S.v21), S.v22⟩

/-- The rotation in the plane of axes 0 and 2. -/
def rot02 {α : Type} (add sub mul : α → α → α) (z t c : α) (S : Sym α) : Sym α :=
  ⟨sub S.a00 (mul t S.a02), sub (mul c S.a01) (mul (mul t c) S.a12), z, S.a11,
    add (mul (mul t c) S.a01) (mul c S.a12), add S.a22 (mul t S.a02),
    sub (mul c S.v00) (mul (mul t c) S.v02), S.v01, add (mul (mul t c) S.v00) (mul c S.v02),
    sub (mul c S.v10) (mul (mul t c) S.v12), S.v11, add (mul (mul t c) S.v10) (mul c S.v12),
    sub (mul c S.v20) (mul (mul t c) S.v22), S.v21, add (mul (mul t c) S.v20) (mul c S.v22)⟩

/-- The rotation in the plane of axes 1 and 2. -/
def rot12 {α : Type} (add sub mul : α → α → α) (z t c : α) (S : Sym α) : Sym α :=
  ⟨S.a00, sub (mul c S.a01) (mul (mul t c) S.a02), add (mul (mul t c) S.a01) (mul c S.a02), sub S.a11 (mul t S.a12), z,
    add S.a22 (mul t S.a12),
    S.v00, sub (mul c S.v01) (mul (mul t c) S.v02), add (mul (mul t c) S.v01) (mul c S.v02),
    S.v10, sub (mul c S.v11) (mul (mul t c) S.v12), add (mul (mul t c) S.v11) (mul c S.v12),
    S.v20, sub (mul c S.v21) (mul (mul t c) S.v22), add (mul (mul t c) S.v21) (mul c S.v22)⟩

/-- A sweep of three rotations; `T` gives the tangent from the two diagonal entries and the pivot, `C` the cosine from the
    tangent. -/
def sweep {α : Type} (add sub mul : α → α → α) (z : α) (T : α → α → α → α) (C : α → α) (S : Sym α) : Sym α :=
  let S1 := rot01 add sub mul z (T S.a00 S.a11 S.a01) (C (T S.a00 S.a11 S.a01)) S
  let S2 := rot02 add sub mul z (T S1.a00 S1.a22 S1.a02) (C (T S1.a00 S1.a22 S1.a02)) S1
  rot12 add sub mul z (T S2.a11 S2.a22 S2.a12) (C (T S2.a11 S2.a22 S2.a12)) S2

/-- The real rotations. -/
def r01 (S : Sym ℝ) : Sym ℝ := rot01 (· + ·) (· - ·) (· * ·) 0 (rT S.a00 S.a11 S.a01) (rC (rT S.a00 S.a11 S.a01)) S
def r02 (S : Sym ℝ) : Sym ℝ := rot02 (· + ·) (· - ·) (· * ·) 0 (rT S.a00 S.a22 S.a02) (rC (rT S.a00 S.a22 S.a02)) S
def r12 (S : Sym ℝ) : Sym ℝ := rot12 (· + ·) (· - ·) (· * ·) 0 (rT S.a11 S.a22 S.a12) (rC (rT S.a11 S.a22 S.a12)) S

/-- The kernel's sweep on a lane of the extended reals. -/
def eSweep : Sym EReal → Sym EReal :=
  sweep (· + ·) (· - ·) (· * ·) (Ideal.ofBits .f32 0x00000000#32) eT eC

/-- A sweep of real entries is the real sweep. -/
theorem eSweep_coe (S : Sym ℝ) : eSweep (S.map (fun x : ℝ => (x : EReal))) = (r12 (r02 (r01 S))).map (fun x : ℝ => (x : EReal)) := by
  have h1 : ∀ S : Sym ℝ, rot01 (· + ·) (· - ·) (· * ·) (Ideal.ofBits .f32 0x00000000#32)
      (eT (S.map (fun x : ℝ => (x : EReal))).a00 (S.map (fun x : ℝ => (x : EReal))).a11 (S.map (fun x : ℝ => (x : EReal))).a01)
      (eC (eT (S.map (fun x : ℝ => (x : EReal))).a00 (S.map (fun x : ℝ => (x : EReal))).a11 (S.map (fun x : ℝ => (x : EReal))).a01))
      (S.map (fun x : ℝ => (x : EReal))) = (r01 S).map (fun x : ℝ => (x : EReal)) := by
    intro S
    simp only [Sym.map, r01, rot01, eT_coe, eC_coe, Ideal.ofBits_zero_f32]
    ext <;> push_cast <;> rfl
  have h2 : ∀ S : Sym ℝ, rot02 (· + ·) (· - ·) (· * ·) (Ideal.ofBits .f32 0x00000000#32)
      (eT (S.map (fun x : ℝ => (x : EReal))).a00 (S.map (fun x : ℝ => (x : EReal))).a22 (S.map (fun x : ℝ => (x : EReal))).a02)
      (eC (eT (S.map (fun x : ℝ => (x : EReal))).a00 (S.map (fun x : ℝ => (x : EReal))).a22 (S.map (fun x : ℝ => (x : EReal))).a02))
      (S.map (fun x : ℝ => (x : EReal))) = (r02 S).map (fun x : ℝ => (x : EReal)) := by
    intro S
    simp only [Sym.map, r02, rot02, eT_coe, eC_coe, Ideal.ofBits_zero_f32]
    ext <;> push_cast <;> rfl
  have h3 : ∀ S : Sym ℝ, rot12 (· + ·) (· - ·) (· * ·) (Ideal.ofBits .f32 0x00000000#32)
      (eT (S.map (fun x : ℝ => (x : EReal))).a11 (S.map (fun x : ℝ => (x : EReal))).a22 (S.map (fun x : ℝ => (x : EReal))).a12)
      (eC (eT (S.map (fun x : ℝ => (x : EReal))).a11 (S.map (fun x : ℝ => (x : EReal))).a22 (S.map (fun x : ℝ => (x : EReal))).a12))
      (S.map (fun x : ℝ => (x : EReal))) = (r12 S).map (fun x : ℝ => (x : EReal)) := by
    intro S
    simp only [Sym.map, r12, rot12, eT_coe, eC_coe, Ideal.ofBits_zero_f32]
    ext <;> push_cast <;> rfl
  unfold eSweep sweep
  simp only [h1, h2, h3]

/-- The full symmetric matrix. -/
def Sym.M {α : Type} (S : Sym α) : Fin 3 → Fin 3 → α :=
  ![![S.a00, S.a01, S.a02], ![S.a01, S.a11, S.a12], ![S.a02, S.a12, S.a22]]

/-- The accumulated rotation as a matrix. -/
def Sym.W {α : Type} (S : Sym α) : Fin 3 → Fin 3 → α :=
  ![![S.v00, S.v01, S.v02], ![S.v10, S.v11, S.v12], ![S.v20, S.v21, S.v22]]

section Matrix
variable {α : Type} [AddCommMonoid α] [Mul α] [Neg α] [One α]

/-- The rotation matrix in the plane of axes `p` and `q`. -/
def J (p q : Fin 3) (c s : α) (i j : Fin 3) : α :=
  if (i = p ∧ j = p) ∨ (i = q ∧ j = q) then c else if i = p ∧ j = q then s else if i = q ∧ j = p then -s else
    if i = j then 1 else 0

/-- `Jᵀ·A·J` with the pivot set to zero. -/
def stepA (p q : Fin 3) (c s : α) (A : Fin 3 → Fin 3 → α) (i j : Fin 3) : α :=
  if (i = p ∧ j = q) ∨ (i = q ∧ j = p) then 0 else ∑ k, J p q c s k i * ∑ l, A k l * J p q c s l j

/-- `V·J`. -/
def stepV (p q : Fin 3) (c s : α) (V : Fin 3 → Fin 3 → α) (i j : Fin 3) : α := ∑ l, V i l * J p q c s l j
end Matrix

/-- The reference's cosine and sine for a matrix and a plane. -/
def hCos (p q : Fin 3) (A : Fin 3 → Fin 3 → EReal) : EReal := hC (hT (A p p) (A q q) (A p q))
def hSin (p q : Fin 3) (A : Fin 3 → Fin 3 → EReal) : EReal := hT (A p p) (A q q) (A p q) * hCos p q A

theorem J_coe (p q : Fin 3) (c s : ℝ) (i j : Fin 3) : J p q (c : EReal) (s : EReal) i j = ((J p q c s i j : ℝ) : EReal) := by
  unfold J; split_ifs <;> simp

theorem stepV_coe (p q : Fin 3) (c s : ℝ) (V : Fin 3 → Fin 3 → ℝ) :
    stepV p q (c : EReal) s (fun i j => (V i j : EReal)) = fun i j => ((stepV p q c s V i j : ℝ) : EReal) := by
  funext i j
  simp only [stepV, J_coe, Fin.sum_univ_three, ← EReal.coe_mul, ← EReal.coe_add]

theorem stepA_coe (p q : Fin 3) (c s : ℝ) (A : Fin 3 → Fin 3 → ℝ) :
    stepA p q (c : EReal) s (fun i j => (A i j : EReal)) = fun i j => ((stepA p q c s A i j : ℝ) : EReal) := by
  funext i j
  unfold stepA
  split_ifs
  · simp
  · simp only [J_coe, Fin.sum_univ_three, ← EReal.coe_mul, ← EReal.coe_add]

theorem r01_W (S : Sym ℝ) : stepV 0 1 (rC (rT S.a00 S.a11 S.a01)) (rT S.a00 S.a11 S.a01 * rC (rT S.a00 S.a11 S.a01)) S.W = (r01 S).W := by
  funext i j; fin_cases i <;> fin_cases j <;> simp [stepV, J, Sym.W, r01, rot01, Fin.sum_univ_three] <;> ring
theorem r02_W (S : Sym ℝ) : stepV 0 2 (rC (rT S.a00 S.a22 S.a02)) (rT S.a00 S.a22 S.a02 * rC (rT S.a00 S.a22 S.a02)) S.W = (r02 S).W := by
  funext i j; fin_cases i <;> fin_cases j <;> simp [stepV, J, Sym.W, r02, rot02, Fin.sum_univ_three] <;> ring
theorem r12_W (S : Sym ℝ) : stepV 1 2 (rC (rT S.a11 S.a22 S.a12)) (rT S.a11 S.a22 S.a12 * rC (rT S.a11 S.a22 S.a12)) S.W = (r12 S).W := by
  funext i j; fin_cases i <;> fin_cases j <;> simp [stepV, J, Sym.W, r12, rot12, Fin.sum_univ_three] <;> ring

/-- The two rotated diagonal entries, from the equation the tangent satisfies. -/
theorem diag_rot (app aqq apq t c : ℝ) (hc : c * c * (1 + t * t) = 1)
    (ht : t * (apq * (t * t) + (aqq - app) * t - apq) = 0) :
    c * (app * c - apq * (t * c)) - t * c * (apq * c - aqq * (t * c)) = app - t * apq ∧
      t * c * (app * (t * c) + apq * c) + c * (apq * (t * c) + aqq * c) = aqq + t * apq := by
  constructor
  · linear_combination (app - t * apq) * hc + c * c * ht
  · linear_combination (aqq + t * apq) * hc - c * c * ht

theorem r01_M (S : Sym ℝ) : stepA 0 1 (rC (rT S.a00 S.a11 S.a01)) (rT S.a00 S.a11 S.a01 * rC (rT S.a00 S.a11 S.a01)) S.M = (r01 S).M := by
  obtain ⟨h1, h2⟩ := diag_rot S.a00 S.a11 S.a01 _ _ (rC_sq _) (rT_root S.a00 S.a11 S.a01)
  funext i j; fin_cases i <;> fin_cases j <;> simp [stepA, J, Sym.M, r01, rot01, Fin.sum_univ_three] <;>
    first | ring1 | linear_combination h1 | linear_combination h2
theorem r02_M (S : Sym ℝ) : stepA 0 2 (rC (rT S.a00 S.a22 S.a02)) (rT S.a00 S.a22 S.a02 * rC (rT S.a00 S.a22 S.a02)) S.M = (r02 S).M := by
  obtain ⟨h1, h2⟩ := diag_rot S.a00 S.a22 S.a02 _ _ (rC_sq _) (rT_root S.a00 S.a22 S.a02)
  funext i j; fin_cases i <;> fin_cases j <;> simp [stepA, J, Sym.M, r02, rot02, Fin.sum_univ_three] <;>
    first | ring1 | linear_combination h1 | linear_combination h2
theorem r12_M (S : Sym ℝ) : stepA 1 2 (rC (rT S.a11 S.a22 S.a12)) (rT S.a11 S.a22 S.a12 * rC (rT S.a11 S.a22 S.a12)) S.M = (r12 S).M := by
  obtain ⟨h1, h2⟩ := diag_rot S.a11 S.a22 S.a12 _ _ (rC_sq _) (rT_root S.a11 S.a22 S.a12)
  funext i j; fin_cases i <;> fin_cases j <;> simp [stepA, J, Sym.M, r12, rot12, Fin.sum_univ_three] <;>
    first | ring1 | linear_combination h1 | linear_combination h2

/-- A matrix of extended reals with real entries. -/
def up (A : Fin 3 → Fin 3 → ℝ) : Fin 3 → Fin 3 → EReal := fun i j => (A i j : EReal)

/-- One reference rotation of a real matrix and of the accumulated real rotation is the real rotation. -/
theorem ref01 (S : Sym ℝ) :
    stepA 0 1 (hCos 0 1 (up S.M)) (hSin 0 1 (up S.M)) (up S.M) = up (r01 S).M ∧
      stepV 0 1 (hCos 0 1 (up S.M)) (hSin 0 1 (up S.M)) (up S.W) = up (r01 S).W := by
  have hc : hCos 0 1 (up S.M) = (rC (rT S.a00 S.a11 S.a01) : EReal) := by
    simp [hCos, up, Sym.M, hT_coe, hC_coe]
  have hs : hSin 0 1 (up S.M) = ((rT S.a00 S.a11 S.a01 * rC (rT S.a00 S.a11 S.a01) : ℝ) : EReal) := by
    rw [hSin, hc, EReal.coe_mul]; simp [up, Sym.M, hT_coe]
  rw [hc, hs]
  exact ⟨(stepA_coe 0 1 _ _ S.M).trans (by rw [r01_M]; rfl), (stepV_coe 0 1 _ _ S.W).trans (by rw [r01_W]; rfl)⟩

theorem ref02 (S : Sym ℝ) :
    stepA 0 2 (hCos 0 2 (up S.M)) (hSin 0 2 (up S.M)) (up S.M) = up (r02 S).M ∧
      stepV 0 2 (hCos 0 2 (up S.M)) (hSin 0 2 (up S.M)) (up S.W) = up (r02 S).W := by
  have hc : hCos 0 2 (up S.M) = (rC (rT S.a00 S.a22 S.a02) : EReal) := by
    simp [hCos, up, Sym.M, hT_coe, hC_coe]
  have hs : hSin 0 2 (up S.M) = ((rT S.a00 S.a22 S.a02 * rC (rT S.a00 S.a22 S.a02) : ℝ) : EReal) := by
    rw [hSin, hc, EReal.coe_mul]; simp [up, Sym.M, hT_coe]
  rw [hc, hs]
  exact ⟨(stepA_coe 0 2 _ _ S.M).trans (by rw [r02_M]; rfl), (stepV_coe 0 2 _ _ S.W).trans (by rw [r02_W]; rfl)⟩

theorem ref12 (S : Sym ℝ) :
    stepA 1 2 (hCos 1 2 (up S.M)) (hSin 1 2 (up S.M)) (up S.M) = up (r12 S).M ∧
      stepV 1 2 (hCos 1 2 (up S.M)) (hSin 1 2 (up S.M)) (up S.W) = up (r12 S).W := by
  have hc : hCos 1 2 (up S.M) = (rC (rT S.a11 S.a22 S.a12) : EReal) := by
    simp [hCos, up, Sym.M, hT_coe, hC_coe]
  have hs : hSin 1 2 (up S.M) = ((rT S.a11 S.a22 S.a12 * rC (rT S.a11 S.a22 S.a12) : ℝ) : EReal) := by
    rw [hSin, hc, EReal.coe_mul]; simp [up, Sym.M, hT_coe]
  rw [hc, hs]
  exact ⟨(stepA_coe 1 2 _ _ S.M).trans (by rw [r12_M]; rfl), (stepV_coe 1 2 _ _ S.W).trans (by rw [r12_W]; rfl)⟩

/-- One sweep of real rotations. -/
def rSweep (S : Sym ℝ) : Sym ℝ := r12 (r02 (r01 S))

/-- A sweep commutes with a map that commutes with its operations. -/
theorem sweep_map {α β : Type} (f : α → β) (add sub mul : α → α → α) (z : α) (T : α → α → α → α) (C : α → α)
    (add' sub' mul' : β → β → β) (z' : β) (T' : β → β → β → β) (C' : β → β) (ha : ∀ a b, f (add a b) = add' (f a) (f b))
    (hs : ∀ a b, f (sub a b) = sub' (f a) (f b)) (hm : ∀ a b, f (mul a b) = mul' (f a) (f b)) (hz : f z = z')
    (hT : ∀ a b c, f (T a b c) = T' (f a) (f b) (f c)) (hC : ∀ a, f (C a) = C' (f a)) (S : Sym α) :
    (sweep add sub mul z T C S).map f = sweep add' sub' mul' z' T' C' (S.map f) := by
  have h1 : ∀ t c S, (rot01 add sub mul z t c S).map f = rot01 add' sub' mul' z' (f t) (f c) (S.map f) := by
    intro t c S; simp only [rot01, Sym.map, ha, hs, hm, hz]
  have h2 : ∀ t c S, (rot02 add sub mul z t c S).map f = rot02 add' sub' mul' z' (f t) (f c) (S.map f) := by
    intro t c S; simp only [rot02, Sym.map, ha, hs, hm, hz]
  have h3 : ∀ t c S, (rot12 add sub mul z t c S).map f = rot12 add' sub' mul' z' (f t) (f c) (S.map f) := by
    intro t c S; simp only [rot12, Sym.map, ha, hs, hm, hz]
  simp only [sweep, h3, h2, h1, hT, hC, Sym.map, rot01, rot02, rot12, ha, hs, hm, hz]

end Cert.Jacobi
-- ==== Proof.KOut.lean ====
/- The kernel's block as one function of the values its body loads, in the order of the computation: squared distances, the
   sixteen-step threshold loop, the seven reductions, five Jacobi sweeps, the sorted eigenvalues, the oriented normal and the
   three perceptrons. Stated for any interpretation of the floating-point operations. -/
module

public import proofs.«01_k».proof.Proof.Gen.KernelIdeal.Frame
public import proofs.«01_k».proof.Proof.Jacobi
public import Idealize.ShloMosaic.Lib.Pipeline.ValueKit

@[expose] public section

noncomputable section

namespace Cert.KernelIdeal.Value

open Cert.KernelIdeal Cert.KernelIdeal.Gen Idealize.ShloMosaic Idealize.ShloMosaic.TcCoe Idealize.SL.Sem Cert.Jacobi

variable {F : FTy → Type} [FloatOps F] [Named F]

/-- One row of the block. -/
abbrev Row (F : FTy → Type) : Type := FVec F S1x1024 .f32

/-- The row holding one constant. -/
def crow (w : BitVec 32) : Row F := broadcast S1x1024 (Scalar.ofBits .f32 w)

/-- The pivot is below the smallest one rotated away. -/
def vSmall (apq : Row F) : IVec S1x1024 1 := cmpf .olt (absf apq) (crow 0x0A4FB11F#32)

/-- The cotangent of twice the rotation's angle. -/
def vTau (app aqq apq : Row F) : Row F :=
  divf (mulf (subf aqq app) (crow 0x3F000000#32)) (select (vSmall apq) (crow 0x3F800000#32) apq)

/-- The tangent of the rotation's angle. -/
def vT (app aqq apq : Row F) : Row F :=
  select (vSmall apq) (crow 0x00000000#32)
    (divf (select (cmpf .oge (vTau app aqq apq) (crow 0x00000000#32)) (crow 0x3F800000#32) (crow 0xBF800000#32))
      (addf (absf (vTau app aqq apq)) (sqrt (addf (crow 0x3F800000#32) (mulf (vTau app aqq apq) (vTau app aqq apq))))))

/-- The cosine from the tangent. -/
def vC (t : Row F) : Row F := rsqrt (addf (crow 0x3F800000#32) (mulf t t))

/-- A sweep of three rotations on rows. -/
def vSweep (S : Sym (Row F)) : Sym (Row F) := sweep addf subf mulf (crow 0x00000000#32) vT vC S

/-- The threshold after sixteen steps: the sixteenth smallest squared distance of each point. -/
def thr (i : grid0.Coords) (v0 : Vec F S1x3x2048 .f32) (v2 : Vec F S1x1024x3 .f32) : FVec F S1024x1 .f32 :=
  Scf.fold (fun (_ : Fin k0_t1_loop.trips) a => k0_pay12 i v0 v2 a) k0_pay11

/-- The seven reductions over the neighbours, as rows. -/
def scal (i : grid0.Coords) (v0 : Vec F S1x3x2048 .f32) (v2 : Vec F S1x1024x3 .f32) (v86 : Vec F S1024x1024 .f32) :
    FVec F S8x1024 .f32 :=
  k0_pay15 (k0_pay4 v2) (k0_pay5 v2) (k0_pay6 v2) (k0_pay7 v0) (k0_pay8 v0) (k0_pay9 v0) (k0_pay13 i v0 v2 (thr i v0 v2))
    (k0_pay14 i v0 v2) (Scalar.ofBits .f32 0x00000000#32) v86

/-- The covariance and the identity rotation. -/
def sym0 (v88 : FVec F S8x1024 .f32) : Sym (Row F) :=
  ⟨k0_pay17 (extractStridedSlice S1x1024 ![0, 0] v88 slices_S8x1024_o0_0_S1x1024), k0_pay20 v88, k0_pay21 v88, k0_pay18 v88,
    k0_pay22 v88, k0_pay19 v88, k0_pay28, k0_pay29, k0_pay29, k0_pay29, k0_pay28, k0_pay29, k0_pay29, k0_pay29, k0_pay28⟩

/-- The matrix after five sweeps. -/
def sym5 (v88 : FVec F S8x1024 .f32) : Sym (Row F) := vSweep (vSweep (vSweep (vSweep (vSweep (sym0 v88)))))

/-- The least, the greatest and the middle diagonal entry. -/
def lmin (S : Sym (Row F)) : Row F := minimumf (minimumf S.a00 S.a11) S.a22
def lmax (S : Sym (Row F)) : Row F := maximumf (maximumf S.a00 S.a11) S.a22
def lmid (S : Sym (Row F)) : Row F := subf (subf (addf (addf S.a00 S.a11) S.a22) (lmin S)) (lmax S)

/-- The first diagonal entry is the least; the second is, and the first is not. -/
def pick0 (S : Sym (Row F)) : IVec S1x1024 1 := andi (cmpf .ole S.a00 S.a11) (cmpf .ole S.a00 S.a22)
def pick1 (S : Sym (Row F)) : IVec S1x1024 1 := andi (xori (pick0 S) (constantI S1x1024 1 1#1)) (cmpf .ole S.a11 S.a22)

/-- The eigenvector of the least diagonal entry. -/
def ev0 (S : Sym (Row F)) : Row F := select (pick0 S) S.v00 (select (pick1 S) S.v01 S.v02)
def ev1 (S : Sym (Row F)) : Row F := select (pick0 S) S.v10 (select (pick1 S) S.v11 S.v12)
def ev2 (S : Sym (Row F)) : Row F := select (pick0 S) S.v20 (select (pick1 S) S.v21 S.v22)

/-- The sum of three products. -/
def dot3 (a b c x y z : Row F) : Row F := addf (addf (mulf a x) (mulf b y)) (mulf c z)

/-- The sign that turns the normal outward. -/
def orient (a b c x y z : Row F) : Row F :=
  select (cmpf .oge (dot3 a b c x y z) (crow 0x00000000#32)) (crow 0x3F800000#32) (crow 0xBF800000#32)

/-- The length of a vector, at least the floor. -/
def len (x y z : Row F) : Row F := maximumf (sqrt (dot3 x y z x y z)) (crow 0x358637BD#32)

/-- The kernel's block from the values it loads. -/
def kout (i : grid0.Coords) (v0 : Vec F S1x3x2048 .f32) (v2 : Vec F S1x1024x3 .f32) (v86 : Vec F S1024x1024 .f32)
    (v110 : Vec F S1x3x1024 .f32) (v1027 : Vec F S6x64 .f32) (v1029 : Vec F S64x1 .f32) (v1041 : Vec F S64x64 .f32)
    (v1043 : Vec F S64x1 .f32) (v1047 : Vec F S1x64x1024 .f32) (v1049 : Vec F S64x64 .f32) (v1051 : Vec F S64x1 .f32)
    (v1063 : Vec F S64x64 .f32) (v1065 : Vec F S64x1 .f32) (v1070 : Vec F S128x64 .f32) (v1072 : Vec F S64x1 .f32)
    (v1084 : Vec F S64x64 .f32) (v1086 : Vec F S64x1 .f32) (v1090 : Vec F S64x1 .f32) (v1092 : Vec F S1x1 .f32) :
    FVec F S1x16x1024 .f32 :=
  let S := sym5 (scal i v0 v2 v86)
  let ox := k0_pay262 (k0_pay2 v0) (k0_pay25 v110)
  let oy := k0_pay263 (k0_pay2 v0) (k0_pay26 v110)
  let oz := k0_pay264 (k0_pay2 v0) (k0_pay27 v110)
  let g := orient (ev0 S) (ev1 S) (ev2 S) ox oy oz
  let nx := mulf (ev0 S) g
  let ny := mulf (ev1 S) g
  let nz := mulf (ev2 S) g
  k0_pay1 (k0_pay25 v110) (k0_pay26 v110) (k0_pay27 v110) (divf nx (len nx ny nz)) (divf ny (len nx ny nz))
    (divf nz (len nx ny nz))
    (k0_pay275 (k0_pay273 (k0_pay23 (scal i v0 v2 v86)) (lmin S) (lmax S) (lmid S) ox oy oz v1027 v1029 v1041 v1043)
      (k0_pay274 v1047 v1049) v1051 v1063 v1065 v1070 v1072 v1084)
    (k0_pay276 v1086) v1090 v1092

variable (m : (ℓ : Loc nD τ sig) → Buf (Elt F) ℓ)

/-- What a grid point leaves in the output block: the block function of the point's input blocks. -/
theorem after_eq (c : Dev nD) (t : Fin cfg0.N) :
    (dats m 0 c).after 18 t = kout (grid0.coords t) (iblk m c 1 t) (iblk m c 0 t) (iblk m c 3 t)
      (View.ld (iblk m c 1 t) (Rect.unit (s := S1x3x2048) (k0_off1 (grid0.coords t)) S1x3x1024.size (k0_off1_inb (grid0.coords t)))) (iblk m c 4 t)
      (iblk m c 5 t) (iblk m c 6 t) (iblk m c 7 t) (iblk m c 2 t) (iblk m c 8 t) (iblk m c 9 t) (iblk m c 10 t) (iblk m c 11 t) (iblk m c 12 t)
      (iblk m c 13 t) (iblk m c 14 t) (iblk m c 15 t) (iblk m c 16 t) (iblk m c 17 t) := by
  rw [after0_18]
  unfold outsAt0
  frame_out
  sl_kernel_rfl
end Cert.KernelIdeal.Value
-- ==== Proof.Nearest.lean ====
/- The nearest sixteen: one list of extended reals and a permutation that sorts it. A loop that takes, sixteen times, the least
   entry above the last one ends at the sixteenth smallest entry; the entries not above it are the first sixteen of the sorted
   order; a sum over them is a sum over those sixteen positions. -/
module

public import Idealize.ShloMosaic.Lib.Pointwise
public import Idealize.ShloMosaic.Lib.IdealHost
public import Idealize.ShloMosaic.Lib.SortFacts

@[expose] public section

noncomputable section

namespace Cert.Nearest

open Idealize.ShloMosaic

variable {n : Nat}

/-- The least entry above `m`, the greatest extended real if there is none. -/
def nextAbove (D : Fin n → EReal) (m : EReal) : EReal := ⨅ j, if m < D j then D j else ⊤

/-- A sorting permutation of `D` whose first seventeen entries are strictly increasing. -/
structure Ranks (D : Fin n → EReal) (σ : Fin n → Fin n) : Prop where
  surj : Function.Surjective σ
  mono : ∀ a b, a < b → D (σ a) ≤ D (σ b)
  strict : ∀ a b : Fin n, a.val < 16 → b.val = a.val + 1 → D (σ a) < D (σ b)

theorem Ranks.le {D : Fin n → EReal} {σ : Fin n → Fin n} (h : Ranks D σ) (a b : Fin n) (hab : a ≤ b) : D (σ a) ≤ D (σ b) := by
  rcases eq_or_lt_of_le hab with rfl | hlt
  · exact le_rfl
  · exact h.mono _ _ hlt

/-- Past a strict step the entries are strictly greater. -/
theorem Ranks.lt {D : Fin n → EReal} {σ : Fin n → Fin n} (h : Ranks D σ) (a b : Fin n) (ha : a.val < 16) (hab : a < b) :
    D (σ a) < D (σ b) := by
  have hlt : a.val + 1 < n := lt_of_le_of_lt hab b.isLt
  exact lt_of_lt_of_le (h.strict a ⟨a.val + 1, hlt⟩ ha rfl) (h.le _ _ (by rw [Fin.le_def]; exact hab))

/-- The least entry above the entry of rank `a` is the entry of rank `a + 1`. -/
theorem Ranks.next {D : Fin n → EReal} {σ : Fin n → Fin n} (h : Ranks D σ) (a b : Fin n) (ha : a.val < 16)
    (hb : b.val = a.val + 1) : nextAbove D (D (σ a)) = D (σ b) := by
  have hab : a < b := by rw [Fin.lt_def]; omega
  apply le_antisymm
  · exact (iInf_le _ (σ b)).trans (le_of_eq (if_pos (h.lt a b ha hab)))
  · refine le_iInf fun j => ?_
    split
    · rename_i hj
      obtain ⟨l, rfl⟩ := h.surj j
      refine h.le _ _ ?_
      by_contra hl
      rw [not_le, Fin.lt_def] at hl
      exact absurd (h.le l a (by rw [Fin.le_def]; omega)) (not_le.mpr hj)
    · exact le_top

/-- The least entry above the least extended real is the entry of rank zero. -/
theorem Ranks.first {D : Fin n → EReal} {σ : Fin n → Fin n} (h : Ranks D σ) (hD : ∀ j, D j ≠ ⊥) (b : Fin n) (hb : b.val = 0) :
    nextAbove D ⊥ = D (σ b) := by
  apply le_antisymm
  · exact (iInf_le _ (σ b)).trans (le_of_eq (if_pos (bot_lt_iff_ne_bot.mpr (hD _))))
  · refine le_iInf fun j => ?_
    split
    · obtain ⟨l, rfl⟩ := h.surj j
      exact h.le _ _ (by rw [Fin.le_def]; omega)
    · exact le_top

/-- After `k + 1` steps the loop stands at the entry of rank `k`. -/
theorem Ranks.loop {D : Fin n → EReal} {σ : Fin n → Fin n} (h : Ranks D σ) (hD : ∀ j, D j ≠ ⊥) :
    ∀ (k : Nat) (a : Fin n), a.val = k → k < 16 → (nextAbove D)^[k + 1] ⊥ = D (σ a)
  | 0, a, ha, _ => h.first hD a ha
  | k + 1, a, ha, hk => by
    have hlt : k < n := by have := a.isLt; omega
    rw [Function.iterate_succ_apply', h.loop hD k ⟨k, hlt⟩ rfl (by omega)]
    exact h.next ⟨k, hlt⟩ a (by show k < 16; omega) (by rw [ha])

/-- The first sixteen positions of the sorted order. -/
def firstOf (hn : 16 < n) (σ : Fin n → Fin n) (k : Fin 16) : Fin n := σ ⟨k.val, lt_trans k.isLt hn⟩

/-- The entries not above the sixteenth smallest are the first sixteen of the order. -/
theorem Ranks.below {D : Fin n → EReal} {σ : Fin n → Fin n} (h : Ranks D σ) (hn : 16 < n) (j : Fin n) :
    D j ≤ D (firstOf hn σ 15) ↔ ∃ k, firstOf hn σ k = j := by
  constructor
  · intro hj
    obtain ⟨l, rfl⟩ := h.surj j
    by_cases hl : l.val < 16
    · exact ⟨⟨l.val, hl⟩, rfl⟩
    · exact absurd (h.lt ⟨15, by omega⟩ l (by show 15 < 16; omega) (by rw [Fin.lt_def]; show 15 < l.val; omega)) (not_lt.mpr hj)
  · rintro ⟨k, rfl⟩
    exact h.le _ _ (by rw [Fin.le_def]; show k.val ≤ 15; omega)

theorem Ranks.inj {D : Fin n → EReal} {σ : Fin n → Fin n} (h : Ranks D σ) (hn : 16 < n) : Function.Injective (firstOf hn σ) := by
  intro a b hab
  have := Finite.injective_iff_surjective.mpr h.surj hab
  exact Fin.ext (Fin.mk.inj_iff.mp this)

/-- The entry of rank fifteen is below the greatest extended real: the entry of rank sixteen is above it. -/
theorem Ranks.lt_top {D : Fin n → EReal} {σ : Fin n → Fin n} (h : Ranks D σ) (hn : 16 < n) (k : Fin 16) :
    D (firstOf hn σ k) < ⊤ :=
  lt_of_lt_of_le (h.lt ⟨k.val, lt_trans k.isLt hn⟩ ⟨16, hn⟩ k.isLt (by rw [Fin.lt_def]; exact k.isLt)) le_top

/-- A sum over the entries not above the sixteenth smallest is a sum over the first sixteen positions. -/
theorem Ranks.sum {D : Fin n → EReal} {σ : Fin n → Fin n} (h : Ranks D σ) (hn : 16 < n) (f : Fin n → EReal) :
    (∑ j, if D j ≤ D (firstOf hn σ 15) then f j else 0) = ∑ k, f (firstOf hn σ k) := by
  rw [← Finset.sum_filter, ← Finset.sum_image (s := Finset.univ) (g := firstOf hn σ) (f := f) (fun a _ b _ hab => h.inj hn hab)]
  refine Finset.sum_congr (Finset.ext fun j => ?_) fun _ _ => rfl
  rw [Finset.mem_filter, Finset.mem_image, h.below hn j]
  simp

/-- An order-reversing reading of the list (here: minus the square root of the distance) sorted in descending order, with its
    first seventeen entries strictly descending, ranks the list itself. -/
theorem ranks_of_anti {D v : Fin n → EReal} {σ : Fin n → Fin n} (hs : Function.Surjective σ) (hv : ∀ i j, D i < D j ↔ v j < v i)
    (hm : ∀ a b, a < b → ¬ v (σ a) < v (σ b)) (hd : ∀ a b : Fin n, a.val < 16 → b.val = a.val + 1 → v (σ b) < v (σ a)) :
    Ranks D σ :=
  ⟨hs, fun a b hab => not_lt.mp fun hlt => hm a b hab ((hv _ _).mp hlt), fun a b ha hb => (hv _ _).mpr (hd a b ha hb)⟩

/-- Three strictly descending extended reals are not all among two values. -/
theorem two_values {a b c p q : EReal} (hab : b < a) (hbc : c < b) (ha : a = p ∨ a = q) (hb : b = p ∨ b = q)
    (hc : c = p ∨ c = q) : False := by
  rcases ha with rfl | rfl <;> rcases hb with rfl | rfl <;> rcases hc with rfl | rfl <;>
    first | exact lt_irrefl _ hab | exact lt_irrefl _ hbc | exact lt_asymm hab hbc

end Cert.Nearest
-- ==== Proof.Spec.lean ====
/- What one point of the result is, in real and extended real numbers: both programs are read to these definitions. The covariance
   and mean distance over the sixteen nearest points, five Jacobi sweeps, the eigenvalues in ascending order, the outward unit
   normal, six invariants, and three perceptrons. -/
module

public import proofs.«01_k».proof.Proof.Jacobi
public import proofs.«01_k».proof.Proof.Nearest

@[expose] public section

noncomputable section

namespace Cert.Knn

open Idealize.ShloMosaic Cert.Jacobi

/-- A cloud of 2048 points. -/
abbrev Pts : Type := Fin 2048 → Fin 3 → ℝ

/-- The squared distance. -/
def dd (x : Pts) (n j : Fin 2048) : ℝ := ∑ k, (x j k - x n k) * (x j k - x n k)

/-- The squared distance, a point's distance to itself at infinity. -/
def D (x : Pts) (n j : Fin 2048) : EReal := if j = n then ⊤ else (dd x n j : EReal)

/-- The entry `(a, b)` of the covariance over the neighbours. -/
def cov (x : Pts) (n : Fin 2048) (nb : Fin 16 → Fin 2048) (a b : Fin 3) : ℝ :=
  (∑ k, (x (nb k) a - x n a) * (x (nb k) b - x n b)) * (1 / 16)

/-- The mean distance to the neighbours. -/
def radius (x : Pts) (n : Fin 2048) (nb : Fin 16 → Fin 2048) : ℝ := (∑ k, Real.sqrt (dd x n (nb k))) * (1 / 16)

/-- The covariance with the identity rotation. -/
def S0 (x : Pts) (n : Fin 2048) (nb : Fin 16 → Fin 2048) : Sym ℝ :=
  ⟨cov x n nb 0 0, cov x n nb 0 1, cov x n nb 0 2, cov x n nb 1 1, cov x n nb 1 2, cov x n nb 2 2, 1, 0, 0, 0, 1, 0, 0, 0, 1⟩

/-- Five sweeps. -/
def sweeps (S : Sym ℝ) : Sym ℝ := rSweep (rSweep (rSweep (rSweep (rSweep S))))

/-- The least, greatest and middle diagonal entry. -/
def low (S : Sym ℝ) : ℝ := min (min S.a00 S.a11) S.a22
def high (S : Sym ℝ) : ℝ := max (max S.a00 S.a11) S.a22
def mid (S : Sym ℝ) : ℝ := S.a00 + S.a11 + S.a22 - low S - high S

/-- The place of the least diagonal entry, the first of equals. -/
def least (S : Sym ℝ) : Fin 3 := if S.a00 ≤ S.a11 ∧ S.a00 ≤ S.a22 then 0 else if S.a11 ≤ S.a22 then 1 else 2

/-- Its eigenvector. -/
def ev (S : Sym ℝ) (c : Fin 3) : ℝ := S.W c (least S)

/-- A point from the cloud's centre. -/
def off (x : Pts) (n : Fin 2048) (c : Fin 3) : ℝ := x n c - (∑ j, x j c) * (1 / 2048)

/-- The sign that turns `a` to the side of `o`. -/
def turn (a o : Fin 3 → ℝ) : ℝ := if 0 ≤ ∑ c, a c * o c then 1 else -1

/-- The floor of a divisor, the value of its float word. -/
def floor : ℝ := (Ideal.ofBits .f32 0x358637BD#32).toReal

theorem floor_coe : Ideal.ofBits .f32 0x358637BD#32 = (floor : EReal) ∧ 0 < floor := by
  have h : Ideal.ofBits .f32 0x358637BD#32 = ((8796093 * 2 ^ (-43 : ℤ) : ℝ) : EReal) := by
    simp [Ideal.ofBits, Ideal.ieee]
  have h2 : floor = (8796093 * 2 ^ (-43 : ℤ) : ℝ) := by rw [floor, h, EReal.toReal_coe]
  refine ⟨by rw [h2, h], by rw [h2]; positivity⟩

/-- The outward normal, divided by its length or the floor. -/
def normal (a o : Fin 3 → ℝ) (c : Fin 3) : ℝ :=
  a c * turn a o * (1 / max (Real.sqrt (∑ k, a k * turn a o * (a k * turn a o))) floor)

/-- The six invariants. -/
def invs (S : Sym ℝ) (r : ℝ) (o : Fin 3 → ℝ) : Fin 6 → ℝ :=
  ![low S, mid S, high S, r, Real.sqrt (∑ c, o c * o c), high S * (1 / max (low S + mid S + high S) floor)]

/-- The error-function form of the Gaussian linear unit. -/
def gelu (y : EReal) : EReal := Ideal.ofBits .f32 0x3F000000#32 * y * (1 + Ideal.erf (y * (((Real.sqrt 2)⁻¹ : ℝ) : EReal)))

/-- The perceptrons' weights and biases. -/
@[ext] structure Wts where
  (i0 : Fin 6 → Fin 64 → EReal) (bi0 : Fin 64 → EReal) (i1 : Fin 64 → Fin 64 → EReal) (bi1 : Fin 64 → EReal)
  (f0 : Fin 64 → Fin 64 → EReal) (bf0 : Fin 64 → EReal) (f1 : Fin 64 → Fin 64 → EReal) (bf1 : Fin 64 → EReal)
  (s0 : Fin 128 → Fin 64 → EReal) (bs0 : Fin 64 → EReal) (s1 : Fin 64 → Fin 64 → EReal) (bs1 : Fin 64 → EReal)
  (g : Fin 64 → EReal) (bg : EReal)

/-- A layer: products summed, and a bias. -/
def layer {n : Nat} (W : Fin n → EReal) (b : EReal) (x : Fin n → EReal) : EReal := ∑ k, x k * W k + b

/-- The two-layer perceptron of the invariants, and that of the features. -/
def invH (W : Wts) (x : Fin 6 → EReal) (o : Fin 64) : EReal :=
  layer (W.i1 · o) (W.bi1 o) fun h => gelu (layer (W.i0 · h) (W.bi0 h) x)
def featH (W : Wts) (x : Fin 64 → EReal) (o : Fin 64) : EReal :=
  layer (W.f1 · o) (W.bf1 o) fun h => gelu (layer (W.f0 · h) (W.bf0 h) x)

/-- The shared perceptron on both, the first layer's sum in two halves. -/
def hidden (W : Wts) (x : Fin 6 → EReal) (f : Fin 64 → EReal) (o : Fin 64) : EReal :=
  layer (W.s1 · o) (W.bs1 o) fun h => gelu
    ((∑ k : Fin 64, invH W x k * W.s0 ⟨k.val, by omega⟩ h) + (∑ k : Fin 64, featH W f k * W.s0 ⟨64 + k.val, by omega⟩ h) + W.bs0 h)

/-- The scalar part. -/
def scalarPart (W : Wts) (x : Fin 6 → EReal) (f : Fin 64 → EReal) : EReal := layer W.g W.bg (hidden W x f)

/-- The sixteen components of a point's multivector: scalar, plane, bivector, point. -/
def parts (g0 : EReal) (p N : Fin 3 → ℝ) : Fin 16 → EReal :=
  ![g0, (N 0 : EReal), (N 1 : EReal), ((-N 2 : ℝ) : EReal), ((-(∑ c, p c * N c) : ℝ) : EReal), (N 0 : EReal), (N 1 : EReal), (N 2 : EReal), 0, 0, 0,
    (p 0 : EReal), (p 1 : EReal), (p 2 : EReal), 1, 0]

/-- One point of the result. -/
def out (W : Wts) (x : Pts) (f : Fin 64 → EReal) (n : Fin 2048) (nb : Fin 16 → Fin 2048) : Fin 16 → EReal :=
  parts (scalarPart W (fun k => (invs (sweeps (S0 x n nb)) (radius x n nb) (off x n) k : EReal)) f) (x n)
    (normal (ev (sweeps (S0 x n nb))) (off x n))

end Cert.Knn
-- ==== Proof.KLane.lean ====
/- The kernel's block at one point: each stage of the block function, read at a row of the block, is the stage of `Knn`. -/
module

public import proofs.«01_k».proof.Proof.KOut
public import proofs.«01_k».proof.Proof.Spec

@[expose] public section

noncomputable section

namespace Cert.KernelIdeal.Value

open Cert.KernelIdeal Cert.KernelIdeal.Gen Idealize.ShloMosaic Idealize.ShloMosaic.TcCoe Idealize.SL.Sem Cert.Jacobi Cert.Knn
open Cert.Nearest

/-- The point a lane of a grid point's block is. -/
def row (i : grid0.Coords) (l : Fin 1024) : Fin 2048 := ⟨(i 1).val * 1024 + l.val, by have : (i 1).val < 2 := (i 1).isLt; omega⟩

theorem far_eq : (Named.named κ "far" 0x7F61B1E6#32 : Ideal .f32) = (⊤ : EReal) :=
  IdealRules.named_const.ideal_named_scalar _ _ _ _ rfl
theorem near_eq : (Named.named κ "near" 0xFF61B1E6#32 : Ideal .f32) = (⊥ : EReal) :=
  IdealRules.named_const.ideal_named_scalar _ _ _ _ rfl
theorem rsqrt2_eq : (Named.named κ "rsqrt2" 0x3F3504F3#32 : Ideal .f32) = (((Real.sqrt 2)⁻¹ : ℝ) : EReal) :=
  IdealRules.named_const.ideal_named_scalar _ _ _ _ rfl

/-- The comparison of a row's number with a column's. -/
theorem same_point (i : grid0.Coords) (l : Fin 1024) (j : Fin 2048) :
    IntOp.cmpi .eq (IntOp.addi (Scalar.muli (BitVec.ofNat 32 (i 1).val) 1024#32) (BitVec.ofNat 32 l.val)) (BitVec.ofNat 32 j.val)
      = BitVec.ofBool (decide (j = row i l)) := by
  have hi : (i 1).val < 2 := (i 1).isLt
  have h : IntOp.addi (Scalar.muli (BitVec.ofNat 32 (i 1).val) 1024#32) (BitVec.ofNat 32 l.val)
      = BitVec.ofNat 32 ((i 1).val * 1024 + l.val) := by
    show BitVec.ofNat 32 (i 1).val * 1024#32 + BitVec.ofNat 32 l.val = _
    apply BitVec.eq_of_toNat_eq
    simp only [BitVec.toNat_add, BitVec.toNat_mul, BitVec.toNat_ofNat]
    omega
  rw [h]
  show BitVec.ofBool (BitVec.ofNat 32 _ == BitVec.ofNat 32 _) = _
  congr 1
  rw [Bool.eq_iff_iff, beq_iff_eq, decide_eq_true_eq, ← BitVec.toNat_inj]
  simp only [BitVec.toNat_ofNat, row, Fin.ext_iff]
  omega

section
variable (x : Pts) (i : grid0.Coords) (v0 : Vec Ideal S1x3x2048 .f32) (v2 : Vec Ideal S1x1024x3 .f32)

/-- The squared distances. -/
theorem dist_lane (h0 : ∀ k j, v0 (ix3 0 k j) = (x j k : EReal)) (h2 : ∀ l k, v2 (ix3 0 l k) = (x (row i l) k : EReal))
    (l : Fin 1024) (j : Fin 2048) : k0_pay10 i v0 v2 (ix2 l j) = D x (row i l) j := by
  pointwise [k0_pay10, k0_pay9, k0_pay8, k0_pay7, k0_pay6, k0_pay5, k0_pay4, k0_pay3, k0_pay2]
  simp only [far_eq, same_point, h0, h2]
  rw [select_ofBool, D, dd]
  split
  · rfl
  · rw [ofBits_two, Fin.sum_univ_three, Fin.sum_univ_three]
    simp only [← EReal.coe_mul, ← EReal.coe_add, ← EReal.coe_sub]
    congr 1
    ring

/-- The threshold loop. -/
theorem thr_lane (h0 : ∀ k j, v0 (ix3 0 k j) = (x j k : EReal)) (h2 : ∀ l k, v2 (ix3 0 l k) = (x (row i l) k : EReal))
    (l : Fin 1024) : thr i v0 v2 (ix2 l 0) = (nextAbove (D x (row i l)))^[16] ⊥ := by
  have hstep : ∀ a : FVec Ideal S1024x1 .f32, k0_pay12 i v0 v2 a (ix2 l 0) = nextAbove (D x (row i l)) (a (ix2 l 0)) := by
    intro a
    pointwise [k0_pay12]
    simp only [far_eq, dist_lane x i v0 v2 h0 h2]
    rw [nextAbove, ← Finset.inf_univ_eq_iInf]
    rfl
  have hinit : (k0_pay11 : FVec Ideal S1024x1 .f32) (ix2 l 0) = ⊥ := near_eq
  rw [thr, Scf.fold_eq]
  have hl : ∀ (L : List (Fin k0_t1_loop.trips)) (a : FVec Ideal S1024x1 .f32),
      (L.foldl (fun a _ => k0_pay12 i v0 v2 a) a) (ix2 l 0) = (nextAbove (D x (row i l)))^[L.length] (a (ix2 l 0)) := by
    intro L
    induction L with
    | nil => intro a; rfl
    | cons b L ih => intro a; rw [List.foldl_cons, ih, hstep]; rfl
  rw [hl, hinit, List.length_finRange]
  have ht : k0_t1_loop.trips = 16 := by decide
  rw [ht]

variable (σ : Fin 2048 → Fin 2048)

theorem points_many : 16 < 2048 := by decide

/-- A distance is not the least extended real. -/
theorem D_ne_bot (x : Pts) (n j : Fin 2048) : D x n j ≠ ⊥ := by
  rw [D]
  split
  · exact top_ne_bot
  · exact EReal.coe_ne_bot _

/-- The mask of the neighbours. -/
theorem mask_lane (h0 : ∀ k j, v0 (ix3 0 k j) = (x j k : EReal)) (h2 : ∀ l k, v2 (ix3 0 l k) = (x (row i l) k : EReal))
    (l : Fin 1024) (hR : Ranks (D x (row i l)) σ) (j : Fin 2048) :
    k0_pay13 i v0 v2 (thr i v0 v2) (ix2 l j)
      = BitVec.ofBool (decide (D x (row i l) j ≤ D x (row i l) (firstOf points_many σ 15))) := by
  pointwise [k0_pay13]
  rw [dist_lane x i v0 v2 h0 h2, thr_lane x i v0 v2 h0 h2, hR.loop (D_ne_bot x _) 15 ⟨15, by omega⟩ rfl (by omega)]
  rfl

/-- A sum over all points under the mask is a sum over the neighbours. -/
theorem mask_sum (h0 : ∀ k j, v0 (ix3 0 k j) = (x j k : EReal)) (h2 : ∀ l k, v2 (ix3 0 l k) = (x (row i l) k : EReal))
    (l : Fin 1024) (hR : Ranks (D x (row i l)) σ) (f : Fin 2048 → EReal) :
    (∑ j, Scalar.select (k0_pay13 i v0 v2 (thr i v0 v2) (ix2 l j)) (f j) 0) = ∑ k, f (firstOf points_many σ k) := by
  simp only [mask_lane x i v0 v2 σ h0 h2 l hR, select_ofBool]
  exact hR.sum points_many f

/-- A sum against a column of the identity matrix. -/
theorem eye_sum (v86 : Vec Ideal S1024x1024 .f32) (he : ∀ r l, v86 (ix2 r l) = if r = l then (1 : EReal) else 0)
    (f : Fin 1024 → EReal) (l : Fin 1024) : (∑ r, f r * v86 (ix2 r l)) = f l := by
  simp only [he, mul_ite, mul_one, mul_zero, Finset.sum_ite_eq', Finset.mem_univ, if_true]

/-- A finite sum of reals, in the extended reals. -/
theorem coe_sum {ι : Type} (s : Finset ι) (f : ι → ℝ) : ((∑ k ∈ s, f k : ℝ) : EReal) = ∑ k ∈ s, (f k : EReal) :=
  map_sum (⟨⟨fun x : ℝ => (x : EReal), EReal.coe_zero⟩, EReal.coe_add⟩ : ℝ →+ EReal) f s

/-- The square root of a masked entry. -/
theorem sqrt_select (m : BitVec 1) (a : EReal) : Ideal.sqrt (Scalar.select m a 0) = Scalar.select m (Ideal.sqrt a) 0 := by
  unfold Scalar.select
  split
  · rfl
  · rw [← EReal.coe_zero, Ideal.sqrt_coe, if_neg (lt_irrefl _), Real.sqrt_zero]

theorem dd_nonneg (x : Pts) (n j : Fin 2048) : 0 ≤ dd x n j := Finset.sum_nonneg fun k _ => mul_self_nonneg _

/-- A neighbour is another point. -/
theorem D_nb (x : Pts) (n : Fin 2048) {σ : Fin 2048 → Fin 2048} (hR : Ranks (D x n) σ) (k : Fin 16) :
    D x n (firstOf points_many σ k) = (dd x n (firstOf points_many σ k) : EReal) := by
  have h := hR.lt_top points_many k
  rw [D] at h ⊢
  split
  · rename_i hk; rw [if_pos hk] at h; exact absurd h (lt_irrefl _)
  · rfl

/-- The seven reductions: the sums of products over the neighbours, and the sum of their distances. -/
theorem scal_lane (v86 : Vec Ideal S1024x1024 .f32) (he : ∀ r l, v86 (ix2 r l) = if r = l then (1 : EReal) else 0)
    (h0 : ∀ k j, v0 (ix3 0 k j) = (x j k : EReal)) (h2 : ∀ l k, v2 (ix3 0 l k) = (x (row i l) k : EReal))
    (l : Fin 1024) (hR : Ranks (D x (row i l)) σ) (r : Fin 7) : scal i v0 v2 v86 (ix2 ⟨r.val, by omega⟩ l)
      = ((![cov x (row i l) (firstOf points_many σ) 0 0 * 16, cov x (row i l) (firstOf points_many σ) 1 1 * 16,
          cov x (row i l) (firstOf points_many σ) 2 2 * 16, cov x (row i l) (firstOf points_many σ) 0 1 * 16,
          cov x (row i l) (firstOf points_many σ) 0 2 * 16, cov x (row i l) (firstOf points_many σ) 1 2 * 16,
          radius x (row i l) (firstOf points_many σ) * 16] r : ℝ) : EReal) := by
  have hm : ∀ a b : Fin 3, (∑ j, Scalar.select (k0_pay13 i v0 v2 (thr i v0 v2) (ix2 l j))
      ((v0 (ix3 0 a j) - v2 (ix3 0 l a)) * (v0 (ix3 0 b j) - v2 (ix3 0 l b))) 0)
      = ((cov x (row i l) (firstOf points_many σ) a b * 16 : ℝ) : EReal) := by
    intro a b
    rw [mask_sum x i v0 v2 σ h0 h2 l hR, cov, mul_assoc, show (1 / 16 : ℝ) * 16 = 1 by norm_num, mul_one, coe_sum]
    refine Finset.sum_congr rfl fun k _ => ?_
    rw [h0, h0, h2, h2, ← EReal.coe_sub, ← EReal.coe_sub, ← EReal.coe_mul]
  have hd : (∑ j, Ideal.sqrt (Scalar.select (k0_pay13 i v0 v2 (thr i v0 v2) (ix2 l j)) (k0_pay14 i v0 v2 (ix2 l j)) 0))
      = ((radius x (row i l) (firstOf points_many σ) * 16 : ℝ) : EReal) := by
    simp only [sqrt_select]
    rw [mask_sum x i v0 v2 σ h0 h2 l hR, radius, mul_assoc, show (1 / 16 : ℝ) * 16 = 1 by norm_num, mul_one, coe_sum]
    refine Finset.sum_congr rfl fun k _ => ?_
    have : k0_pay14 i v0 v2 (ix2 l (firstOf points_many σ k)) = (dd x (row i l) (firstOf points_many σ k) : EReal) := by
      pointwise [k0_pay14]
      rw [dist_lane x i v0 v2 h0 h2, D_nb x _ hR]
      exact max_eq_left (EReal.coe_nonneg.mpr (dd_nonneg x _ _))
    rw [this, Ideal.sqrt_coe, if_neg (not_lt.mpr (dd_nonneg x _ _))]
  fin_cases r
  · show scal i v0 v2 v86 (ix2 0 l) = _
    pointwise [scal, k0_pay15, k0_pay9, k0_pay8, k0_pay7, k0_pay6, k0_pay5, k0_pay4, k0_pay3, k0_pay2]
    exact (eye_sum v86 he _ l).trans (hm 0 0)
  · show scal i v0 v2 v86 (ix2 1 l) = _
    pointwise [scal, k0_pay15, k0_pay9, k0_pay8, k0_pay7, k0_pay6, k0_pay5, k0_pay4, k0_pay3, k0_pay2]
    exact (eye_sum v86 he _ l).trans (hm 1 1)
  · show scal i v0 v2 v86 (ix2 2 l) = _
    pointwise [scal, k0_pay15, k0_pay9, k0_pay8, k0_pay7, k0_pay6, k0_pay5, k0_pay4, k0_pay3, k0_pay2]
    exact (eye_sum v86 he _ l).trans (hm 2 2)
  · show scal i v0 v2 v86 (ix2 3 l) = _
    pointwise [scal, k0_pay15, k0_pay9, k0_pay8, k0_pay7, k0_pay6, k0_pay5, k0_pay4, k0_pay3, k0_pay2]
    exact (eye_sum v86 he _ l).trans (hm 0 1)
  · show scal i v0 v2 v86 (ix2 4 l) = _
    pointwise [scal, k0_pay15, k0_pay9, k0_pay8, k0_pay7, k0_pay6, k0_pay5, k0_pay4, k0_pay3, k0_pay2]
    exact (eye_sum v86 he _ l).trans (hm 0 2)
  · show scal i v0 v2 v86 (ix2 5 l) = _
    pointwise [scal, k0_pay15, k0_pay9, k0_pay8, k0_pay7, k0_pay6, k0_pay5, k0_pay4, k0_pay3, k0_pay2]
    exact (eye_sum v86 he _ l).trans (hm 1 2)
  · show scal i v0 v2 v86 (ix2 6 l) = _
    pointwise [scal, k0_pay15, k0_pay9, k0_pay8, k0_pay7, k0_pay6, k0_pay5, k0_pay4, k0_pay3, k0_pay2]
    exact (eye_sum v86 he _ l).trans hd
end

/-- A sweep of rows, read at a lane. -/
theorem vSweep_lane (S : Sym (Row Ideal)) (j : S1x1024.Idx) : (vSweep S).map (· j) = eSweep (S.map (· j)) :=
  sweep_map (fun r : Row Ideal => r j) _ _ _ _ _ _ _ _ _ _ _ _ (fun _ _ => rfl) (fun _ _ => rfl) (fun _ _ => rfl) rfl
    (fun _ _ _ => rfl) (fun _ => rfl) S

theorem one_row (l : Fin 1024) : (k0_pay28 : Row Ideal) (ix2 0 l) = ((1 : ℝ) : EReal) := by
  pointwise [k0_pay28]
  exact EReal.coe_one.symm
theorem zero_row (l : Fin 1024) : (k0_pay29 : Row Ideal) (ix2 0 l) = ((0 : ℝ) : EReal) := by
  pointwise [k0_pay29]
  exact EReal.coe_zero.symm

/-- The eigenvalues and eigenvectors, read at a lane, from the seven sums. -/
theorem sym5_lane (v88 : FVec Ideal S8x1024 .f32) (l : Fin 1024) (x : Pts) (n : Fin 2048) (nb : Fin 16 → Fin 2048)
    (h : ∀ r : Fin 7, v88 (ix2 ⟨r.val, by omega⟩ l) = ((![cov x n nb 0 0 * 16, cov x n nb 1 1 * 16, cov x n nb 2 2 * 16,
      cov x n nb 0 1 * 16, cov x n nb 0 2 * 16, cov x n nb 1 2 * 16, radius x n nb * 16] r : ℝ) : EReal)) :
    (sym5 v88).map (· (ix2 0 l)) = (sweeps (S0 x n nb)).map (fun r : ℝ => (r : EReal)) := by
  have hc : ∀ (a : EReal) (r : ℝ), a = ((r * 16 : ℝ) : EReal) → a * Ideal.ofBits .f32 0x3D800000#32 = (r : EReal) := by
    rintro a r rfl
    rw [ofBits_sixteenth, ← EReal.coe_mul]
    congr 1; ring
  have h0 : (sym0 v88).map (· (ix2 0 l)) = (S0 x n nb).map (fun r : ℝ => (r : EReal)) := by
    apply Cert.Jacobi.Sym.ext
    · show k0_pay17 _ (ix2 0 l) = _
      pointwise [k0_pay17]
      exact hc _ _ (h 0)
    · show k0_pay20 _ (ix2 0 l) = _
      pointwise [k0_pay20]
      exact hc _ _ (h 3)
    · show k0_pay21 _ (ix2 0 l) = _
      pointwise [k0_pay21]
      exact hc _ _ (h 4)
    · show k0_pay18 _ (ix2 0 l) = _
      pointwise [k0_pay18]
      exact hc _ _ (h 1)
    · show k0_pay22 _ (ix2 0 l) = _
      pointwise [k0_pay22]
      exact hc _ _ (h 5)
    · show k0_pay19 _ (ix2 0 l) = _
      pointwise [k0_pay19]
      exact hc _ _ (h 2)
    all_goals first | exact one_row l | exact zero_row l
  simp only [sym5, vSweep_lane, h0, eSweep_coe, sweeps, rSweep]
end Cert.KernelIdeal.Value
-- ==== Proof.KTail.lean ====
/- The end of the kernel's block at one point: the sorted eigenvalues, the normal, the invariants, the perceptrons, and the
   sixteen rows of the block. -/
module

public import proofs.«01_k».proof.Proof.KLane

@[expose] public section

noncomputable section

namespace Cert.KernelIdeal.Value

open Cert.KernelIdeal Cert.KernelIdeal.Gen Idealize.ShloMosaic Idealize.ShloMosaic.TcCoe Idealize.SL.Sem Cert.Jacobi Cert.Knn
open Cert.Nearest

section
variable (S : Sym (Row Ideal)) (R : Sym ℝ) (l : Fin 1024)

theorem low_lane (h : S.map (· (ix2 0 l)) = R.map (fun r : ℝ => (r : EReal))) : lmin S (ix2 0 l) = (low R : EReal) := by
  have h0 : S.a00 (ix2 0 l) = (R.a00 : EReal) := congrArg Jacobi.Sym.a00 h
  have h1 : S.a11 (ix2 0 l) = (R.a11 : EReal) := congrArg Jacobi.Sym.a11 h
  have h2 : S.a22 (ix2 0 l) = (R.a22 : EReal) := congrArg Jacobi.Sym.a22 h
  pointwise [lmin]
  rw [h0, h1, h2, low, EReal.coe_strictMono.monotone.map_min, EReal.coe_strictMono.monotone.map_min]

theorem high_lane (h : S.map (· (ix2 0 l)) = R.map (fun r : ℝ => (r : EReal))) : lmax S (ix2 0 l) = (high R : EReal) := by
  have h0 : S.a00 (ix2 0 l) = (R.a00 : EReal) := congrArg Jacobi.Sym.a00 h
  have h1 : S.a11 (ix2 0 l) = (R.a11 : EReal) := congrArg Jacobi.Sym.a11 h
  have h2 : S.a22 (ix2 0 l) = (R.a22 : EReal) := congrArg Jacobi.Sym.a22 h
  pointwise [lmax]
  rw [h0, h1, h2, high, EReal.coe_strictMono.monotone.map_max, EReal.coe_strictMono.monotone.map_max]

theorem mid_lane (h : S.map (· (ix2 0 l)) = R.map (fun r : ℝ => (r : EReal))) : lmid S (ix2 0 l) = (mid R : EReal) := by
  have h0 : S.a00 (ix2 0 l) = (R.a00 : EReal) := congrArg Jacobi.Sym.a00 h
  have h1 : S.a11 (ix2 0 l) = (R.a11 : EReal) := congrArg Jacobi.Sym.a11 h
  have h2 : S.a22 (ix2 0 l) = (R.a22 : EReal) := congrArg Jacobi.Sym.a22 h
  pointwise [lmid]
  rw [low_lane S R l h, high_lane S R l h, h0, h1, h2, mid]
  simp only [EReal.coe_add, EReal.coe_sub]

/-- The eigenvector of the least eigenvalue. -/
theorem ev_lane (h : S.map (· (ix2 0 l)) = R.map (fun r : ℝ => (r : EReal))) :
    ev0 S (ix2 0 l) = (ev R 0 : EReal) ∧ ev1 S (ix2 0 l) = (ev R 1 : EReal) ∧ ev2 S (ix2 0 l) = (ev R 2 : EReal) := by
  have h0 : S.a00 (ix2 0 l) = (R.a00 : EReal) := congrArg Jacobi.Sym.a00 h
  have h1 : S.a11 (ix2 0 l) = (R.a11 : EReal) := congrArg Jacobi.Sym.a11 h
  have h2 : S.a22 (ix2 0 l) = (R.a22 : EReal) := congrArg Jacobi.Sym.a22 h
  have p0 : pick0 S (ix2 0 l) = BitVec.ofBool (decide (R.a00 ≤ R.a11 ∧ R.a00 ≤ R.a22)) := by
    pointwise [pick0]
    rw [h0, h1, h2]
    simp only [EReal.coe_le_coe_iff, Bool.decide_and]
    cases decide (R.a00 ≤ R.a11) <;> cases decide (R.a00 ≤ R.a22) <;> rfl
  have p1 : pick1 S (ix2 0 l) = BitVec.ofBool (decide (¬ (R.a00 ≤ R.a11 ∧ R.a00 ≤ R.a22) ∧ R.a11 ≤ R.a22)) := by
    pointwise [pick1]
    rw [p0, h1, h2]
    simp only [EReal.coe_le_coe_iff, Bool.decide_and, decide_not]
    cases decide (R.a00 ≤ R.a11) <;> cases decide (R.a00 ≤ R.a22) <;> cases decide (R.a11 ≤ R.a22) <;> rfl
  have hs : ∀ (a b c : Row Ideal) (u v w : ℝ), a (ix2 0 l) = (u : EReal) → b (ix2 0 l) = (v : EReal) → c (ix2 0 l) = (w : EReal) →
      select (pick0 S) a (select (pick1 S) b c) (ix2 0 l) = ((![u, v, w] (least R) : ℝ) : EReal) := by
    intro a b c u v w ha hb hc
    show Scalar.select (pick0 S (ix2 0 l)) (a (ix2 0 l)) (Scalar.select (pick1 S (ix2 0 l)) (b (ix2 0 l)) (c (ix2 0 l))) = _
    rw [p0, p1, select_ofBool, select_ofBool, ha, hb, hc, least]
    by_cases q0 : R.a00 ≤ R.a11 ∧ R.a00 ≤ R.a22
    · rw [if_pos q0, if_pos q0]; rfl
    · rw [if_neg q0, if_neg q0]
      by_cases q1 : R.a11 ≤ R.a22
      · rw [if_pos ⟨q0, q1⟩, if_pos q1]; rfl
      · rw [if_neg (fun q => q1 q.2), if_neg q1]; rfl
  refine ⟨?_, ?_, ?_⟩
  · exact (hs _ _ _ R.v00 R.v01 R.v02 (congrArg Jacobi.Sym.v00 h) (congrArg Jacobi.Sym.v01 h) (congrArg Jacobi.Sym.v02 h))
  · exact (hs _ _ _ R.v10 R.v11 R.v12 (congrArg Jacobi.Sym.v10 h) (congrArg Jacobi.Sym.v11 h) (congrArg Jacobi.Sym.v12 h))
  · exact (hs _ _ _ R.v20 R.v21 R.v22 (congrArg Jacobi.Sym.v20 h) (congrArg Jacobi.Sym.v21 h) (congrArg Jacobi.Sym.v22 h))
end

section
variable (l : Fin 1024) (a b c p q r : Row Ideal) (u o : Fin 3 → ℝ)

theorem dot3_lane (ha : a (ix2 0 l) = (u 0 : EReal)) (hb : b (ix2 0 l) = (u 1 : EReal)) (hc : c (ix2 0 l) = (u 2 : EReal))
    (hp : p (ix2 0 l) = (o 0 : EReal)) (hq : q (ix2 0 l) = (o 1 : EReal)) (hr : r (ix2 0 l) = (o 2 : EReal)) :
    dot3 a b c p q r (ix2 0 l) = ((∑ k, u k * o k : ℝ) : EReal) := by
  pointwise [dot3]
  rw [ha, hb, hc, hp, hq, hr, Fin.sum_univ_three]
  simp only [EReal.coe_add, EReal.coe_mul]

theorem turn_lane (ha : a (ix2 0 l) = (u 0 : EReal)) (hb : b (ix2 0 l) = (u 1 : EReal)) (hc : c (ix2 0 l) = (u 2 : EReal))
    (hp : p (ix2 0 l) = (o 0 : EReal)) (hq : q (ix2 0 l) = (o 1 : EReal)) (hr : r (ix2 0 l) = (o 2 : EReal)) :
    orient a b c p q r (ix2 0 l) = (turn u o : EReal) := by
  pointwise [orient, crow]
  rw [dot3_lane l a b c p q r u o ha hb hc hp hq hr, turn, ofBits_neg_one]
  simp only [EReal.coe_nonneg]
  split <;> simp

/-- The length of a vector, at least the floor. -/
theorem len_lane (ha : a (ix2 0 l) = (u 0 : EReal)) (hb : b (ix2 0 l) = (u 1 : EReal)) (hc : c (ix2 0 l) = (u 2 : EReal)) :
    len a b c (ix2 0 l) = ((max (Real.sqrt (∑ k, u k * u k)) floor : ℝ) : EReal) := by
  pointwise [len, crow]
  rw [dot3_lane l a b c a b c u u ha hb hc ha hb hc, floor_coe.1, Ideal.sqrt_coe,
    if_neg (not_lt.mpr (Finset.sum_nonneg fun k _ => mul_self_nonneg _)), EReal.coe_strictMono.monotone.map_max]

/-- A real divided by a divisor at least the floor. -/
theorem div_floor (y z : ℝ) : Ideal.div (y : EReal) ((max z floor : ℝ) : EReal) = ((y * (1 / max z floor) : ℝ) : EReal) := by
  rw [Ideal.div_coe (ne_of_gt (lt_of_lt_of_le floor_coe.2 (le_max_right _ _))), EReal.coe_mul]
end

/-- A point from the centre. -/
theorem off_lane (x : Pts) (n : Fin 2048) (v0 : Vec Ideal S1x3x2048 .f32) (v110 : Vec Ideal S1x3x1024 .f32) (l : Fin 1024)
    (h0 : ∀ k j, v0 (ix3 0 k j) = (x j k : EReal)) (h1 : ∀ k, v110 (ix3 0 k l) = (x n k : EReal)) :
    k0_pay262 (k0_pay2 v0) (k0_pay25 v110) (ix2 0 l) = (off x n 0 : EReal)
      ∧ k0_pay263 (k0_pay2 v0) (k0_pay26 v110) (ix2 0 l) = (off x n 1 : EReal)
      ∧ k0_pay264 (k0_pay2 v0) (k0_pay27 v110) (ix2 0 l) = (off x n 2 : EReal) := by
  have hk : ∀ k : Fin 3, v110 (ix3 0 k l) - Ideal.div (∑ j, v0 (ix3 0 k j)) (Ideal.ofBits .f32 0x45000000#32) = (off x n k : EReal) := by
    intro k
    simp only [h0, h1]
    rw [ofBits_2048, Ideal.div_coe (by norm_num), ← coe_sum, ← EReal.coe_mul, ← EReal.coe_sub, off]
  refine ⟨?_, ?_, ?_⟩
  · pointwise [k0_pay262, k0_pay25, k0_pay24, k0_pay2]
    exact hk 0
  · pointwise [k0_pay263, k0_pay26, k0_pay24, k0_pay2]
    exact hk 1
  · pointwise [k0_pay264, k0_pay27, k0_pay24, k0_pay2]
    exact hk 2

/-- The coordinates of a lane's point. -/
theorem point_lane (v110 : Vec Ideal S1x3x1024 .f32) (l : Fin 1024) :
    k0_pay25 v110 (ix2 0 l) = v110 (ix3 0 0 l) ∧ k0_pay26 v110 (ix2 0 l) = v110 (ix3 0 1 l)
      ∧ k0_pay27 v110 (ix2 0 l) = v110 (ix3 0 2 l) := by
  refine ⟨?_, ?_, ?_⟩
  · pointwise [k0_pay25, k0_pay24]
  · pointwise [k0_pay26, k0_pay24]
  · pointwise [k0_pay27, k0_pay24]

/-- The sixteen rows of the block. -/
theorem rows_lane (a b c d e f : Row Ideal) (A B : FVec Ideal S64x1024 .f32) (v1090 : Vec Ideal S64x1 .f32)
    (v1092 : Vec Ideal S1x1 .f32) (l : Fin 1024) (p N : Fin 3 → ℝ)
    (ha : a (ix2 0 l) = (p 0 : EReal)) (hb : b (ix2 0 l) = (p 1 : EReal)) (hc : c (ix2 0 l) = (p 2 : EReal))
    (hd : d (ix2 0 l) = (N 0 : EReal)) (he : e (ix2 0 l) = (N 1 : EReal)) (hf : f (ix2 0 l) = (N 2 : EReal)) (r : Fin 16) :
    k0_pay1 a b c d e f A B v1090 v1092 (ix3 0 r l)
      = parts (layer (fun k => v1090 (ix2 k 0)) (v1092 (ix2 0 0)) fun k => A (ix2 k l) + B (ix2 k l)) p N r := by
  have hneg : ∀ y : ℝ, (0 : EReal) - (y : EReal) = ((-y : ℝ) : EReal) := fun y => by
    rw [← EReal.coe_zero, ← EReal.coe_sub, zero_sub]
  fin_cases r
  · show k0_pay1 a b c d e f A B v1090 v1092 (ix3 0 0 l) = layer _ _ _
    pointwise [k0_pay1]
    simp only [layer, mul_comm]
  · show k0_pay1 a b c d e f A B v1090 v1092 (ix3 0 1 l) = _
    pointwise [k0_pay1]
    exact hd
  · show k0_pay1 a b c d e f A B v1090 v1092 (ix3 0 2 l) = _
    pointwise [k0_pay1]
    exact he
  · show k0_pay1 a b c d e f A B v1090 v1092 (ix3 0 3 l) = _
    pointwise [k0_pay1]
    rw [hf]
    exact hneg _
  · show k0_pay1 a b c d e f A B v1090 v1092 (ix3 0 4 l) = ((-(∑ c, p c * N c) : ℝ) : EReal)
    pointwise [k0_pay1]
    rw [ha, hb, hc, hd, he, hf, Fin.sum_univ_three, ← hneg]
    simp only [EReal.coe_add, EReal.coe_mul]
  · show k0_pay1 a b c d e f A B v1090 v1092 (ix3 0 5 l) = _
    pointwise [k0_pay1]
    exact hd
  · show k0_pay1 a b c d e f A B v1090 v1092 (ix3 0 6 l) = _
    pointwise [k0_pay1]
    exact he
  · show k0_pay1 a b c d e f A B v1090 v1092 (ix3 0 7 l) = _
    pointwise [k0_pay1]
    exact hf
  · show k0_pay1 a b c d e f A B v1090 v1092 (ix3 0 8 l) = 0
    pointwise [k0_pay1]
  · show k0_pay1 a b c d e f A B v1090 v1092 (ix3 0 9 l) = 0
    pointwise [k0_pay1]
  · show k0_pay1 a b c d e f A B v1090 v1092 (ix3 0 10 l) = 0
    pointwise [k0_pay1]
  · show k0_pay1 a b c d e f A B v1090 v1092 (ix3 0 11 l) = _
    pointwise [k0_pay1]
    exact ha
  · show k0_pay1 a b c d e f A B v1090 v1092 (ix3 0 12 l) = _
    pointwise [k0_pay1]
    exact hb
  · show k0_pay1 a b c d e f A B v1090 v1092 (ix3 0 13 l) = _
    pointwise [k0_pay1]
    exact hc
  · show k0_pay1 a b c d e f A B v1090 v1092 (ix3 0 14 l) = 1
    pointwise [k0_pay1]
  · show k0_pay1 a b c d e f A B v1090 v1092 (ix3 0 15 l) = 0
    pointwise [k0_pay1]

/-- The Gaussian linear unit as the kernel writes it. -/
theorem gelu_eq (y : EReal) : Ideal.ofBits .f32 0x3F000000#32 * y * (1 + FloatOps.erf (F := Ideal) (φ := .f32)
    (y * (Named.named κ "rsqrt2" 0x3F3504F3#32 : Ideal .f32))) = gelu y := by
  rw [rsqrt2_eq]; rfl

section
variable (v1027 : Vec Ideal S6x64 .f32) (v1029 : Vec Ideal S64x1 .f32) (v1041 : Vec Ideal S64x64 .f32)
    (v1043 : Vec Ideal S64x1 .f32) (v1047 : Vec Ideal S1x64x1024 .f32) (v1049 : Vec Ideal S64x64 .f32) (v1051 : Vec Ideal S64x1 .f32)
    (v1063 : Vec Ideal S64x64 .f32) (v1065 : Vec Ideal S64x1 .f32) (v1070 : Vec Ideal S128x64 .f32) (v1072 : Vec Ideal S64x1 .f32)
    (v1084 : Vec Ideal S64x64 .f32) (v1086 : Vec Ideal S64x1 .f32) (v1090 : Vec Ideal S64x1 .f32) (v1092 : Vec Ideal S1x1 .f32)

/-- The weights the block loads. -/
def wts : Wts where
  i0 := fun k h => v1027 (ix2 k h)
  bi0 := fun h => v1029 (ix2 h 0)
  i1 := fun k h => v1041 (ix2 k h)
  bi1 := fun h => v1043 (ix2 h 0)
  f0 := fun k h => v1049 (ix2 k h)
  bf0 := fun h => v1051 (ix2 h 0)
  f1 := fun k h => v1063 (ix2 k h)
  bf1 := fun h => v1065 (ix2 h 0)
  s0 := fun k h => v1070 (ix2 k h)
  bs0 := fun h => v1072 (ix2 h 0)
  s1 := fun k h => v1084 (ix2 k h)
  bs1 := fun h => v1086 (ix2 h 0)
  g := fun k => v1090 (ix2 k 0)
  bg := v1092 (ix2 0 0)

/-- The perceptron of the invariants. -/
theorem inv_lane (a b c d e f g : Row Ideal) (l : Fin 1024) (S : Sym ℝ) (rad : ℝ) (o : Fin 3 → ℝ)
    (ha : a (ix2 0 l) = ((rad * 16 : ℝ) : EReal)) (hb : b (ix2 0 l) = (low S : EReal)) (hc : c (ix2 0 l) = (high S : EReal))
    (hd : d (ix2 0 l) = (mid S : EReal)) (he : e (ix2 0 l) = (o 0 : EReal)) (hf : f (ix2 0 l) = (o 1 : EReal))
    (hg : g (ix2 0 l) = (o 2 : EReal)) (r : Fin 64) :
    k0_pay273 a b c d e f g v1027 v1029 v1041 v1043 (ix2 r l)
      = layer (fun h => v1041 (ix2 h r)) (v1043 (ix2 r 0)) fun h => gelu (layer (fun k => v1027 (ix2 k h)) (v1029 (ix2 h 0))
        fun k => (invs S rad o k : EReal)) := by
  pointwise [k0_pay273]
  simp only [gelu_eq, layer, mul_comm (v1041 _)]
  congr 1
  refine Finset.sum_congr rfl fun h _ => ?_
  congr 3
  refine Finset.sum_congr rfl fun k _ => ?_
  rw [mul_comm]
  congr 1
  fin_cases k
  · exact hb
  · exact hd
  · exact hc
  · show a (ix2 0 l) * Ideal.ofBits .f32 0x3D800000#32 = (rad : EReal)
    rw [ha, ofBits_sixteenth, ← EReal.coe_mul]
    congr 1; ring
  · show Ideal.sqrt (e (ix2 0 l) * e (ix2 0 l) + f (ix2 0 l) * f (ix2 0 l) + g (ix2 0 l) * g (ix2 0 l))
      = ((Real.sqrt (∑ c, o c * o c) : ℝ) : EReal)
    have hn : (0 : ℝ) ≤ ∑ c, o c * o c := Finset.sum_nonneg fun k _ => mul_self_nonneg _
    rw [he, hf, hg, ← EReal.coe_mul, ← EReal.coe_mul, ← EReal.coe_mul, ← EReal.coe_add, ← EReal.coe_add,
      ← Fin.sum_univ_three (fun c => o c * o c), Ideal.sqrt_coe, if_neg (not_lt.mpr hn)]
  · show Ideal.div (c (ix2 0 l)) (max (b (ix2 0 l) + d (ix2 0 l) + c (ix2 0 l)) (Ideal.ofBits .f32 0x358637BD#32))
      = ((high S * (1 / max (low S + mid S + high S) floor) : ℝ) : EReal)
    rw [hb, hc, hd, floor_coe.1, ← EReal.coe_add, ← EReal.coe_add, ← EReal.coe_strictMono.monotone.map_max, div_floor]

/-- The shared perceptron. -/
theorem hidden_lane (A : FVec Ideal S64x1024 .f32) (l : Fin 1024) (x : Fin 6 → EReal)
    (hA : ∀ r, A (ix2 r l) = invH (wts v1027 v1029 v1041 v1043 v1049 v1051 v1063 v1065 v1070 v1072 v1084 v1086 v1090 v1092) x r) (r : Fin 64) :
    k0_pay275 A (k0_pay274 v1047 v1049) v1051 v1063 v1065 v1070 v1072 v1084 (ix2 r l) + k0_pay276 v1086 (ix2 r l)
      = hidden (wts v1027 v1029 v1041 v1043 v1049 v1051 v1063 v1065 v1070 v1072 v1084 v1086 v1090 v1092) x
          (fun k => v1047 (ix3 0 k l)) r := by
  pointwise [k0_pay275, k0_pay274, k0_pay276]
  simp only [gelu_eq, hA, mul_comm (v1084 _), mul_comm (v1070 _), mul_comm (v1063 _), mul_comm (v1049 _)]
  rfl

/-- The block at a lane: one point of the result. -/
theorem kout_lane (x : Pts) (i : grid0.Coords) (v0 : Vec Ideal S1x3x2048 .f32) (v2 : Vec Ideal S1x1024x3 .f32)
    (v86 : Vec Ideal S1024x1024 .f32) (v110 : Vec Ideal S1x3x1024 .f32) (σ : Fin 2048 → Fin 2048)
    (he : ∀ r l, v86 (ix2 r l) = if r = l then (1 : EReal) else 0)
    (h0 : ∀ k j, v0 (ix3 0 k j) = (x j k : EReal)) (h2 : ∀ l k, v2 (ix3 0 l k) = (x (row i l) k : EReal))
    (h1 : ∀ k l, v110 (ix3 0 k l) = (x (row i l) k : EReal)) (l : Fin 1024) (hR : Ranks (D x (row i l)) σ) (r : Fin 16) :
    kout i v0 v2 v86 v110 v1027 v1029 v1041 v1043 v1047 v1049 v1051 v1063 v1065 v1070 v1072 v1084 v1086 v1090 v1092 (ix3 0 r l)
      = out (wts v1027 v1029 v1041 v1043 v1049 v1051 v1063 v1065 v1070 v1072 v1084 v1086 v1090 v1092) x (fun k => v1047 (ix3 0 k l)) (row i l)
          (firstOf points_many σ) r := by
  have hs := scal_lane x i v0 v2 σ v86 he h0 h2 l hR
  have hS := sym5_lane _ l x _ _ hs
  obtain ⟨hx, hy, hz⟩ := off_lane x (row i l) v0 v110 l h0 (fun k => h1 k l)
  obtain ⟨hp, hq, hw⟩ := point_lane v110 l
  obtain ⟨e0, e1, e2⟩ := ev_lane _ _ l hS
  have hg := turn_lane l _ _ _ _ _ _ _ _ e0 e1 e2 hx hy hz
  have hn : ∀ (a : Row Ideal) (u t : ℝ) (g : Row Ideal), a (ix2 0 l) = (u : EReal) → g (ix2 0 l) = (t : EReal) →
      mulf a g (ix2 0 l) = ((u * t : ℝ) : EReal) := fun a u t g ha hg => by
    show a (ix2 0 l) * g (ix2 0 l) = _
    rw [ha, hg, EReal.coe_mul]
  have nx := hn _ _ _ _ e0 hg
  have ny := hn _ _ _ _ e1 hg
  have nz := hn _ _ _ _ e2 hg
  have hl := len_lane l _ _ _ (fun k => ev (sweeps (S0 x (row i l) (firstOf points_many σ))) k
    * turn (ev (sweeps (S0 x (row i l) (firstOf points_many σ)))) (off x (row i l))) nx ny nz
  have hd : ∀ (a g : Row Ideal) (u z : ℝ), a (ix2 0 l) = (u : EReal) → g (ix2 0 l) = ((max z floor : ℝ) : EReal) →
      divf a g (ix2 0 l) = ((u * (1 / max z floor) : ℝ) : EReal) := fun a g u z ha hg => by
    show Ideal.div (a (ix2 0 l)) (g (ix2 0 l)) = _
    rw [ha, hg, div_floor]
  have hr : k0_pay23 (scal i v0 v2 v86) (ix2 0 l) = ((radius x (row i l) (firstOf points_many σ) * 16 : ℝ) : EReal) := by
    pointwise [k0_pay23]
    exact hs 6
  have hA := inv_lane v1027 v1029 v1041 v1043 _ _ _ _ _ _ _ l _ _ _ hr (low_lane _ _ l hS) (high_lane _ _ l hS) (mid_lane _ _ l hS) hx hy hz
  unfold kout
  refine (rows_lane _ _ _ _ _ _ _ _ _ _ l (x (row i l)) (normal (ev (sweeps (S0 x (row i l) (firstOf points_many σ)))) (off x (row i l)))
    (hp.trans (h1 0 l)) (hq.trans (h1 1 l)) (hw.trans (h1 2 l)) (hd _ _ _ _ nx hl) (hd _ _ _ _ ny hl) (hd _ _ _ _ nz hl) r).trans ?_
  unfold out scalarPart
  congr 1
  unfold layer
  congr 1
  refine Finset.sum_congr rfl fun k _ => ?_
  congr 1
  exact hidden_lane v1027 v1029 v1041 v1043 v1047 v1049 v1051 v1063 v1065 v1070 v1072 v1084 v1086 v1090 v1092 _ l _ hA k
end

end Cert.KernelIdeal.Value
-- ==== Proof.KArr.lean ====
/- The kernel's result array: each grid point's block written back, each operand's block read from its array. -/
module

public import proofs.«01_k».proof.Proof.KTail
public import proofs.«01_k».proof.Proof.Gen.KernelIdeal.Run

@[expose] public section

set_option maxRecDepth 16384

noncomputable section

namespace Cert.KernelIdeal.Value

open Cert.KernelIdeal Cert.KernelIdeal.Gen Idealize.ShloMosaic Idealize.ShloMosaic.TcCoe Idealize.SL.Sem Cert.Jacobi Cert.Knn
open Cert.Nearest

variable (m : (ℓ : Loc nD τ sig) → Buf (Elt Ideal) ℓ) (c : Dev nD)

/-- Where the blocks of the windows along the points lie. -/
theorem idx : ∀ t : Fin grid0.N, (cfg0.win 0).index t = ![(grid0.coords t 0).val, (grid0.coords t 1).val, 0]
    ∧ (cfg0.win 1).index t = ![(grid0.coords t 0).val, 0, 0] ∧ (cfg0.win 2).index t = ![(grid0.coords t 0).val, 0, (grid0.coords t 1).val]
    ∧ (cfg0.win 18).index t = ![(grid0.coords t 0).val, 0, (grid0.coords t 1).val] := by
  decide +kernel

/-- Where the other windows' blocks lie: each is its whole array. -/
theorem idx0 : ∀ t : Fin grid0.N, (cfg0.win 3).index t = ![0, 0] ∧ (cfg0.win 4).index t = ![0, 0] ∧ (cfg0.win 5).index t = ![0, 0]
    ∧ (cfg0.win 6).index t = ![0, 0] ∧ (cfg0.win 7).index t = ![0, 0] ∧ (cfg0.win 8).index t = ![0, 0]
    ∧ (cfg0.win 9).index t = ![0, 0] ∧ (cfg0.win 10).index t = ![0, 0] ∧ (cfg0.win 11).index t = ![0, 0]
    ∧ (cfg0.win 12).index t = ![0, 0] ∧ (cfg0.win 13).index t = ![0, 0] ∧ (cfg0.win 14).index t = ![0, 0]
    ∧ (cfg0.win 15).index t = ![0, 0] ∧ (cfg0.win 16).index t = ![0, 0] ∧ (cfg0.win 17).index t = ![0, 0] := by
  decide +kernel

/-- The cloud of a grid point. -/
def cloud (t : Fin grid0.N) : Fin 4 := ⟨(grid0.coords t 0).val, (grid0.coords t 0).isLt⟩

/-- The block of the points' coordinates. -/
theorem r0 (t : Fin grid0.N) (l : Fin 1024) (k : Fin 3) :
    iblk m c 0 t (ix3 0 l k) = m ((c.tc : Thread nD τ).loc main_arg0) (ix3 (cloud t) (row (grid0.coords t) l) k) := by
  blk_ext [iblk, V, idx t, row, cloud]

/-- The block of all coordinates, written across. -/
theorem r1 (t : Fin grid0.N) (j : Fin 2048) (k : Fin 3) :
    iblk m c 1 t (ix3 0 k j) = m ((c.tc : Thread nD τ).loc main_arg0) (ix3 (cloud t) j k) := by
  refine (show iblk m c 1 t (ix3 0 k j) = V m c main_v0 (ix3 (cloud t) k j) by blk_ext [iblk, idx t, row, cloud]).trans ?_
  simp only [V, V0, List.flatten_cons, List.flatten_nil, List.append_nil]
  entry_read
  pointwise

/-- The part of it at the block's own points. -/
theorem r1' (t : Fin grid0.N) (l : Fin 1024) (k : Fin 3) :
    View.ld (iblk m c 1 t) (Rect.unit (s := S1x3x2048) (k0_off1 (grid0.coords t)) S1x3x1024.size (k0_off1_inb (grid0.coords t))) (ix3 0 k l)
      = m ((c.tc : Thread nD τ).loc main_arg0) (ix3 (cloud t) (row (grid0.coords t) l) k) := by
  refine Eq.trans ?_ (r1 m c t (row (grid0.coords t) l) k)
  show iblk m c 1 t _ = _
  congr 1
  funext a
  have hq : (BitVec.ofNat 32 (grid0.coords t 1).val * 1024#32).toNat = (grid0.coords t 1).val * 1024 := by
    have : (grid0.coords t 1).val < 2 := (grid0.coords t 1).isLt
    rw [BitVec.toNat_mul, BitVec.toNat_ofNat, Nat.mod_eq_of_lt (show (grid0.coords t 1).val < 2 ^ 32 from lt_trans this (by norm_num))]
    exact Nat.mod_eq_of_lt (show (grid0.coords t 1).val * 1024 < 2 ^ 32 by omega)
  fin_cases a
  · rfl
  · exact Fin.ext (show 0 + 1 * k.val = k.val by omega)
  · exact Fin.ext (show (BitVec.ofNat 32 (grid0.coords t 1).val * 1024#32).toNat + 1 * l.val = (row (grid0.coords t) l).val by
      rw [hq]; simp only [row]; omega)

/-- The block of the features, written across. -/
theorem r2 (t : Fin grid0.N) (l : Fin 1024) (k : Fin 64) :
    iblk m c 2 t (ix3 0 k l) = m ((c.tc : Thread nD τ).loc main_arg1) (ix3 (cloud t) (row (grid0.coords t) l) k)  := by
  refine (show iblk m c 2 t (ix3 0 k l) = V m c main_v1 (ix3 (cloud t) k (row (grid0.coords t) l)) by blk_ext [iblk, idx t, row, cloud]).trans ?_
  simp only [V, V0, List.flatten_cons, List.flatten_nil, List.append_nil]
  entry_read
  pointwise

/-- The identity matrix. -/
theorem r3 (t : Fin grid0.N) (r l : Fin 1024) : iblk m c 3 t (ix2 r l) = if r = l then (1 : EReal) else 0  := by
  refine (show iblk m c 3 t (ix2 r l) = V m c main_v7 (ix2 r l) by blk_ext [iblk, idx0 t]).trans ?_
  simp only [V, V0, List.flatten_cons, List.flatten_nil, List.append_nil]
  entry_read
  pointwise
  by_cases h : r = l
  · subst h
    simp [IntOp.addi, IntOp.cmpi, FloatOps.uitofp]
  · have hn : ¬ BitVec.ofNat 32 r.val = BitVec.ofNat 32 l.val := fun e => h (Fin.ext (by
      have := congrArg BitVec.toNat e
      rwa [BitVec.toNat_ofNat, BitVec.toNat_ofNat, Nat.mod_eq_of_lt (show r.val < 2 ^ 32 by omega),
        Nat.mod_eq_of_lt (show l.val < 2 ^ 32 by omega)] at this))
    have hb : (BitVec.ofNat 32 r.val == BitVec.ofNat 32 l.val) = false := by simpa using hn
    simp [IntOp.addi, IntOp.cmpi, FloatOps.uitofp, h, hb]

/-! The weights and the biases: each block is an argument, a bias as a column. -/

theorem r4 (t : Fin grid0.N) (k : Fin 6) (h : Fin 64) : iblk m c 4 t (ix2 k h) = m ((c.tc : Thread nD τ).loc main_arg2) (ix2 k h) := by
  blk_ext [iblk, V, idx0 t]
theorem r5 (t : Fin grid0.N) (h : Fin 64) : iblk m c 5 t (ix2 h 0) = m ((c.tc : Thread nD τ).loc main_arg3) (ix1 h) := by
  refine (show iblk m c 5 t (ix2 h 0) = V m c main_v8 (ix2 h 0) by blk_ext [iblk, idx0 t]).trans ?_
  simp only [V, V0, List.flatten_cons, List.flatten_nil, List.append_nil]
  entry_read
  pointwise
theorem r6 (t : Fin grid0.N) (k : Fin 64) (h : Fin 64) : iblk m c 6 t (ix2 k h) = m ((c.tc : Thread nD τ).loc main_arg4) (ix2 k h) := by
  blk_ext [iblk, V, idx0 t]
theorem r7 (t : Fin grid0.N) (h : Fin 64) : iblk m c 7 t (ix2 h 0) = m ((c.tc : Thread nD τ).loc main_arg5) (ix1 h) := by
  refine (show iblk m c 7 t (ix2 h 0) = V m c main_v9 (ix2 h 0) by blk_ext [iblk, idx0 t]).trans ?_
  simp only [V, V0, List.flatten_cons, List.flatten_nil, List.append_nil]
  entry_read
  pointwise
theorem r8 (t : Fin grid0.N) (k : Fin 64) (h : Fin 64) : iblk m c 8 t (ix2 k h) = m ((c.tc : Thread nD τ).loc main_arg6) (ix2 k h) := by
  blk_ext [iblk, V, idx0 t]
theorem r9 (t : Fin grid0.N) (h : Fin 64) : iblk m c 9 t (ix2 h 0) = m ((c.tc : Thread nD τ).loc main_arg7) (ix1 h) := by
  refine (show iblk m c 9 t (ix2 h 0) = V m c main_v10 (ix2 h 0) by blk_ext [iblk, idx0 t]).trans ?_
  simp only [V, V0, List.flatten_cons, List.flatten_nil, List.append_nil]
  entry_read
  pointwise
theorem r10 (t : Fin grid0.N) (k : Fin 64) (h : Fin 64) : iblk m c 10 t (ix2 k h) = m ((c.tc : Thread nD τ).loc main_arg8) (ix2 k h) := by
  blk_ext [iblk, V, idx0 t]
theorem r11 (t : Fin grid0.N) (h : Fin 64) : iblk m c 11 t (ix2 h 0) = m ((c.tc : Thread nD τ).loc main_arg9) (ix1 h) := by
  refine (show iblk m c 11 t (ix2 h 0) = V m c main_v11 (ix2 h 0) by blk_ext [iblk, idx0 t]).trans ?_
  simp only [V, V0, List.flatten_cons, List.flatten_nil, List.append_nil]
  entry_read
  pointwise
theorem r12 (t : Fin grid0.N) (k : Fin 128) (h : Fin 64) : iblk m c 12 t (ix2 k h) = m ((c.tc : Thread nD τ).loc main_arg10) (ix2 k h) := by
  blk_ext [iblk, V, idx0 t]
theorem r13 (t : Fin grid0.N) (h : Fin 64) : iblk m c 13 t (ix2 h 0) = m ((c.tc : Thread nD τ).loc main_arg11) (ix1 h) := by
  refine (show iblk m c 13 t (ix2 h 0) = V m c main_v12 (ix2 h 0) by blk_ext [iblk, idx0 t]).trans ?_
  simp only [V, V0, List.flatten_cons, List.flatten_nil, List.append_nil]
  entry_read
  pointwise
theorem r14 (t : Fin grid0.N) (k : Fin 64) (h : Fin 64) : iblk m c 14 t (ix2 k h) = m ((c.tc : Thread nD τ).loc main_arg12) (ix2 k h) := by
  blk_ext [iblk, V, idx0 t]
theorem r15 (t : Fin grid0.N) (h : Fin 64) : iblk m c 15 t (ix2 h 0) = m ((c.tc : Thread nD τ).loc main_arg13) (ix1 h) := by
  refine (show iblk m c 15 t (ix2 h 0) = V m c main_v13 (ix2 h 0) by blk_ext [iblk, idx0 t]).trans ?_
  simp only [V, V0, List.flatten_cons, List.flatten_nil, List.append_nil]
  entry_read
  pointwise
theorem r16 (t : Fin grid0.N) (k : Fin 64) : iblk m c 16 t (ix2 k 0) = m ((c.tc : Thread nD τ).loc main_arg14) (ix2 k 0) := by
  blk_ext [iblk, V, idx0 t]
theorem r17 (t : Fin grid0.N) : iblk m c 17 t (ix2 0 0) = m ((c.tc : Thread nD τ).loc main_arg15) (ix1 0) := by
  refine (show iblk m c 17 t (ix2 0 0) = V m c main_v14 (ix2 0 0) by blk_ext [iblk, idx0 t]).trans ?_
  simp only [V, V0, List.flatten_cons, List.flatten_nil, List.append_nil]
  entry_read
  pointwise

/-- The weights, as the arguments hold them. -/
def weights : Wts where
  i0 := fun k h => m ((c.tc : Thread nD τ).loc main_arg2) (ix2 k h)
  bi0 := fun h => m ((c.tc : Thread nD τ).loc main_arg3) (ix1 h)
  i1 := fun k h => m ((c.tc : Thread nD τ).loc main_arg4) (ix2 k h)
  bi1 := fun h => m ((c.tc : Thread nD τ).loc main_arg5) (ix1 h)
  f0 := fun k h => m ((c.tc : Thread nD τ).loc main_arg6) (ix2 k h)
  bf0 := fun h => m ((c.tc : Thread nD τ).loc main_arg7) (ix1 h)
  f1 := fun k h => m ((c.tc : Thread nD τ).loc main_arg8) (ix2 k h)
  bf1 := fun h => m ((c.tc : Thread nD τ).loc main_arg9) (ix1 h)
  s0 := fun k h => m ((c.tc : Thread nD τ).loc main_arg10) (ix2 k h)
  bs0 := fun h => m ((c.tc : Thread nD τ).loc main_arg11) (ix1 h)
  s1 := fun k h => m ((c.tc : Thread nD τ).loc main_arg12) (ix2 k h)
  bs1 := fun h => m ((c.tc : Thread nD τ).loc main_arg13) (ix1 h)
  g := fun k => m ((c.tc : Thread nD τ).loc main_arg14) (ix2 k 0)
  bg := m ((c.tc : Thread nD τ).loc main_arg15) (ix1 0)

theorem weights_eq (t : Fin grid0.N) :
    wts (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) (iblk m c 16 t) (iblk m c 17 t) = weights m c := by
  unfold wts weights
  simp only [r4 m c, r5 m c, r6 m c, r7 m c, r8 m c, r9 m c, r10 m c, r11 m c, r12 m c, r13 m c, r14 m c, r15 m c, r16 m c, r17 m c]

/-- The result, written across: of each cloud `b`, the value `r` of point `n`. -/
def across (x : Fin 4 → Pts) (σ : Fin 4 → Fin 2048 → Fin 2048 → Fin 2048) : S4x16x2048.Idx → EReal := fun i =>
  out (weights m c) (x (i 0)) (fun k => m ((c.tc : Thread nD τ).loc main_arg1) (ix3 (i 0) (i 2) k)) (i 2)
    (firstOf points_many (σ (i 0) (i 2))) (i 1)

/-- The result array, point by point: where the coordinates are real and the orders `σ` rank the distances. -/
theorem array_eq (x : Fin 4 → Pts) (σ : Fin 4 → Fin 2048 → Fin 2048 → Fin 2048)
    (hx : ∀ b j k, m ((c.tc : Thread nD τ).loc main_arg0) (ix3 b j k) = (x b j k : EReal)) (hR : ∀ b n, Ranks (D (x b) n) (σ b n)) :
    reg_main_v15 m c = across m c x σ := by
  refine (dats m 0 c).arrAt_eq_of_covers 18 _ (by decide +kernel) fun t hf y => ?_
  blk_simp
  rw [after_eq]
  obtain ⟨r, l, rfl⟩ : ∃ (r : Fin 16) (l : Fin 1024), y = ix3 0 r l := ⟨y 1, y 2, funext fun a => by
    fin_cases a
    · exact Subsingleton.elim (α := Fin 1) _ _
    · rfl
    · rfl⟩
  rw [kout_lane _ _ _ _ _ _ _ _ _ _ _ _ _ _ _ (x (cloud t)) (grid0.coords t) _ _ _ _ (σ (cloud t) (row (grid0.coords t) l)) (r3 m c t)
    (fun k j => (r1 m c t j k).trans (hx _ _ _)) (fun l k => (r0 m c t l k).trans (hx _ _ _)) (fun k l => (r1' m c t l k).trans (hx _ _ _)) l (hR _ _) r,
    weights_eq]
  simp only [r2 m c]
  show across m c x σ (ix3 (cloud t) r (row (grid0.coords t) l)) = _
  generalize across m c x σ = G
  symm
  blk_ext [idx t, row, cloud]

/-- The result of the kernel's program. -/
theorem result_eq (x : Fin 4 → Pts) (σ : Fin 4 → Fin 2048 → Fin 2048 → Fin 2048)
    (hx : ∀ b j k, m ((c.tc : Thread nD τ).loc main_arg0) (ix3 b j k) = (x b j k : EReal)) (hR : ∀ b n, Ranks (D (x b) n) (σ b n))
    (b : Fin 4) (n : Fin 2048) (r : Fin 16) :
    transpose S4x2048x16 [0, 2, 1] (reg_main_v15 m c) transposes_S4x16x2048_S4x2048x16_0_2_1 (ix3 b n r)
      = out (weights m c) (x b) (fun k => m ((c.tc : Thread nD τ).loc main_arg1) (ix3 b n k)) n (firstOf points_many (σ b n)) r := by
  rw [array_eq m c x σ hx hR]
  pointwise
  rfl
end Cert.KernelIdeal.Value
-- ==== Proof.Rank.lean ====
/- The sixteen or seventeen greatest entries of each row, in descending order with equal entries in their order in the row, read at a
   point: the order is one permutation of the row, whatever the number taken. -/
module

public import Idealize.ShloMosaic.Lib.Claim
public import Idealize.ShloMosaic.Lib.Pointwise
public import Idealize.ShloMosaic.Lib.SortFacts
public import Idealize.ShloMosaic.Lib.IdealHost

@[expose] public section

noncomputable section

namespace Cert.Rank

open Idealize.ShloMosaic

/-- The shape of four planes of 2048 rows of `K` entries. -/
abbrev Rows (K : Nat) : Shape := ⟨3, ![4, 2048, K]⟩

/-- The order of a row, greatest first. -/
def order (x : FVec Ideal (Rows 2048) .f32) (b : Fin 4) (n : Fin 2048) : Fin 2048 → Fin 2048 :=
  sortedFrom fun j j' => FloatOps.cmpfTotal .gt (x (ix3 b n j)) (x (ix3 b n j')) == 1#1

theorem topK_at {K : Nat} (hK : K ≤ 2048) (x : FVec Ideal (Rows 2048) .f32) (h : (Rows 2048).Slices (fun _ => 0) (Rows K)) (b : Fin 4)
    (n : Fin 2048) (k : Fin K) :
    (Host.topK (Rows K) 2 (FloatOps.cmpfTotal .gt) x h).1 (ix3 b n k) = x (ix3 b n (order x b n ⟨k.val, by omega⟩)) ∧
    (Host.topK (Rows K) 2 (FloatOps.cmpfTotal .gt) x h).2 (ix3 b n k) = BitVec.ofNat 32 (order x b n ⟨k.val, by omega⟩).val := by
  have hd : (2 : Nat) < (Rows 2048).rank := by decide
  have e : (fun q : Fin 2048 => Shape.Idx.along (s := Rows 2048) (ix3 b n ⟨k.val, by omega⟩) ⟨2, hd⟩ q) = fun q : Fin 2048 => ix3 b n q :=
    funext fun q => by funext d; fin_cases d <;> rfl
  have key : ∀ (g : Fin 2048 → (Rows 2048).Idx) (_ : g = fun q => ix3 b n q) {β : Type} (X : (Rows 2048).Idx → β),
      X (g (sortedFrom (fun q q' : Fin 2048 => FloatOps.cmpfTotal .gt (x (g q)) (x (g q')) == 1#1) ⟨k.val, by omega⟩))
        = X (ix3 b n (order x b n ⟨k.val, by omega⟩)) := by
    rintro g rfl β X
    rfl
  have s : ∀ {β : Type} (y : (Rows 2048).Idx → β), extractStridedSlice (Rows K) (fun _ => 0) y h (ix3 b n k) = y (ix3 b n ⟨k.val, by omega⟩) := by
    intro β y
    refine congrArg y (funext fun d => ?_)
    fin_cases d <;> exact Fin.ext (Nat.zero_add _)
  unfold Host.topK Host.sort2
  simp only [hd, ↓reduceDIte, s]
  exact ⟨key _ e x, key _ e _⟩

/-- The order lists every entry, and no later entry is greater than an earlier one. -/
theorem order_surj (x : FVec Ideal (Rows 2048) .f32) (b : Fin 4) (n : Fin 2048) : Function.Surjective (order x b n) := sortedFrom_surjective _

theorem order_mono (x : FVec Ideal (Rows 2048) .f32) (b : Fin 4) (n : Fin 2048) (a a' : Fin 2048) (h : a < a') :
    ¬ @LT.lt EReal _ (x (ix3 b n (order x b n a))) (x (ix3 b n (order x b n a'))) := by
  have hB : ∀ u v : EReal, (Ideal.cmpTotal .gt u v == 1#1) = decide (v < u) := fun u v => by
    show (BitVec.ofBool (decide (v < u)) == 1#1) = _
    by_cases hh : v < u <;> simp [hh]
  have hm := sortedFrom_noInversion (fun j j' => FloatOps.cmpfTotal .gt (x (ix3 b n j)) (x (ix3 b n j')) == 1#1)
    (fun j j' => FloatOps.cmpfTotal .gt (x (ix3 b n j)) (x (ix3 b n j')) == 1#1) ?_ (fun _ _ h => h) ?_ a a' h
  · have hm' : (Ideal.cmpTotal .gt (x (ix3 b n (order x b n a'))) (x (ix3 b n (order x b n a))) == 1#1) = false := hm
    rw [hB] at hm'
    exact of_decide_eq_false hm'
  · intro p q hh
    have h1 : (Ideal.cmpTotal .gt (x (ix3 b n p)) (x (ix3 b n q)) == 1#1) = true := hh
    show (Ideal.cmpTotal .gt (x (ix3 b n q)) (x (ix3 b n p)) == 1#1) = false
    rw [hB] at h1 ⊢
    exact decide_eq_false (lt_asymm (of_decide_eq_true h1))
  · intro p q r hh h2
    have h1 : (Ideal.cmpTotal .gt (x (ix3 b n p)) (x (ix3 b n q)) == 1#1) = false := hh
    have h2 : (Ideal.cmpTotal .gt (x (ix3 b n q)) (x (ix3 b n r)) == 1#1) = false := h2
    show (Ideal.cmpTotal .gt (x (ix3 b n p)) (x (ix3 b n r)) == 1#1) = false
    rw [hB] at h1 h2 ⊢
    exact decide_eq_false (not_lt.mpr ((not_lt.mp (of_decide_eq_false h1)).trans (not_lt.mp (of_decide_eq_false h2))))

end Cert.Rank
-- ==== Proof.RDist.lean ====
/- The reference's negated distances, read at a point, and what the precondition says of them: the coordinates are real numbers and the
   order of a row ranks the squared distances. -/
module

public import proofs.«01_k».proof.Proof.Rank
public import proofs.«01_k».proof.Proof.Spec
public import proofs.«01_k».proof.Proof.KLane
public import proofs.«01_k».proof.Proof.Gen.ReferenceIdeal

@[expose] public section

set_option maxRecDepth 16384

noncomputable section

namespace Cert.ReferenceIdeal.Value

open Cert.ReferenceIdeal Cert.ReferenceIdeal.Gen Idealize.ShloMosaic Idealize.ShloMosaic.TcCoe Cert.Rank Cert.Knn
open Cert.KernelIdeal.Value (dd_nonneg)

/-- The squared lengths. -/
def sqLen (A : FVec Ideal S4x2048x3 .f32) : FVec Ideal S4x2048 .f32 :=
  Host.reduceAdd (mulf A A) (constant S_ .f32 0x00000000#32) reducesTo_S4x2048x3_S4x2048_d2 h_S_

/-- The negated distances, as the reference makes them from the coordinates. -/
def negDist (A : FVec Ideal S4x2048x3 .f32) : FVec Ideal S4x2048x2048 .f32 :=
  Host.negf (select (broadcastInDim S4x2048x2048 ![0, 1, 2] bcast_S1x2048x2048_S4x2048x2048_0_1_2
      (broadcastInDim S1x2048x2048 ![1, 2] bcast_S2048x2048_S1x2048x2048_1_2 (cmpi .eq (addi (iotaInDim S2048x2048 32 0)
        (broadcastInDim S2048x2048 ![] bcast_S_S2048x2048 (constantI S_ 32 0#32))) (iotaInDim S2048x2048 32 1))))
    (broadcastInDim S4x2048x2048 ![] bcast_S_S4x2048x2048 (constant S_ .f32 0x7F800000#32))
    (Host.sqrt (maximumf (subf (addf
        (broadcastInDim S4x2048x2048 ![0, 1, 2] bcast_S4x2048x1_S4x2048x2048_0_1_2 (broadcastInDim S4x2048x1 ![0, 1] bcast_S4x2048_S4x2048x1_0_1 (sqLen A)))
        (broadcastInDim S4x2048x2048 ![0, 1, 2] bcast_S4x1x2048_S4x2048x2048_0_1_2 (broadcastInDim S4x1x2048 ![0, 2] bcast_S4x2048_S4x1x2048_0_2 (sqLen A))))
      (mulf (broadcastInDim S4x2048x2048 ![] bcast_S_S4x2048x2048 (constant S_ .f32 0x40000000#32))
        (Host.dotGeneral dot_S4x2048x3_S4x2048x3_S4x2048x2048_2_2_1_1_0_0 none A A)))
      (broadcastInDim S4x2048x2048 ![] bcast_S_S4x2048x2048 (constant S_ .f32 0x00000000#32)))))

variable (A : FVec Ideal S4x2048x3 .f32) (b : Fin 4) (n j : Fin 2048)

/-- The same number twice as a row and a column. -/
theorem same_place : IntOp.cmpi .eq (IntOp.addi (BitVec.ofNat 32 n.val) 0#32) (BitVec.ofNat 32 j.val) = BitVec.ofBool (decide (j = n)) := by
  have h : (BitVec.ofNat 32 n.val = BitVec.ofNat 32 j.val) ↔ j = n := by
    rw [← BitVec.toNat_inj, BitVec.toNat_ofNat, BitVec.toNat_ofNat, Nat.mod_eq_of_lt (by omega), Nat.mod_eq_of_lt (by omega), Fin.ext_iff]
    omega
  show BitVec.ofBool (BitVec.ofNat 32 n.val + 0#32 == BitVec.ofNat 32 j.val) = _
  rw [BitVec.add_zero]
  congr 1
  rw [Bool.eq_iff_iff, beq_iff_eq, decide_eq_true_iff, h]

theorem top_word : Ideal.ofBits .f32 0x7F800000#32 = ⊤ := by simp [Ideal.ofBits, Ideal.ieee]

/-- The squared distance before it is cut off at zero. -/
def rawSq : EReal := (∑ k : Fin 3, (A (ix3 b n k) : EReal) * A (ix3 b n k)) + (∑ k : Fin 3, (A (ix3 b j k) : EReal) * A (ix3 b j k))
  - ((2 : ℝ) : EReal) * ∑ k : Fin 3, (A (ix3 b n k) : EReal) * A (ix3 b j k)

theorem negDist_at : negDist A (ix3 b n j) = -(if j = n then (⊤ : EReal) else Ideal.sqrt (max (rawSq A b n j) 0)) := by
  unfold rawSq
  pointwise [negDist, sqLen]
  rw [same_place, Cert.Jacobi.select_ofBool, top_word, Cert.Jacobi.ofBits_two]

/-- On real coordinates the squared distance is the real one, and is not negative. -/
theorem rawSq_coe (x : Pts) (hx : ∀ j k, A (ix3 b j k) = (x j k : EReal)) : rawSq A b n j = (dd x n j : EReal) := by
  unfold rawSq dd
  simp only [hx, Fin.sum_univ_three, ← EReal.coe_mul, ← EReal.coe_add, ← EReal.coe_sub]
  congr 1
  ring

theorem negDist_coe (x : Pts) (hx : ∀ j k, A (ix3 b j k) = (x j k : EReal)) :
    negDist A (ix3 b n j) = -(if j = n then (⊤ : EReal) else ((Real.sqrt (dd x n j) : ℝ) : EReal)) := by
  rw [negDist_at, rawSq_coe A b n j x hx, max_eq_left (by exact_mod_cast dd_nonneg x n j), Ideal.sqrt_coe, if_neg (not_lt.mpr (dd_nonneg x n j))]

/-- A closer point has the greater negated distance. -/
theorem negDist_anti (x : Pts) (hx : ∀ j k, A (ix3 b j k) = (x j k : EReal)) (i j : Fin 2048) :
    D x n i < D x n j ↔ @LT.lt EReal _ (negDist A (ix3 b n j)) (negDist A (ix3 b n i)) := by
  rw [negDist_coe A b n i x hx, negDist_coe A b n j x hx]
  show _ ↔ -_ < -_
  rw [EReal.neg_lt_neg_iff, D, D]
  by_cases hi : i = n <;> by_cases hj : j = n
  · simp [hi, hj]
  · simp [hi, hj]
  · simp [hi, hj]
  · rw [if_neg hi, if_neg hj, if_neg hi, if_neg hj, EReal.coe_lt_coe_iff, EReal.coe_lt_coe_iff, Real.sqrt_lt_sqrt_iff (dd_nonneg x n i)]

/-- A square is not negative; a sum of squares is not negative, and is infinite if a term is. -/
theorem square_nonneg (x : EReal) : 0 ≤ x * x := by
  induction x with
  | bot => exact le_top
  | top => exact le_top
  | coe x => exact_mod_cast mul_self_nonneg x

theorem squares_nonneg (f : Fin 3 → EReal) : 0 ≤ ∑ k, f k * f k := Finset.sum_nonneg fun k _ => square_nonneg _

theorem squares_top (f : Fin 3 → EReal) (k : Fin 3) (h : f k = ⊤ ∨ f k = ⊥) : ∑ k, f k * f k = ⊤ := by
  have hk : f k * f k = ⊤ := by rcases h with h | h <;> rw [h] <;> rfl
  refine top_le_iff.mp (hk ▸ Finset.single_le_sum (f := fun k => f k * f k) (fun i _ => square_nonneg _) (Finset.mem_univ k))

/-- From a point with an infinite coordinate every negated distance is one of two values. -/
theorem negDist_two (k : Fin 3) (h : (A (ix3 b n k) : EReal) = ⊤ ∨ (A (ix3 b n k) : EReal) = ⊥) :
    (negDist A (ix3 b n j) : EReal) = ⊥ ∨ (negDist A (ix3 b n j) : EReal) = 0 := by
  rw [negDist_at]
  split_ifs
  · exact Or.inl rfl
  · unfold rawSq
    rw [squares_top (fun k => A (ix3 b n k)) k h, EReal.top_add_of_ne_bot (ne_bot_of_le_ne_bot (by decide) (squares_nonneg fun k => A (ix3 b j k)))]
    generalize (((2 : ℝ) : EReal) * ∑ k : Fin 3, (A (ix3 b n k) : EReal) * A (ix3 b j k)) = y
    have hz : Ideal.sqrt 0 = 0 := by rw [← EReal.coe_zero, Ideal.sqrt_coe, if_neg (lt_irrefl _), Real.sqrt_zero]
    induction y with
    | bot => exact Or.inl rfl
    | coe y => exact Or.inl rfl
    | top => exact Or.inr (by rw [EReal.sub_top, max_eq_right bot_le, hz, neg_zero])

end Cert.ReferenceIdeal.Value
-- ==== Proof.RPre.lean ====
/- The precondition read at a point: the coordinates are real numbers, and the order of each row ranks the squared distances with its
   first seventeen strictly increasing. -/
module

public import proofs.«01_k».proof.Proof.RDist
public import proofs.«01_k».proof.Pre_distinct

@[expose] public section

set_option maxRecDepth 16384

noncomputable section

namespace Cert.ReferenceIdeal.Value

open Cert.ReferenceIdeal Idealize.ShloMosaic Idealize.ShloMosaic.TcCoe Cert.Rank Cert.Knn Cert.Nearest
open Cert.ReferenceIdeal.Gen in
/-- The shapes of the precondition fit. -/
instance preFacts : Cert.Pre_distinct.Facts where
  reducesTo_S4x2048x3_S4x2048_d2 := reducesTo_S4x2048x3_S4x2048_d2
  h_S_ := h_S_
  bcast_S4x2048_S4x2048x1_0_1 := bcast_S4x2048_S4x2048x1_0_1
  bcast_S4x2048_S4x1x2048_0_2 := bcast_S4x2048_S4x1x2048_0_2
  bcast_S4x2048x1_S4x2048x2048_0_1_2 := bcast_S4x2048x1_S4x2048x2048_0_1_2
  bcast_S4x1x2048_S4x2048x2048_0_1_2 := bcast_S4x1x2048_S4x2048x2048_0_1_2
  bcast_S_S4x2048x2048 := bcast_S_S4x2048x2048
  bcast_S_S2048x2048 := bcast_S_S2048x2048
  bcast_S2048x2048_S1x2048x2048_1_2 := bcast_S2048x2048_S1x2048x2048_1_2
  bcast_S1x2048x2048_S4x2048x2048_0_1_2 := bcast_S1x2048x2048_S4x2048x2048_0_1_2
  sliceFits_S4x2048x2048_S4x2048x17 := by decide
  slices_S4x2048x17_S4x2048x16_0_0_1 := by decide
  slices_S4x2048x17_S4x2048x16_0_0_0 := by decide
  dot_S4x2048x3_S4x2048x3_S4x2048x2048_2_2_1_1_0_0_wf := dot_S4x2048x3_S4x2048x3_S4x2048x2048_2_2_1_1_0_0_wf

/-- The seventeen greatest of a row's negated distances strictly descend. -/
def Descends (A : FVec Ideal S4x2048x3 .f32) : Prop := ∀ (b : Fin 4) (n : Fin 2048) (r : Fin 16),
  @LT.lt EReal _ (negDist A (ix3 b n (order (negDist A) b n ⟨r.val + 1, by omega⟩))) (negDist A (ix3 b n (order (negDist A) b n ⟨r.val, by omega⟩)))

/-- What the precondition computes. -/
def strictly (A : FVec Ideal S4x2048x3 .f32) : IVec (Rows 16) 1 :=
  cmpf .olt (extractStridedSlice (Rows 16) ![0, 0, 1] (Host.topK (Rows 17) 2 (FloatOps.cmpfTotal .gt) (negDist A) preFacts.sliceFits_S4x2048x2048_S4x2048x17).1
      preFacts.slices_S4x2048x17_S4x2048x16_0_0_1)
    (extractStridedSlice (Rows 16) ![0, 0, 0] (Host.topK (Rows 17) 2 (FloatOps.cmpfTotal .gt) (negDist A) preFacts.sliceFits_S4x2048x2048_S4x2048x17).1
      preFacts.slices_S4x2048x17_S4x2048x16_0_0_0)

theorem descends_of {A : FVec Ideal S4x2048x3 .f32} (h : strictly A = fun _ => 1#1) : Descends A := fun b n r => by
  have hr := congrFun h (ix3 b n r)
  have e1 : strictly A (ix3 b n r) = Ideal.cmp .olt (negDist A (ix3 b n (order (negDist A) b n ⟨r.val + 1, by omega⟩)))
      (negDist A (ix3 b n (order (negDist A) b n ⟨r.val, by omega⟩))) := by
    rw [← (topK_at (K := 17) (by decide) (negDist A) preFacts.sliceFits_S4x2048x2048_S4x2048x17 b n ⟨r.val + 1, by omega⟩).1,
      ← (topK_at (K := 17) (by decide) (negDist A) preFacts.sliceFits_S4x2048x2048_S4x2048x17 b n ⟨r.val, by omega⟩).1]
    unfold strictly
    pointwise
    rw [show (⟨1 + r.val, by omega⟩ : Fin 17) = ⟨r.val + 1, by omega⟩ from Fin.ext (Nat.add_comm _ _)]
  rw [e1] at hr
  by_contra hc
  have : Ideal.cmp .olt (negDist A (ix3 b n (order (negDist A) b n ⟨r.val + 1, by omega⟩)))
      (negDist A (ix3 b n (order (negDist A) b n ⟨r.val, by omega⟩))) = 0#1 := congrArg BitVec.ofBool (decide_eq_false hc)
  rw [this] at hr
  exact absurd hr (by decide)

theorem descends_pre (a0 : FVec Ideal S4x2048x3 .f32) (a1 : FVec Ideal S4x2048x64 .f32) (a2 a3 a4 a5 a6 a7 a8 a9 a10 a11 a12 a13 a14 a15)
    (h : Cert.Pre_distinct.fn (F := Ideal) a0 a1 a2 a3 a4 a5 a6 a7 a8 a9 a10 a11 a12 a13 a14 a15 = fun _ => 1#1) : Descends a0 :=
  descends_of h

/-- The coordinates are real. -/
theorem real_of {A : FVec Ideal S4x2048x3 .f32} (h : Descends A) (b : Fin 4) (n : Fin 2048) (k : Fin 3) :
    A (ix3 b n k) = (((A (ix3 b n k) : EReal).toReal : ℝ) : EReal) := by
  have key : ¬ ((A (ix3 b n k) : EReal) = ⊤ ∨ (A (ix3 b n k) : EReal) = ⊥) := fun hi =>
    two_values (h b n 0) (h b n 1) (negDist_two A b n _ k hi) (negDist_two A b n _ k hi) (negDist_two A b n _ k hi)
  rw [not_or] at key
  exact (EReal.coe_toReal key.1 key.2).symm

/-- The real coordinates of each cloud. -/
def clouds (A : FVec Ideal S4x2048x3 .f32) (b : Fin 4) : Pts := fun j k => (A (ix3 b j k) : EReal).toReal

/-- The order ranks the squared distances. -/
theorem ranks_of {A : FVec Ideal S4x2048x3 .f32} (h : Descends A) (b : Fin 4) (n : Fin 2048) : Ranks (D (clouds A b) n) (order (negDist A) b n) :=
  ranks_of_anti (v := fun j => negDist A (ix3 b n j)) (order_surj _ b n) (negDist_anti A b n (clouds A b) (real_of h b)) (order_mono _ b n)
    fun a a' ha ha' => by
      have := h b n ⟨a.val, ha⟩
      have e : a' = ⟨a.val + 1, by omega⟩ := Fin.ext ha'
      rw [e]
      exact this

end Cert.ReferenceIdeal.Value
-- ==== Proof.RRot.lean ====
/- One rotation of the reference, read at a point: the matrix `Jᵀ·A·J` and the accumulated rotation `V·J`. -/
module

public import proofs.«01_k».proof.Proof.Jacobi
public import proofs.«01_k».proof.Proof.Gen.ReferenceIdeal
public import Idealize.ShloMosaic.Lib.Claim
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Cert.Jacobi

/-- A matrix, a word, a bit at every point. -/
abbrev Mat := FVec Ideal S4x2048x3x3 .f32
abbrev One := FVec Ideal S4x2048x1x1 .f32

/-- A constant at every point. -/
def word (w : BitVec 32) : One := broadcastInDim S4x2048x1x1 ![] bcast_S_S4x2048x1x1 (constant S_ .f32 w)

/-- Whether the pivot is too small to rotate. -/
def smallA (a : One) : IVec S4x2048x1x1 1 := cmpf .olt (Host.absf a) (word 0x0A4FB11F#32)

/-- The cotangent of twice the angle. -/
def tauA (app aqq apq : One) : One :=
  Host.divf (subf aqq app) (mulf (word 0x40000000#32) (select (smallA apq) (broadcastInDim S4x2048x1x1 ![] bcast_S_S4x2048x1x1 (id (constant S_ .f32 0x3F800000#32))) apq))

/-- The tangent from it. -/
def tanA (sm : IVec S4x2048x1x1 1) (τ : One) : One :=
  select sm (broadcastInDim S4x2048x1x1 ![] bcast_S_S4x2048x1x1 (id (constant S_ .f32 0x00000000#32)))
    (Host.divf (id (select (cmpf .oge τ (word 0x00000000#32)) (word 0x3F800000#32) (word 0xBF800000#32)))
      (addf (Host.absf τ) (Host.sqrt (addf (word 0x3F800000#32) (mulf τ τ)))))

/-- The cosine from the tangent. -/
def cosA (t : One) : One := Host.divf (word 0x3F800000#32) (Host.sqrt (addf (word 0x3F800000#32) (mulf t t)))

/-- A mask of the nine places at every point. -/
def mask (o : IVec S3x3 1) : IVec S4x2048x3x3 1 := broadcastInDim S4x2048x3x3 ![2, 3] bcast_S3x3_S4x2048x3x3_2_3 o

/-- The rotation's matrix. -/
def matA (on up lo : IVec S3x3 1) (e : FVec Ideal S3x3 .f32) (c s : One) : Mat :=
  select (mask on) (broadcastInDim S4x2048x3x3 ![0, 1, 2, 3] bcast_S4x2048x1x1_S4x2048x3x3_0_1_2_3 c)
    (select (mask up) (broadcastInDim S4x2048x3x3 ![0, 1, 2, 3] bcast_S4x2048x1x1_S4x2048x3x3_0_1_2_3 s)
      (select (mask lo) (broadcastInDim S4x2048x3x3 ![0, 1, 2, 3] bcast_S4x2048x1x1_S4x2048x3x3_0_1_2_3 (Host.negf s))
        (broadcastInDim S4x2048x3x3 ![2, 3] bcast_S3x3_S4x2048x3x3_2_3 e)))

/-- The rotated matrix. -/
def rotA (off : IVec S3x3 1) (A K : Mat) : Mat :=
  select (mask off) (broadcastInDim S4x2048x3x3 ![] bcast_S_S4x2048x3x3 (id (constant S_ .f32 0x00000000#32)))
    (Host.dotGeneral dot_S4x2048x3x3_S4x2048x3x3_S4x2048x3x3_2_2_3_3_01_01 none K
      (Host.dotGeneral dot_S4x2048x3x3_S4x2048x3x3_S4x2048x3x3_3_2_2_3_01_01 none A K))

/-- The rotation accumulated. -/
def rotV (V K : Mat) : Mat := Host.dotGeneral dot_S4x2048x3x3_S4x2048x3x3_S4x2048x3x3_3_2_2_3_01_01 none V K

/-- A table of nine entries laid out as a matrix. -/
abbrev lay {α : Type} (f : Fin 9 → α) : S3x3.Idx → α := fun i => f (S3x3.rowMajor i)

/-- The four masks and the identity of a rotation in the plane `(p, q)`. -/
abbrev Masks (p q : Fin 3) (on up lo off : IVec S3x3 1) (e : Fin 9 → BitVec 32) : Prop := ∀ i j : Fin 3,
  on (ix2 i j) = BitVec.ofBool (decide ((i = p ∧ j = p) ∨ (i = q ∧ j = q))) ∧ up (ix2 i j) = BitVec.ofBool (decide (i = p ∧ j = q)) ∧
    lo (ix2 i j) = BitVec.ofBool (decide (i = q ∧ j = p)) ∧ off (ix2 i j) = BitVec.ofBool (decide ((i = p ∧ j = q) ∨ (i = q ∧ j = p))) ∧
    e (S3x3.rowMajor (ix2 i j)) = if i = j then 0x3F800000#32 else 0#32

variable (b : Fin 4) (n : Fin 2048)

/-- The tangent and the cosine at a point. -/
theorem tan_at (app aqq apq : One) : tanA (smallA apq) (tauA app aqq apq) (ix4 b n 0 0)
    = hT (app (ix4 b n 0 0)) (aqq (ix4 b n 0 0)) (apq (ix4 b n 0 0)) := by
  rfl

theorem cos_at (t : One) : cosA t (ix4 b n 0 0) = hC (t (ix4 b n 0 0)) := by
  rfl

/-- The rotation's matrix at a point. -/
theorem mat_at {p q : Fin 3} {on up lo off : IVec S3x3 1} {e : Fin 9 → BitVec 32} (h : Masks p q on up lo off e) (c s : One) (i j : Fin 3) :
    matA on up lo (fun i => FloatOps.ofBits .f32 (e (S3x3.rowMajor i))) c s (ix4 b n i j) = J p q (c (ix4 b n 0 0)) (s (ix4 b n 0 0)) i j := by
  have he : Ideal.ofBits .f32 (e (S3x3.rowMajor (ix2 i j))) = if i = j then (1 : EReal) else 0 := by
    rw [(h i j).2.2.2.2]
    split_ifs
    · exact Ideal.ofBits_one_f32
    · exact Ideal.ofBits_zero_f32
  pointwise [matA, mask]
  rw [(h i j).1, (h i j).2.1, (h i j).2.2.1, he]
  simp only [select_ofBool]
  rfl

/-- A rotation at a point: the matrix. -/
theorem rotA_at {p q : Fin 3} {on up lo off : IVec S3x3 1} {e : Fin 9 → BitVec 32} (h : Masks p q on up lo off e) (A K : Mat)
    (a : Fin 3 → Fin 3 → EReal) (c s : EReal) (hA : ∀ i j, A (ix4 b n i j) = a i j) (hK : ∀ i j, K (ix4 b n i j) = J p q c s i j) (i j : Fin 3) :
    rotA off A K (ix4 b n i j) = stepA p q c s a i j := by
  pointwise [rotA, mask]
  rw [(h i j).2.2.2.1]
  simp only [select_ofBool, hA, hK]
  rw [show id (constant S_ .f32 0#32 : FVec Ideal S_ .f32) ix0 = 0 from Ideal.ofBits_zero_f32]
  rfl

/-- A rotation at a point: the accumulated rotation. -/
theorem rotV_at {p q : Fin 3} (V K : Mat) (v : Fin 3 → Fin 3 → EReal) (c s : EReal) (hV : ∀ i j, V (ix4 b n i j) = v i j)
    (hK : ∀ i j, K (ix4 b n i j) = J p q c s i j) (i j : Fin 3) : rotV V K (ix4 b n i j) = stepV p q c s v i j := by
  pointwise [rotV]
  simp only [hV, hK]
  rfl

/-- The cosine and the sine of the rotation of three entries. -/
def cosO (app aqq apq : One) : One := cosA (tanA (smallA apq) (tauA app aqq apq))
def sinO (app aqq apq : One) : One := mulf (tanA (smallA apq) (tauA app aqq apq)) (cosO app aqq apq)

/-- The rotation's matrix from the three entries. -/
def matOf (on up lo : IVec S3x3 1) (e : Fin 9 → BitVec 32) (app aqq apq : One) : Mat :=
  matA on up lo (fun i => FloatOps.ofBits .f32 (e (S3x3.rowMajor i))) (cosO app aqq apq) (sinO app aqq apq)

/-- The matrix and the accumulated rotation at a point are those of a real structure. -/
def At (A V : Mat) (S : Sym ℝ) : Prop := (∀ i j, A (ix4 b n i j) = up S.M i j) ∧ ∀ i j, V (ix4 b n i j) = up S.W i j

/-- A rotation of a matrix at a point, its three entries given, is the reference rotation of the real matrix. -/
theorem step {p q : Fin 3} {on up' lo off : IVec S3x3 1} {e : Fin 9 → BitVec 32} (h : Masks p q on up' lo off e) (A V : Mat) (app aqq apq : One)
    (S S' : Sym ℝ) (hS : At b n A V S) (hpp : app (ix4 b n 0 0) = A (ix4 b n p p)) (hqq : aqq (ix4 b n 0 0) = A (ix4 b n q q))
    (hpq : apq (ix4 b n 0 0) = A (ix4 b n p q))
    (hS' : stepA p q (hCos p q (up S.M)) (hSin p q (up S.M)) (up S.M) = up S'.M ∧
      stepV p q (hCos p q (up S.M)) (hSin p q (up S.M)) (up S.W) = up S'.W) :
    At b n (rotA off A (matOf on up' lo e app aqq apq))
      (rotV V (matOf on up' lo e app aqq apq)) S' := by
  rw [hS.1] at hpp hqq hpq
  have ht := (tan_at b n app aqq apq).trans (by rw [hpp, hqq, hpq])
  have hc : cosO app aqq apq (ix4 b n 0 0) = hCos p q (up S.M) := (cos_at b n _).trans (by rw [ht]; rfl)
  have hs : sinO app aqq apq (ix4 b n 0 0) = hSin p q (up S.M) := by
    show tanA _ _ (ix4 b n 0 0) * cosO app aqq apq (ix4 b n 0 0) = _
    rw [ht, hc]; rfl
  have hK : ∀ i j, matOf on up' lo e app aqq apq (ix4 b n i j) = _ := mat_at b n h (cosO app aqq apq) (sinO app aqq apq)
  rw [hc, hs] at hK
  exact ⟨fun i j => by rw [rotA_at b n h A _ _ _ _ hS.1 hK, hS'.1], fun i j => by rw [rotV_at b n V _ _ _ _ hS.2 hK, hS'.2]⟩

/-- The matrix of the rotation in the plane `(0, 1)` of a printed matrix, and that rotation. -/
def mat01 (on up lo : IVec S3x3 1) (e : Fin 9 → BitVec 32) (A : Mat) : Mat :=
  matOf on up lo e (extractStridedSlice S4x2048x1x1 ![0, 0, 0, 0] A slices_S4x2048x3x3_S4x2048x1x1_0_0_0_0)
    (extractStridedSlice S4x2048x1x1 ![0, 0, 1, 1] A slices_S4x2048x3x3_S4x2048x1x1_0_0_1_1)
    (extractStridedSlice S4x2048x1x1 ![0, 0, 0, 1] A slices_S4x2048x3x3_S4x2048x1x1_0_0_0_1)
theorem step01 (on up' lo off : Fin 9 → BitVec 1) (e : Fin 9 → BitVec 32)
    (h : Masks 0 1 (lay on) (lay up') (lay lo) (lay off) e) {A V : Mat} {S : Sym ℝ}
    (hS : At b n A V S) : At b n (rotA (lay off) A (mat01 (lay on) (lay up') (lay lo) e A))
      (rotV V (mat01 (lay on) (lay up') (lay lo) e A)) (r01 S) :=
  step b n h A V _ _ _ S (r01 S) hS (by pointwise) (by pointwise) (by pointwise) (ref01 S)

/-- The matrix of the rotation in the plane `(0, 2)` of a printed matrix, and that rotation. -/
def mat02 (on up lo : IVec S3x3 1) (e : Fin 9 → BitVec 32) (A : Mat) : Mat :=
  matOf on up lo e (extractStridedSlice S4x2048x1x1 ![0, 0, 0, 0] A slices_S4x2048x3x3_S4x2048x1x1_0_0_0_0)
    (extractStridedSlice S4x2048x1x1 ![0, 0, 2, 2] A slices_S4x2048x3x3_S4x2048x1x1_0_0_2_2)
    (extractStridedSlice S4x2048x1x1 ![0, 0, 0, 2] A slices_S4x2048x3x3_S4x2048x1x1_0_0_0_2)
theorem step02 (on up' lo off : Fin 9 → BitVec 1) (e : Fin 9 → BitVec 32)
    (h : Masks 0 2 (lay on) (lay up') (lay lo) (lay off) e) {A V : Mat} {S : Sym ℝ}
    (hS : At b n A V S) : At b n (rotA (lay off) A (mat02 (lay on) (lay up') (lay lo) e A))
      (rotV V (mat02 (lay on) (lay up') (lay lo) e A)) (r02 S) :=
  step b n h A V _ _ _ S (r02 S) hS (by pointwise) (by pointwise) (by pointwise) (ref02 S)

/-- The matrix of the rotation in the plane `(1, 2)` of a printed matrix, and that rotation. -/
def mat12 (on up lo : IVec S3x3 1) (e : Fin 9 → BitVec 32) (A : Mat) : Mat :=
  matOf on up lo e (extractStridedSlice S4x2048x1x1 ![0, 0, 1, 1] A slices_S4x2048x3x3_S4x2048x1x1_0_0_1_1)
    (extractStridedSlice S4x2048x1x1 ![0, 0, 2, 2] A slices_S4x2048x3x3_S4x2048x1x1_0_0_2_2)
    (extractStridedSlice S4x2048x1x1 ![0, 0, 1, 2] A slices_S4x2048x3x3_S4x2048x1x1_0_0_1_2)
theorem step12 (on up' lo off : Fin 9 → BitVec 1) (e : Fin 9 → BitVec 32)
    (h : Masks 1 2 (lay on) (lay up') (lay lo) (lay off) e) {A V : Mat} {S : Sym ℝ}
    (hS : At b n A V S) : At b n (rotA (lay off) A (mat12 (lay on) (lay up') (lay lo) e A))
      (rotV V (mat12 (lay on) (lay up') (lay lo) e A)) (r12 S) :=
  step b n h A V _ _ _ S (r12 S) hS (by pointwise) (by pointwise) (by pointwise) (ref12 S)

end Cert.ReferenceIdeal.Value
-- ==== Proof.RSweep.lean ====
/- Five sweeps of the reference: the rotated covariance and the accumulated rotation are those of the real sweeps. -/
module

public import proofs.«01_k».proof.Proof.RRot
public import proofs.«01_k».proof.Proof.Spec
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Jacobi

variable (V0 : Valuation τ sig (Elt Ideal)) (b : Fin 4) (n : Fin 2048)

/-- The identity at every point, as the reference makes it. -/
def eyeM : Mat := broadcastInDim S4x2048x3x3 ![2, 3] bcast_S3x3_S4x2048x3x3_2_3
  (uitofp .f32 (cmpi .eq (addi (iotaInDim S3x3 32 0) (broadcastInDim S3x3 ![] bcast_S_S3x3 (constantI S_ 32 0#32))) (iotaInDim S3x3 32 1)))

/-- The covariance after the last rotation. -/
def lastA : Mat := rotA (lay lit74) (res_main_v215 V0) (res_main_v224 V0)

/-- Fifteen rotations of the covariance and of the identity are five real sweeps. -/
theorem sweeps_at {S : Sym ℝ} (h : At b n (res_main_v36 V0) eyeM S) : At b n (lastA V0) (res_main_v228 V0) (Cert.Knn.sweeps S) := by
  have h : At b n (res_main_v59 V0) (rotV _ (res_main_v56 V0)) _ := step01 b n lit3 lit2 lit0 lit4 lit1 (by decide) h
  have h : At b n (res_main_v71 V0) (rotV _ (res_main_v68 V0)) _ := step02 b n lit8 lit7 lit5 lit9 lit6 (by decide) h
  have h : At b n (res_main_v83 V0) (rotV _ (res_main_v80 V0)) _ := step12 b n lit13 lit12 lit10 lit14 lit11 (by decide) h
  have h : At b n (res_main_v95 V0) (rotV _ (res_main_v92 V0)) _ := step01 b n lit18 lit17 lit15 lit19 lit16 (by decide) h
  have h : At b n (res_main_v107 V0) (rotV _ (res_main_v104 V0)) _ := step02 b n lit23 lit22 lit20 lit24 lit21 (by decide) h
  have h : At b n (res_main_v119 V0) (rotV _ (res_main_v116 V0)) _ := step12 b n lit28 lit27 lit25 lit29 lit26 (by decide) h
  have h : At b n (res_main_v131 V0) (rotV _ (res_main_v128 V0)) _ := step01 b n lit33 lit32 lit30 lit34 lit31 (by decide) h
  have h : At b n (res_main_v143 V0) (rotV _ (res_main_v140 V0)) _ := step02 b n lit38 lit37 lit35 lit39 lit36 (by decide) h
  have h : At b n (res_main_v155 V0) (rotV _ (res_main_v152 V0)) _ := step12 b n lit43 lit42 lit40 lit44 lit41 (by decide) h
  have h : At b n (res_main_v167 V0) (rotV _ (res_main_v164 V0)) _ := step01 b n lit48 lit47 lit45 lit49 lit46 (by decide) h
  have h : At b n (res_main_v179 V0) (rotV _ (res_main_v176 V0)) _ := step02 b n lit53 lit52 lit50 lit54 lit51 (by decide) h
  have h : At b n (res_main_v191 V0) (rotV _ (res_main_v188 V0)) _ := step12 b n lit58 lit57 lit55 lit59 lit56 (by decide) h
  have h : At b n (res_main_v203 V0) (rotV _ (res_main_v200 V0)) _ := step01 b n lit63 lit62 lit60 lit64 lit61 (by decide) h
  have h : At b n (res_main_v215 V0) (rotV _ (res_main_v212 V0)) _ := step02 b n lit68 lit67 lit65 lit69 lit66 (by decide) h
  have h : At b n (lastA V0) (rotV _ (res_main_v224 V0)) _ := step12 b n lit73 lit72 lit70 lit74 lit71 (by decide) h
  exact h

end Cert.ReferenceIdeal.Value
-- ==== Proof.REig.lean ====
/- The reference's eigenvalues and normal, read at a point. -/
module

public import proofs.«01_k».proof.Proof.RSweep
public import Idealize.ShloMosaic.Lib.SortFacts

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Jacobi

/-- The positions a stable sort of three entries lists, by the three comparisons it makes. -/
theorem sort_three (R : Fin 3 → Fin 3 → Bool) : sortPositions 3 R =
    if R 2 1 then (if R 2 0 then (if R 1 0 then [2, 1, 0] else [2, 0, 1]) else [0, 2, 1])
    else (if R 1 0 then (if R 2 0 then [1, 2, 0] else [1, 0, 2]) else [0, 1, 2]) := by
  have h : List.finRange 3 = [0, 1, 2] := by decide
  rw [sortPositions, h]
  simp only [stableSort, insertBefore]
  rcases Bool.eq_false_or_eq_true (R 2 1) with p | p <;> rcases Bool.eq_false_or_eq_true (R 2 0) with q | q <;>
    rcases Bool.eq_false_or_eq_true (R 1 0) with r | r <;> simp [insertBefore, p, q, r]

/-- The entry of a rank is the one listed there. -/
theorem sorted_get {n : Nat} (R : Fin n → Fin n → Bool) (k : Fin n) (l : List (Fin n)) (h : sortPositions n R = l) :
    l[k.val]? = some (sortedFrom R k) := by
  subst h
  rw [sortedFrom, List.get_eq_getElem, List.getElem?_eq_getElem (by rw [length_sortPositions]; exact k.isLt)]
  rfl

/-- The order of the diagonal. -/
def rank (S : Sym ℝ) : Fin 3 → Fin 3 := sortedFrom fun k k' => decide (S.M k k < S.M k' k')

theorem rank_spec (S : Sym ℝ) : S.M (rank S 0) (rank S 0) = Knn.low S ∧ S.M (rank S 1) (rank S 1) = Knn.mid S ∧
    S.M (rank S 2) (rank S 2) = Knn.high S ∧ rank S 0 = Knn.least S := by
  have h := fun k l hl => sorted_get (fun k k' => decide (S.M k k < S.M k' k')) k l hl
  have h3 := sort_three fun k k' => decide (S.M k k < S.M k' k')
  have h0 := h 0 _ h3
  have h1 := h 1 _ h3
  have h2 := h 2 _ h3
  have e0 : S.M 0 0 = S.a00 := rfl
  have e1 : S.M 1 1 = S.a11 := rfl
  have e2 : S.M 2 2 = S.a22 := rfl
  rw [e0, e1, e2] at h0 h1 h2
  unfold rank Knn.mid Knn.low Knn.high Knn.least
  rcases lt_or_ge S.a22 S.a11 with p | p <;> rcases lt_or_ge S.a22 S.a00 with q | q <;> rcases lt_or_ge S.a11 S.a00 with r | r <;>
    simp [p, q, r, not_lt.mpr, not_lt, not_le.mpr] at h0 h1 h2 <;>
    rw [← h0, ← h1, ← h2] <;> simp only [e0, e1, e2] <;> refine ⟨?_, ?_, ?_, ?_⟩ <;> (try simp only [min_def, max_def]) <;> split_ifs <;>
    first | rfl | linarith | grind

/-- The comparator compares the keys. -/
theorem cmp_eq (l r : Ideal .f32 × Ideal .f32 × Ideal .f32 × Ideal .f32) : comparator_f32_f32_f32_f32_d2 l r = BitVec.ofBool (decide ((l.1 : EReal) < r.1)) := by
  have hz : ∀ x : EReal, Scalar.select (Ideal.cmp .une x x) (Ideal.ofBits .f32 0x7FC00000#32) (Scalar.select (Ideal.cmp .oeq x (Ideal.ofBits .f32 0x00000000#32)) (Ideal.ofBits .f32 0x00000000#32) x) = x := by
    intro x
    rw [Ideal.ofBits_zero_f32]
    generalize Ideal.ofBits .f32 0x7FC00000#32 = w
    have h1 : Ideal.cmp .une x x = 0#1 := congrArg BitVec.ofBool (decide_eq_false (not_not.mpr rfl))
    have h2 : Ideal.cmp .oeq x 0 = BitVec.ofBool (decide (x = 0)) := rfl
    rw [h1, h2, select_ofBool]
    show (if x = 0 then 0 else x) = x
    split_ifs with h
    · exact h.symm
    · rfl
  show Ideal.cmp .olt _ _ = _
  rw [show (BitVec.ofBool (decide ((l.1 : EReal) < r.1))) = Ideal.cmp .olt l.1 r.1 from by simp [Ideal.cmp]]
  exact congrArg₂ _ (hz l.1) (hz r.1)

variable (V0 : Valuation τ sig (Elt Ideal)) (b : Fin 4) (n : Fin 2048)

/-- The diagonal of the rotated covariance. -/
theorem diag_at {S : Sym ℝ} (h : At b n (lastA V0) (res_main_v228 V0) S) (i : Fin 3) : res_main_v235 V0 (ix3 b n i) = up S.M i i := by
  have e : res_main_v235 V0 = Host.reduceAdd (select (mask (cmpi .eq (addi (iotaInDim S3x3 32 0) (broadcastInDim S3x3 ![] bcast_S_S3x3 (constantI S_ 32 0#32))) (iotaInDim S3x3 32 1)))
    (lastA V0) (broadcastInDim S4x2048x3x3 ![] bcast_S_S4x2048x3x3 (id (constant S_ .f32 0x00000000#32)))) (constant S_ .f32 0x00000000#32) reducesTo_S4x2048x3x3_S4x2048x3_d3 h_S_ := rfl
  rw [e]
  pointwise [mask]
  rw [Fin.sum_univ_three, h.1, h.1, h.1, show id (constant S_ .f32 0#32 : FVec Ideal S_ .f32) ix0 = 0 from Ideal.ofBits_zero_f32]
  fin_cases i <;> simp [Scalar.select, IntOp.cmpi, IntOp.addi]

/-- The rows of the accumulated rotation. -/
theorem rows_at {S : Sym ℝ} (h : At b n (lastA V0) (res_main_v228 V0) S) (i : Fin 3) : res_main_v237 V0 (ix3 b n i) = up S.W 0 i ∧
    res_main_v239 V0 (ix3 b n i) = up S.W 1 i ∧ res_main_v241 V0 (ix3 b n i) = up S.W 2 i := by
  refine ⟨?_, ?_, ?_⟩
  · rw [← h.2]; pointwise [res_main_v237]
  · rw [← h.2]; pointwise [res_main_v239]
  · rw [← h.2]; pointwise [res_main_v241]

/-- The sorted eigenvalues and the sorted eigenvectors. -/
theorem sorted_at {S : Sym ℝ} (h : At b n (lastA V0) (res_main_v228 V0) S) (k : Fin 3) :
    (Host.sort4 S4x2048x3 2 comparator_f32_f32_f32_f32_d2 (res_main_v235 V0) (res_main_v237 V0) (res_main_v239 V0) (res_main_v241 V0)).1 (ix3 b n k)
      = up S.M (rank S k) (rank S k) ∧
    (Host.sort4 S4x2048x3 2 comparator_f32_f32_f32_f32_d2 (res_main_v235 V0) (res_main_v237 V0) (res_main_v239 V0) (res_main_v241 V0)).2.1 (ix3 b n k)
      = up S.W 0 (rank S k) ∧
    (Host.sort4 S4x2048x3 2 comparator_f32_f32_f32_f32_d2 (res_main_v235 V0) (res_main_v237 V0) (res_main_v239 V0) (res_main_v241 V0)).2.2.1 (ix3 b n k)
      = up S.W 1 (rank S k) ∧
    (Host.sort4 S4x2048x3 2 comparator_f32_f32_f32_f32_d2 (res_main_v235 V0) (res_main_v237 V0) (res_main_v239 V0) (res_main_v241 V0)).2.2.2 (ix3 b n k)
      = up S.W 2 (rank S k) := by
  have hd : (2 : Nat) < S4x2048x3.rank := by decide
  have hr : sortedFrom (fun q q' : Fin 3 => comparator_f32_f32_f32_f32_d2
      (res_main_v235 V0 (ix3 b n q), res_main_v237 V0 (ix3 b n q), res_main_v239 V0 (ix3 b n q), res_main_v241 V0 (ix3 b n q))
      (res_main_v235 V0 (ix3 b n q'), res_main_v237 V0 (ix3 b n q'), res_main_v239 V0 (ix3 b n q'), res_main_v241 V0 (ix3 b n q')) == 1#1)
      = rank S := by
    unfold rank
    congr 1
    funext q q'
    rw [cmp_eq]
    show (BitVec.ofBool (@decide (@LT.lt EReal _ (res_main_v235 V0 (ix3 b n q)) (res_main_v235 V0 (ix3 b n q'))) _) == 1#1) = _
    rw [diag_at V0 b n h, diag_at V0 b n h]
    by_cases hh : S.M q q < S.M q' q' <;> simp [up, hh]
  have e : (fun q : Fin 3 => Shape.Idx.along (s := S4x2048x3) (ix3 b n k) ⟨2, hd⟩ q) = fun q : Fin 3 => ix3 b n q := funext fun q => by
    funext d; fin_cases d <;> rfl
  have key : ∀ (g : Fin 3 → S4x2048x3.Idx) (_ : g = fun q => ix3 b n q) (X : S4x2048x3.Idx → Ideal .f32), X (g (sortedFrom (fun q q' : Fin 3 =>
      comparator_f32_f32_f32_f32_d2 (res_main_v235 V0 (g q), res_main_v237 V0 (g q), res_main_v239 V0 (g q), res_main_v241 V0 (g q))
      (res_main_v235 V0 (g q'), res_main_v237 V0 (g q'), res_main_v239 V0 (g q'), res_main_v241 V0 (g q')) == 1#1) k)) = X (ix3 b n (rank S k)) := by
    rintro g rfl X
    exact congrArg (fun f => X (ix3 b n (f k))) hr
  unfold Host.sort4
  simp only [hd, ↓reduceDIte]
  exact ⟨(key _ e _).trans (diag_at V0 b n h _), (key _ e _).trans (rows_at V0 b n h _).1, (key _ e _).trans (rows_at V0 b n h _).2.1,
    (key _ e _).trans (rows_at V0 b n h _).2.2⟩

/-- The first eigenvector. -/
theorem vec_at {S : Sym ℝ} (h : At b n (lastA V0) (res_main_v228 V0) S) (c : Fin 3) : res_main_v248 V0 (ix3 b n c) = (Knn.ev S c : EReal) := by
  unfold res_main_v248 Knn.ev
  rw [← (rank_spec S).2.2.2]
  have hs := sorted_at V0 b n h 0
  fin_cases c
  · pointwise; exact hs.2.1
  · pointwise; exact hs.2.2.1
  · pointwise; exact hs.2.2.2

/-- The sorted eigenvalues. -/
theorem vals_at {S : Sym ℝ} (h : At b n (lastA V0) (res_main_v228 V0) S) (k : Fin 3) :
    res_main_v242_0 V0 (ix3 b n k) = ((![Knn.low S, Knn.mid S, Knn.high S] k : ℝ) : EReal) := by
  rw [res_main_v242_0, (sorted_at V0 b n h k).1]
  fin_cases k
  · exact congrArg _ (rank_spec S).1
  · exact congrArg _ (rank_spec S).2.1
  · exact congrArg _ (rank_spec S).2.2.1

end Cert.ReferenceIdeal.Value
-- ==== Proof.RGeo.lean ====
/- The reference's neighbourhoods, read at a point: the sixteen differences, their covariance, and the offset from the cloud's centre. -/
module

public import proofs.«01_k».proof.Proof.RPre
public import proofs.«01_k».proof.Proof.REig

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Jacobi Cert.Rank Cert.Knn Cert.Nearest
open Cert.KernelIdeal.Value (coe_sum points_many D_nb dd_nonneg)

/-- The gather of a point's neighbours, read at a point. -/
theorem gather_at {α : Type} (A : S4x2048x3.Idx → α) (I : IVec S4x2048x16x1 32) (b : Fin 4) (n : Fin 2048) (k : Fin 16) (c : Fin 3) :
    Host.gather gather_S4x2048x3_S4x2048x16x1_S4x2048x16x3_3_1_0_0_1_3_113 A I (ix4 b n k c)
      = A (ix3 b ⟨min (I (ix4 b n k 0)).toInt.toNat 2047, by omega⟩ c) := by
  unfold Host.gather
  refine congrArg A (funext fun a => Fin.ext ?_)
  let d := gather_S4x2048x3_S4x2048x16x1_S4x2048x16x3_3_1_0_0_1_3_113
  show d.start (ix4 b n k c) I a + d.batchCoord (ix4 b n k c) a + d.offCoord (ix4 b n k c) a = _
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [d, gather_S4x2048x3_S4x2048x16x1_S4x2048x16x3_3_1_0_0_1_3_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix4 b n k c) ⟨List.idxOf (1 : Fin 3) d.startIndexMap, List.idxOf_lt_length_iff.2 (List.mem_singleton.mpr rfl)⟩ = ix4 b n k 0 := by
      funext e; refine Fin.ext ?_
      match e with
      | ⟨0, _⟩ => rfl
      | ⟨1, _⟩ => rfl
      | ⟨2, _⟩ => rfl
      | ⟨3, _⟩ => rfl
    rw [hsi]
    rfl
  · rw [GatherDims.batchCoord_eq_zero _ _ _ (fun h => by simp [d, gather_S4x2048x3_S4x2048x16x1_S4x2048x16x3_3_1_0_0_1_3_113] at h)]
    unfold GatherDims.start GatherDims.offCoord
    rw [dif_neg (by decide), dif_pos (by decide)]
    simp only [Nat.zero_add]
    rfl

/-- A point's number as a signed word. -/
theorem place_word (j : Fin 2048) : IntOp.cmpi .slt (BitVec.ofNat 32 j.val) 0#32 = 0#1 ∧ min (BitVec.ofNat 32 j.val).toInt.toNat 2047 = j.val := by
  have hj := j.isLt
  have h : (BitVec.ofNat 32 j.val).toInt = j.val := by
    rw [BitVec.toInt_eq_toNat_of_lt (by rw [BitVec.toNat_ofNat]; omega), BitVec.toNat_ofNat, Nat.mod_eq_of_lt (by omega)]
  refine ⟨?_, by rw [h]; omega⟩
  show BitVec.ofBool (BitVec.slt _ _) = _
  rw [BitVec.slt, h, decide_eq_false (by rw [BitVec.toInt_zero]; omega)]
  rfl

variable (V0 : Valuation τ sig (Elt Ideal)) (b : Fin 4) (n : Fin 2048)

/-- The covariance is symmetric. -/
theorem cov_symm (x : Pts) (n : Fin 2048) (nb : Fin 16 → Fin 2048) (i j : Fin 3) : cov x n nb i j = cov x n nb j i := by
  unfold cov
  congr 1
  exact Finset.sum_congr rfl fun k _ => mul_comm _ _

/-- The coordinates, the neighbours. -/
abbrev coords : FVec Ideal S4x2048x3 .f32 := V0 (Proc.devRef .tc main_arg0)
abbrev nbr (k : Fin 16) : Fin 2048 := firstOf points_many (order (negDist (coords V0)) b n) k

theorem index_at (k : Fin 16) : res_main_indices V0 (ix3 b n k) = BitVec.ofNat 32 (nbr V0 b n k).val :=
  (topK_at (K := 16) (by decide) (negDist (coords V0)) sliceFits_S4x2048x2048_S4x2048x16 b n k).2

/-- The neighbours' numbers, as the gather takes them. -/
def places : IVec S4x2048x16x1 32 := broadcastInDim S4x2048x16x1 ![0, 1, 2] bcast_S4x2048x16_S4x2048x16x1_0_1_2
  (select (cmpi .slt (res_main_indices V0) (broadcastInDim S4x2048x16 ![] bcast_S_S4x2048x16 (constantI S_ 32 0#32)))
    (addi (res_main_indices V0) (broadcastInDim S4x2048x16 ![] bcast_S_S4x2048x16 (constantI S_ 32 2048#32))) (res_main_indices V0))

theorem places_at (k : Fin 16) : places V0 (ix4 b n k 0) = BitVec.ofNat 32 (nbr V0 b n k).val := by
  pointwise [places]
  rw [index_at, (place_word _).1]
  rfl

/-- The differences. -/
theorem diff_at (x : Pts) (hx : ∀ j k, coords V0 (ix3 b j k) = (x j k : EReal)) (k : Fin 16) (c : Fin 3) :
    res_main_v33 V0 (ix4 b n k c) = ((x (nbr V0 b n k) c - x n c : ℝ) : EReal) := by
  have e : res_main_v33 V0 = subf (Host.gather gather_S4x2048x3_S4x2048x16x1_S4x2048x16x3_3_1_0_0_1_3_113 (coords V0) (places V0))
    (broadcastInDim S4x2048x16x3 ![0, 1, 2, 3] bcast_S4x2048x1x3_S4x2048x16x3_0_1_2_3
      (broadcastInDim S4x2048x1x3 ![0, 1, 3] bcast_S4x2048x3_S4x2048x1x3_0_1_3 (coords V0))) := rfl
  rw [e]
  pointwise
  have hp : (⟨min (places V0 (ix4 b n k 0)).toInt.toNat 2047, by omega⟩ : Fin 2048) = nbr V0 b n k := Fin.ext (by
    show min (places V0 (ix4 b n k 0)).toInt.toNat 2047 = _
    rw [places_at, (place_word _).2])
  rw [gather_at, hp, hx, hx, EReal.coe_sub]

/-- The covariance, and the identity. -/
theorem cov_at (x : Pts) (hx : ∀ j k, coords V0 (ix3 b j k) = (x j k : EReal)) : At b n (res_main_v36 V0) eyeM (S0 x n (nbr V0 b n)) := by
  refine ⟨fun i j => ?_, fun i j => ?_⟩
  · have hc : res_main_v36 V0 (ix4 b n i j) = (cov x n (nbr V0 b n) i j : EReal) := by
      pointwise [res_main_v36]
      simp only [diff_at V0 b n x hx]
      rw [ofBits_sixteen]
      simp only [← EReal.coe_mul, ← coe_sum]
      rw [Ideal.div_coe (by norm_num), ← EReal.coe_mul]; rfl
    rw [hc]
    fin_cases i <;> fin_cases j <;> first | rfl | (rw [cov_symm]; rfl)
  · pointwise [eyeM]
    fin_cases i <;> fin_cases j <;> simp [IntOp.cmpi, IntOp.addi, up, S0, Sym.W]
    all_goals first
      | exact (congrArg _ (Nat.cast_one)).trans EReal.coe_one
      | exact (congrArg _ (Nat.cast_zero)).trans EReal.coe_zero

/-- The offset from the cloud's centre. -/
theorem off_at (x : Pts) (hx : ∀ j k, coords V0 (ix3 b j k) = (x j k : EReal)) (c : Fin 3) :
    res_main_v254 V0 (ix3 b n c) = (off x n c : EReal) := by
  pointwise [res_main_v254]
  simp only [show ∀ j k, V0 (Proc.devRef .tc main_arg0) (ix3 b j k) = (x j k : EReal) from hx]
  rw [ofBits_2048, ← coe_sum, Ideal.div_coe (by norm_num), ← EReal.coe_mul, ← EReal.coe_sub]
  rfl

/-- The mean distance to the neighbours. -/
theorem radius_at (x : Pts) (hx : ∀ j k, coords V0 (ix3 b j k) = (x j k : EReal)) :
    Host.divf (broadcastInDim S4x2048x1 ![0, 1] bcast_S4x2048_S4x2048x1_0_1 (Host.reduceAdd (Host.sqrt (Host.reduceAdd (mulf (res_main_v33 V0) (res_main_v33 V0))
      (constant S_ .f32 0x00000000#32) reducesTo_S4x2048x16x3_S4x2048x16_d3 h_S_)) (constant S_ .f32 0x00000000#32) reducesTo_S4x2048x16_S4x2048_d2 h_S_))
      (broadcastInDim S4x2048x1 ![] bcast_S_S4x2048x1 (constant S_ .f32 0x41800000#32)) (ix3 b n 0) = (radius x n (nbr V0 b n) : EReal) := by
  pointwise
  simp only [diff_at V0 b n x hx, ← EReal.coe_mul, ← coe_sum]
  have h : ∀ k : Fin 16, Ideal.sqrt ((∑ c : Fin 3, (x (nbr V0 b n k) c - x n c) * (x (nbr V0 b n k) c - x n c) : ℝ) : EReal)
      = ((Real.sqrt (dd x n (nbr V0 b n k)) : ℝ) : EReal) := fun k => by
    exact (Ideal.sqrt_coe _).trans (if_neg (not_lt.mpr (dd_nonneg x n _)))
  simp only [h, ← coe_sum]
  rw [ofBits_sixteen, Ideal.div_coe (by norm_num), ← EReal.coe_mul]
  rfl

end Cert.ReferenceIdeal.Value
-- ==== Proof.ROut.lean ====
/- The reference's result, read at a point: the outward normal, the invariants, the perceptrons, and the sixteen components. -/
module

public import proofs.«01_k».proof.Proof.RGeo
public import proofs.«01_k».proof.Proof.KTail

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Jacobi Cert.Rank Cert.Knn Cert.Nearest
open Cert.KernelIdeal.Value (coe_sum points_many div_floor)

/-- The complementary form of the Gaussian linear unit is the error-function form. -/
theorem gelu_ref (y : EReal) : Ideal.ofBits .f32 0x3F000000#32 * y
    * Ideal.erfc (Ideal.div (-y) ((id (Host.sqrt (constant S_ .f32 0x40000000#32)) : FVec Ideal S_ .f32) ix0)) = gelu y := by
  have h2 : Real.sqrt 2 ≠ 0 := (Real.sqrt_pos.mpr (by norm_num)).ne'
  have e : (id (Host.sqrt (constant S_ .f32 0x40000000#32)) : FVec Ideal S_ .f32) ix0 = ((Real.sqrt 2 : ℝ) : EReal) := by
    show Ideal.sqrt (Ideal.ofBits .f32 0x40000000#32) = _
    rw [ofBits_two, Ideal.sqrt_coe, if_neg (by norm_num)]
  rw [e, Ideal.div_coe h2, one_div, EReal.neg_mul, Ideal.erfc_neg]
  rfl

/-- The sign, a zero counted as positive. -/
theorem sign_turn (s : ℝ) : (if Ideal.sign (s : EReal) = 0 then (1 : EReal) else Ideal.sign (s : EReal))
    = ((if 0 ≤ s then 1 else -1 : ℝ) : EReal) := by
  rw [Ideal.sign_coe]
  rcases lt_trichotomy s 0 with h | h | h
  · simp [sign_neg h, not_le.mpr h]
  · simp [h]
  · simp [sign_pos h, h.le]

variable (V0 : Valuation τ sig (Elt Ideal)) (b : Fin 4) (n : Fin 2048)

/-- The weights the reference takes. -/
def weights : Wts where
  i0 := fun k h => V0 (Proc.devRef .tc main_arg2) (ix2 k h)
  bi0 := fun h => V0 (Proc.devRef .tc main_arg3) (ix1 h)
  i1 := fun k h => V0 (Proc.devRef .tc main_arg4) (ix2 k h)
  bi1 := fun h => V0 (Proc.devRef .tc main_arg5) (ix1 h)
  f0 := fun k h => V0 (Proc.devRef .tc main_arg6) (ix2 k h)
  bf0 := fun h => V0 (Proc.devRef .tc main_arg7) (ix1 h)
  f1 := fun k h => V0 (Proc.devRef .tc main_arg8) (ix2 k h)
  bf1 := fun h => V0 (Proc.devRef .tc main_arg9) (ix1 h)
  s0 := fun k h => V0 (Proc.devRef .tc main_arg10) (ix2 k h)
  bs0 := fun h => V0 (Proc.devRef .tc main_arg11) (ix1 h)
  s1 := fun k h => V0 (Proc.devRef .tc main_arg12) (ix2 k h)
  bs1 := fun h => V0 (Proc.devRef .tc main_arg13) (ix1 h)
  g := fun k => V0 (Proc.devRef .tc main_arg14) (ix2 k 0)
  bg := V0 (Proc.devRef .tc main_arg15) (ix1 0)

section
variable (x : Pts) (hx : ∀ j k, coords V0 (ix3 b j k) = (x j k : EReal))
include hx

/-- The rotated covariance at a point. -/
theorem eig_at : At b n (lastA V0) (res_main_v228 V0) (sweeps (S0 x n (nbr V0 b n))) := sweeps_at V0 b n (cov_at V0 b n x hx)

/-- The eigenvector turned outward. -/
theorem turned_at (c : Fin 3) : res_main_v264 V0 (ix3 b n c)
    = ((ev (sweeps (S0 x n (nbr V0 b n))) c * turn (ev (sweeps (S0 x n (nbr V0 b n)))) (off x n) : ℝ) : EReal) := by
  have hs : res_main_v258 V0 (ix3 b n 0)
      = Ideal.sign ((∑ c, ev (sweeps (S0 x n (nbr V0 b n))) c * off x n c : ℝ) : EReal) := by
    pointwise [res_main_v258]
    simp only [vec_at V0 b n (eig_at V0 b n x hx), off_at V0 b n x hx, ← EReal.coe_mul, ← coe_sum]
  pointwise [res_main_v264]
  rw [hs, vec_at V0 b n (eig_at V0 b n x hx), EReal.coe_mul, turn]
  exact congrArg _ (sign_turn _)

/-- The unit normal. -/
theorem normal_at (c : Fin 3) : res_main_v269 V0 (ix3 b n c) = (normal (ev (sweeps (S0 x n (nbr V0 b n)))) (off x n) c : EReal) := by
  pointwise [res_main_v269]
  simp only [turned_at V0 b n x hx, ← EReal.coe_mul, ← coe_sum]
  rw [Ideal.sqrt_coe, if_neg (not_lt.mpr (Finset.sum_nonneg fun k _ => mul_self_nonneg _)), floor_coe.1,
    ← EReal.coe_strictMono.monotone.map_max, div_floor]
  rfl

/-- The first layer on the invariants. -/
theorem inv_at (h : Fin 64) : res_main_v281 V0 (ix3 b n h) = layer ((weights V0).i0 · h) ((weights V0).bi0 h)
    (fun k => (invs (sweeps (S0 x n (nbr V0 b n))) (radius x n (nbr V0 b n)) (off x n) k : EReal)) := by
  have hv := vals_at V0 b n (eig_at V0 b n x hx)
  have hr := radius_at V0 b n x hx
  rw [res_main_v281]
  generalize Host.divf (broadcastInDim S4x2048x1 ![0, 1] bcast_S4x2048_S4x2048x1_0_1 (Host.reduceAdd (Host.sqrt (Host.reduceAdd (mulf (res_main_v33 V0) (res_main_v33 V0))
      (constant S_ .f32 0x00000000#32) reducesTo_S4x2048x16x3_S4x2048x16_d3 h_S_)) (constant S_ .f32 0x00000000#32) reducesTo_S4x2048x16_S4x2048_d2 h_S_))
      (broadcastInDim S4x2048x1 ![] bcast_S_S4x2048x1 (constant S_ .f32 0x41800000#32)) = R at hr ⊢
  pointwise
  unfold layer
  congr 1
  refine Finset.sum_congr rfl fun k _ => ?_
  congr 1
  fin_cases k
  · exact hv 0
  · exact hv 1
  · exact hv 2
  · exact hr
  · change Ideal.sqrt (∑ c : Fin 3, @HMul.hMul EReal EReal EReal _ (res_main_v254 V0 (ix3 b n c)) (res_main_v254 V0 (ix3 b n c))) = _
    simp only [off_at V0 b n x hx, ← EReal.coe_mul, ← coe_sum]
    exact (Ideal.sqrt_coe _).trans (if_neg (not_lt.mpr (Finset.sum_nonneg fun k _ => mul_self_nonneg _)))
  · show Ideal.div (res_main_v242_0 V0 (ix3 b n 2)) (max (∑ c : Fin 3, res_main_v242_0 V0 (ix3 b n c)) (Ideal.ofBits .f32 0x358637BD#32)) = _
    simp only [hv, ← coe_sum]
    rw [floor_coe.1, ← EReal.coe_strictMono.monotone.map_max, div_floor, Fin.sum_univ_three]
    rfl
end

/-- The first layer on the features. -/
theorem feat_at (h : Fin 64) : res_main_v298 V0 (ix3 b n h) = layer ((weights V0).f0 · h) ((weights V0).bf0 h)
    (fun k => V0 (Proc.devRef .tc main_arg1) (ix3 b n k)) := by
  pointwise [res_main_v298]
  rfl

section
variable (x : Pts) (hx : ∀ j k, coords V0 (ix3 b j k) = (x j k : EReal))
include hx

/-- The shared perceptron's first layer. -/
theorem shared_at (h : Fin 64) : res_main_v316 V0 (ix3 b n h)
    = (∑ k : Fin 64, invH (weights V0) (fun k => (invs (sweeps (S0 x n (nbr V0 b n))) (radius x n (nbr V0 b n)) (off x n) k : EReal)) k * (weights V0).s0 ⟨k.val, by omega⟩ h)
      + (∑ k : Fin 64, featH (weights V0) (fun k => V0 (Proc.devRef .tc main_arg1) (ix3 b n k)) k * (weights V0).s0 ⟨64 + k.val, by omega⟩ h)
      + (weights V0).bs0 h := by
  pointwise [res_main_v316]
  simp only [gelu_ref, inv_at V0 b n x hx, feat_at]
  rfl

/-- The reference's result at a point. -/
theorem result_at (r : Fin 16) : val9 V0 (Proc.devRef .tc main_v354) (ix3 b n r)
    = out (weights V0) x (fun k => V0 (Proc.devRef .tc main_arg1) (ix3 b n k)) n (nbr V0 b n) r := by
  rw [val9_main_v354]
  have hn := normal_at V0 b n x hx
  have hs := shared_at V0 b n x hx
  fin_cases r
  · pointwise
    simp only [gelu_ref, hs]
    rfl
  · pointwise; exact hn 0
  · pointwise; exact hn 1
  · pointwise; rw [hn]; exact (EReal.coe_neg _).symm
  · pointwise
    simp only [show ∀ k, V0 (Proc.devRef .tc main_arg0) (ix3 b n k) = (x n k : EReal) from hx n, hn, ← EReal.coe_mul, ← coe_sum]
    exact (EReal.coe_neg _).symm
  · pointwise; exact hn 0
  · pointwise; exact hn 1
  · pointwise; exact hn 2
  · pointwise; rfl
  · pointwise; rfl
  · pointwise; rfl
  · pointwise; exact hx n 0
  · pointwise; exact hx n 1
  · pointwise; exact hx n 2
  · pointwise; rfl
  · pointwise; rfl
end

end Cert.ReferenceIdeal.Value
-- ==== Proof.lean ====
module

public import proofs.«01_k».proof.Defs
public import proofs.«01_k».proof.Proof.Gen.Kernel
public import proofs.«01_k».proof.Proof.Gen.Kernel.Frame
public import proofs.«01_k».proof.Proof.KArr
public import proofs.«01_k».proof.Proof.Gen.ReferenceIdeal.Run
public import proofs.«01_k».proof.Proof.ROut
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo
open Cert.ReferenceIdeal.Value (coords clouds real_of ranks_of nbr negDist result_at)
open Cert.Rank (order)

/-- The kernel as printed runs and leaves its arguments unchanged. -/
theorem frame_kernel : Cert.quiescent_Kernel (hKernel := Cert.Kernel.Gen.facts) := fun m ρ _ => Cert.Kernel.Gen.frame m ρ

/-- So does the kernel over the extended reals. -/
theorem frame_ideal : Cert.quiescent_KernelIdeal (hKernelIdeal := Cert.KernelIdeal.Gen.facts) := fun m ρ _ => Cert.KernelIdeal.Gen.frame m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The three named constants have the values they are named for. -/
theorem preserves : Cert.preserves_Kernel_KernelIdeal :=
  ⟨IdealRules.named_const.statement Cert.KernelIdeal.κ "far" .f32 0x7F61B1E6#32 ⊤ rfl,
    IdealRules.named_const.statement Cert.KernelIdeal.κ "near" .f32 0xFF61B1E6#32 ⊥ rfl,
    IdealRules.named_const.statement Cert.KernelIdeal.κ "rsqrt2" .f32 0x3F3504F3#32 (((Real.sqrt 2)⁻¹ : ℝ) : EReal) rfl⟩

/-- Where the distances from each point to its seventeen nearest points are pairwise different, the kernel's result is the reference's. -/
theorem algebraic : Cert.algebraic_KernelIdeal_ReferenceIdeal_pre_distinct (hKernelIdeal := Cert.KernelIdeal.Gen.facts)
    (hReferenceIdeal := Cert.ReferenceIdeal.Gen.facts) (hPre_distinct := Cert.ReferenceIdeal.Value.preFacts) := by
  intro m g m' g' hpre hagree
  refine ⟨_, Cert.KernelIdeal.Value.run (F := Ideal) m g, ?_⟩
  refine (θ_run Cert.ReferenceIdeal.defs _ _).mono (fun _ h c => ⟨(h c).1.trans ?_, (h c).2⟩)
    (Cert.ReferenceIdeal.Value.run (F := Ideal) m' g')
  have hd := Cert.ReferenceIdeal.Value.descends_pre _ _ _ _ _ _ _ _ _ _ _ _ _ _ _ _ (hpre c)
  obtain ⟨h0, h1, h2, h3, h4, h5, h6, h7, h8, h9, h10, h11, h12, h13, h14, h15⟩ := hagree c
  refine (Cert.ReferenceIdeal.Value.val9_main_v354 _).symm.trans ?_
  funext i
  obtain ⟨b, n, r, rfl⟩ : ∃ b n r, i = ix3 b n r := ⟨i 0, i 1, i 2, by funext d; fin_cases d <;> rfl⟩
  set V0 := launchContents m' c with hV
  set A := m ((c.tc : Thread Cert.KernelIdeal.nD Cert.KernelIdeal.τ).loc Cert.KernelIdeal.main_arg0)
  have hc : coords V0 = A := h0
  have hx : ∀ b j k, A (ix3 b j k) = (clouds A b j k : EReal) := fun b j k => real_of hd b j k
  have hW : Cert.ReferenceIdeal.Value.weights V0 = Cert.KernelIdeal.Value.weights m c :=
    Cert.Knn.Wts.ext (funext₂ fun k h => congrFun h2 _) (funext fun h => congrFun h3 _) (funext₂ fun k h => congrFun h4 _) (funext fun h => congrFun h5 _)
      (funext₂ fun k h => congrFun h6 _) (funext fun h => congrFun h7 _) (funext₂ fun k h => congrFun h8 _) (funext fun h => congrFun h9 _)
      (funext₂ fun k h => congrFun h10 _) (funext fun h => congrFun h11 _) (funext₂ fun k h => congrFun h12 _) (funext fun h => congrFun h13 _)
      (funext fun k => congrFun h14 _) (congrFun h15 _)
  have hn : nbr V0 b n = Cert.Nearest.firstOf Cert.KernelIdeal.Value.points_many (order (negDist A) b n) := by
    rw [← hc]
  refine (result_at V0 b n (clouds A b) (by rw [hc]; exact hx b) r).trans ?_
  rw [hW, hn]
  refine Eq.trans ?_ (Cert.KernelIdeal.Value.result_eq m c (clouds A) (order (negDist A)) hx (ranks_of hd) b n r).symm
  exact congrArg (fun f => Cert.Knn.out (Cert.KernelIdeal.Value.weights m c) (clouds A b) f n _ r) (funext fun k => congrFun h1 _)

/-- The whole claim. -/
theorem claim : Cert.Claim :=
  ⟨Cert.Kernel.Gen.facts, Cert.KernelIdeal.Gen.facts, Cert.ReferenceIdeal.Gen.facts, Cert.ReferenceIdeal.Value.preFacts, frame_kernel, frame_ideal,
    fun m ρ _ => frame_ideal m ρ trivial, frame_reference, fun m ρ _ => frame_reference m ρ trivial, preserves, algebraic⟩

end Cert.Proof

end
